-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v74) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v47)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v47) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v144) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v14)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v14) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v61) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v14)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v14) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v59) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v34) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v14) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v20) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S16x2048x2304 : Shape := ⟨3, ![16, 2048, 2304]⟩
abbrev S16x256x2304 : Shape := ⟨3, ![16, 256, 2304]⟩
abbrev S32 : Shape := ⟨1, ![32]⟩
abbrev S64 : Shape := ⟨1, ![64]⟩
abbrev S_ : Shape := ⟨0, ![]⟩

class Facts : Prop where
  bitsLt_bf16_f32 : FTy.bits .bf16 < FTy.bits .f32
  bcast_S_S16x2048x2304 : S_.BroadcastsInDim S16x2048x2304 (![] : Fin 0 → Fin S16x2048x2304.rank)
  reducesTo_S16x2048x2304_S_d0_1_2 : S16x2048x2304.ReducesTo [0, 1, 2] S_
  h_S_ : 0 < S_.numel
  bcast_S_S16x256x2304 : S_.BroadcastsInDim S16x256x2304 (![] : Fin 0 → Fin S16x256x2304.rank)
  reducesTo_S16x256x2304_S_d0_1_2 : S16x256x2304.ReducesTo [0, 1, 2] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_arg5 : FVec F S32 .f32) (main_v15 : IVec S_ 1) (main_v16 : FVec F S32 .f32) (main_cst_4 : FVec F S_ .f32) : IVec S_ 1 :=
  let main_v17 : FVec F S32 .f32 := broadcastInDim S32 ![] bcast_S_S32 main_cst_4
  let main_v18 : IVec S32 1 := cmpf .olt main_v16 main_v17
  let main_c_5 : IVec S_ 1 := constantI S_ 1 1#1
  let main_v19 : IVec S_ 1 := (fun x v => Host.reduce IntOp.andi x v reducesTo_S32_S_d0 h_S_) main_v18 main_c_5
  let main_v20 : IVec S_ 1 := andi main_v15 main_v19
  let main_v21 : FVec F S32 .f32 := Host.absf main_arg4
  let main_cst_6 : FVec F S_ .f32 := constant S_ .f32 0x7F800000#32
  let main_v22 : FVec F S32 .f32 := broadcastInDim S32 ![] bcast_S_S32 main_cst_6
  let main_v23 : IVec S32 1 := cmpf .olt main_v21 main_v22
  let main_c_7 : IVec S_ 1 := constantI S_ 1 1#1
  let main_v24 : IVec S_ 1 := (fun x v => Host.reduce IntOp.andi x v reducesTo_S32_S_d0 h_S_) main_v23 main_c_7
  let main_v25 : IVec S_ 1 := andi main_v20 main_v24
  let main_v26 : FVec F S32 .f32 := Host.absf main_arg5
  let main_cst_8 : FVec F S_ .f32 := constant S_ .f32 0x7F800000#32
  let main_v27 : FVec F S32 .f32 := broadcastInDim S32 ![] bcast_S_S32 main_cst_8
  let main_v28 : IVec S32 1 := cmpf .olt main_v26 main_v27
  let main_c_9 : IVec S_ 1 := constantI S_ 1 1#1
  let main_v29 : IVec S_ 1 := (fun x v => Host.reduce IntOp.andi x v reducesTo_S32_S_d0 h_S_) main_v28 main_c_9
  let main_v30 : IVec S_ 1 := andi main_v25 main_v29
  main_v30

def fn {F : FTy → Type} [FloatOps F] (main_arg0 : FVec F S16x2048x2304 .bf16) (main_arg1 : FVec F S16x256x2304 .bf16) (main_arg2 : FVec F S32 .f32) (main_arg3 : FVec F S32 .f32) (main_arg4 : FVec F S32 .f32) (main_arg5 : FVec F S32 .f32) (main_arg6 : FVec F S64 .f32) : IVec S_ 1 :=
  let main_v0 : FVec F S16x2048x2304 .f32 := (extf .f32 · bitsLt_bf16_f32) main_arg0
  let main_v1 : FVec F S16x2048x2304 .f32 := Host.absf main_v0
  let main_cst : FVec F S_ .f32 := constant S_ .f32 0x7F800000#32
  let main_v2 : FVec F S16x2048x2304 .f32 := broadcastInDim S16x2048x2304 ![] bcast_S_S16x2048x2304 main_cst
  let main_v3 : IVec S16x2048x2304 1 := cmpf .olt main_v1 main_v2
  let main_c : IVec S_ 1 := constantI S_ 1 1#1
  let main_v4 : IVec S_ 1 := (fun x v => Host.reduce IntOp.andi x v reducesTo_S16x2048x2304_S_d0_1_2 h_S_) main_v3 main_c
  let main_v5 : FVec F S16x256x2304 .f32 := (extf .f32 · bitsLt_bf16_f32) main_arg1
  let main_v6 : FVec F S16x256x2304 .f32 := Host.absf main_v5
  let main_cst_0 : FVec F S_ .f32 := constant S_ .f32 0x7F800000#32
  let main_v7 : FVec F S16x256x2304 .f32 := broadcastInDim S16x256x2304 ![] bcast_S_S16x256x2304 main_cst_0
  let main_v8 : IVec S16x256x2304 1 := cmpf .olt main_v6 main_v7
  let main_c_1 : IVec S_ 1 := constantI S_ 1 1#1
  let main_v9 : IVec S_ 1 := (fun x v => Host.reduce IntOp.andi x v reducesTo_S16x256x2304_S_d0_1_2 h_S_) main_v8 main_c_1
  let main_v10 : IVec S_ 1 := andi main_v4 main_v9
  let main_v11 : FVec F S32 .f32 := Host.absf main_arg2
  let main_cst_2 : FVec F S_ .f32 := constant S_ .f32 0x7F800000#32
  let main_v12 : FVec F S32 .f32 := broadcastInDim S32 ![] bcast_S_S32 main_cst_2
  let main_v13 : IVec S32 1 := cmpf .olt main_v11 main_v12
  let main_c_3 : IVec S_ 1 := constantI S_ 1 1#1
  let main_v14 : IVec S_ 1 := (fun x v => Host.reduce IntOp.andi x v reducesTo_S32_S_d0 h_S_) main_v13 main_c_3
  let main_v15 : IVec S_ 1 := andi main_v10 main_v14
  let main_v16 : FVec F S32 .f32 := Host.absf main_arg3
  let main_cst_4 : FVec F S_ .f32 := constant S_ .f32 0x7F800000#32
  fn_part1 (F := F) main_arg4 main_arg5 main_v15 main_v16 main_cst_4
-- ==== Kernel.lean ====
abbrev S16x2048x2304 : Shape := ⟨3, ![16, 2048, 2304]⟩
abbrev S16x256x2304 : Shape := ⟨3, ![16, 256, 2304]⟩
abbrev S32 : Shape := ⟨1, ![32]⟩
abbrev S64 : Shape := ⟨1, ![64]⟩
abbrev S256x256 : Shape := ⟨2, ![256, 256]⟩
abbrev S1x32 : Shape := ⟨2, ![1, 32]⟩
abbrev S4x32 : Shape := ⟨2, ![4, 32]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S16x2048x256 : Shape := ⟨3, ![16, 2048, 256]⟩
abbrev S1x256x256 : Shape := ⟨3, ![1, 256, 256]⟩
abbrev S1x2048x256 : Shape := ⟨3, ![1, 2048, 256]⟩
abbrev S2048x256 : Shape := ⟨2, ![2048, 256]⟩
abbrev S2304x256 : Shape := ⟨2, ![2304, 256]⟩
abbrev S1 : Shape := ⟨1, ![1]⟩
abbrev S1x1 : Shape := ⟨2, ![1, 1]⟩
abbrev S256x2304 : Shape := ⟨2, ![256, 2304]⟩
abbrev S256x1 : Shape := ⟨2, ![256, 1]⟩

abbrev nBuf : Space → Nat
  | .hbm => 19
  | .vmem => 15
  | .smem => 0
  | _ => 0

abbrev bufTy : (tb : Table) → Fin (tcTables nBuf tb) → BufTy
  | .hbm, ⟨0, _⟩ => ⟨S16x2048x2304, .bf16⟩
  | .hbm, ⟨1, _⟩ => ⟨S16x256x2304, .bf16⟩
  | .hbm, ⟨2, _⟩ => ⟨S32, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S64, .f32⟩
  | .hbm, ⟨7, _⟩ => ⟨S256x256, .f32⟩
  | .hbm, ⟨8, _⟩ => ⟨S256x256, .bf16⟩
  | .hbm, ⟨9, _⟩ => ⟨S1x32, .f32⟩
  | .hbm, ⟨10, _⟩ => ⟨S1x32, .f32⟩
  | .hbm, ⟨11, _⟩ => ⟨S1x32, .f32⟩
  | .hbm, ⟨12, _⟩ => ⟨S1x32, .f32⟩
  | .hbm, ⟨13, _⟩ => ⟨S4x32, .f32⟩
  | .hbm, ⟨14, _⟩ => ⟨S1x64, .f32⟩
  | .hbm, ⟨15, _⟩ => ⟨S4x64, .f32⟩
  | .hbm, ⟨16, _⟩ => ⟨S256, .f32⟩
  | .hbm, ⟨17, _⟩ => ⟨S1x256, .f32⟩
  | .hbm, ⟨18, _⟩ => ⟨S16x2048x256, .bf16⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x2048x256, .bf16⟩
  | .local _ .vmem, ⟨7, _⟩ => ⟨S1x2048x256, .bf16⟩
  | .local _ .vmem, ⟨8, _⟩ => ⟨S1x2048x256, .bf16⟩
  | .local _ .vmem, ⟨9, _⟩ => ⟨S1x2048x256, .bf16⟩
  | .local _ .vmem, ⟨10, _⟩ => ⟨S4x32, .f32⟩
  | .local _ .vmem, ⟨11, _⟩ => ⟨S1x256, .f32⟩
  | .local _ .vmem, ⟨12, _⟩ => ⟨S256x256, .bf16⟩
  | .local _ .vmem, ⟨13, _⟩ => ⟨S1x256x256, .bf16⟩
  | .local _ .vmem, ⟨14, _⟩ => ⟨S1x256x256, .bf16⟩
  | _, _ => ⟨S16x2048x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c7_i32 : BitVec 32 := 7#32
  let c0_i32_0 : BitVec 32 := 0#32
  ![arg0.toNat, c0_i32.toNat, c7_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c8_i32 : BitVec 32 := 8#32
  let c0_i32_0 : BitVec 32 := 0#32
  ![arg0.toNat, c0_i32.toNat, c8_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c7_i32 : BitVec 32 := 7#32
  let c0_i32_0 : BitVec 32 := 0#32
  ![arg0.toNat, c0_i32.toNat, c7_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c8_i32 : BitVec 32 := 8#32
  let c0_i32_0 : BitVec 32 := 0#32
  ![arg0.toNat, c0_i32.toNat, c8_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S16x2048x2304 : Shape := ⟨3, ![16, 2048, 2304]⟩
abbrev S16x256x2304 : Shape := ⟨3, ![16, 256, 2304]⟩
abbrev S32 : Shape := ⟨1, ![32]⟩
abbrev S64 : Shape := ⟨1, ![64]⟩
abbrev S_ : Shape := ⟨0, ![]⟩
abbrev S16x2048x256 : Shape := ⟨3, ![16, 2048, 256]⟩
abbrev S16x2048x4x2x32 : Shape := ⟨5, ![16, 2048, 4, 2, 32]⟩
abbrev S16x2048x4x64 : Shape := ⟨4, ![16, 2048, 4, 64]⟩
abbrev S16x256x256 : Shape := ⟨3, ![16, 256, 256]⟩
abbrev S16x256x4x2x32 : Shape := ⟨5, ![16, 256, 4, 2, 32]⟩
abbrev S16x256x4x64 : Shape := ⟨4, ![16, 256, 4, 64]⟩
abbrev S16x2304x4x2x32 : Shape := ⟨5, ![16, 2304, 4, 2, 32]⟩
abbrev S16x2304x4x64 : Shape := ⟨4, ![16, 2304, 4, 64]⟩
abbrev S16x4x2x2048x2304 : Shape := ⟨5, ![16, 4, 2, 2048, 2304]⟩
abbrev S16x4x2x2048 : Shape := ⟨4, ![16, 4, 2, 2048]⟩
abbrev S16x4x2x2048x1 : Shape := ⟨5, ![16, 4, 2, 2048, 1]⟩
abbrev S16x4x1x2048x2304 : Shape := ⟨5, ![16, 4, 1, 2048, 2304]⟩
abbrev S16x4x2048x2304 : Shape := ⟨4, ![16, 4, 2048, 2304]⟩
abbrev S16x4x64x2048 : Shape := ⟨4, ![16, 4, 64, 2048]⟩
abbrev S16x2048x4 : Shape := ⟨3, ![16, 2048, 4]⟩
abbrev S16x2048x4x1 : Shape := ⟨4, ![16, 2048, 4, 1]⟩
abbrev S1x1x1x64 : Shape := ⟨4, ![1, 1, 1, 64]⟩

abbrev nBuf : Space → Nat
  | .hbm => 80
  | .vmem => 0
  | .smem => 0
  | _ => 0

abbrev bufTy : (tb : Table) → Fin (tcTables nBuf tb) → BufTy
  | .hbm, ⟨0, _⟩ => ⟨S16x2048x2304, .bf16⟩
  | .hbm, ⟨1, _⟩ => ⟨S16x256x2304, .bf16⟩
  | .hbm, ⟨2, _⟩ => ⟨S32, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S64, .f32⟩
  | .hbm, ⟨7, _⟩ => ⟨S16x2048x2304, .f32⟩
  | .hbm, ⟨8, _⟩ => ⟨S16x256x2304, .f32⟩
  | .hbm, ⟨9, _⟩ => ⟨S32, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S32, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S16x2048x256, .f32⟩
  | .hbm, ⟨21, _⟩ => ⟨S16x2048x4x2x32, .f32⟩
  | .hbm, ⟨22, _⟩ => ⟨S16x2048x256, .f32⟩
  | .hbm, ⟨23, _⟩ => ⟨S16x2048x4x2x32, .f32⟩
  | .hbm, ⟨24, _⟩ => ⟨S16x2048x256, .f32⟩
  | .hbm, ⟨25, _⟩ => ⟨S16x2048x4x64, .f32⟩
  | .hbm, ⟨26, _⟩ => ⟨S16x256x256, .f32⟩
  | .hbm, ⟨27, _⟩ => ⟨S16x256x4x2x32, .f32⟩
  | .hbm, ⟨28, _⟩ => ⟨S16x256x256, .f32⟩
  | .hbm, ⟨29, _⟩ => ⟨S16x256x4x64, .f32⟩
  | .hbm, ⟨30, _⟩ => ⟨S16x2304x4x2x32, .f32⟩
  | .hbm, ⟨31, _⟩ => ⟨S16x2304x4x64, .f32⟩
  | .hbm, ⟨32, _⟩ => ⟨S16x4x2x2048x2304, .f32⟩
  | .hbm, ⟨33, _⟩ => ⟨S_, .f32⟩
  | .hbm, ⟨34, _⟩ => ⟨S16x4x2x2048x2304, .f32⟩
  | .hbm, ⟨35, _⟩ => ⟨S16x4x2x2048x2304, .f32⟩
  | .hbm, ⟨36, _⟩ => ⟨S_, .f32⟩
  | .hbm, ⟨37, _⟩ => ⟨S16x4x2x2048, .f32⟩
  | .hbm, ⟨38, _⟩ => ⟨S_, .f32⟩
  | .hbm, ⟨39, _⟩ => ⟨S16x4x2x2048, .f32⟩
  | .hbm, ⟨40, _⟩ => ⟨S16x4x2x2048, .f32⟩
  | .hbm, ⟨41, _⟩ => ⟨S16x4x2x2048x1, .f32⟩
  | .hbm, ⟨42, _⟩ => ⟨S16x4x2x2048x2304, .f32⟩
  | .hbm, ⟨43, _⟩ => ⟨S16x4x2x2048x2304, .f32⟩
  | .hbm, ⟨44, _⟩ => ⟨S16x4x2x2048x2304, .f32⟩
  | .hbm, ⟨45, _⟩ => ⟨S_, .f32⟩
  | .hbm, ⟨46, _⟩ => ⟨S16x4x2x2048, .f32⟩
  | .hbm, ⟨47, _⟩ => ⟨S16x4x2x2048x1, .f32⟩
  | .hbm, ⟨48, _⟩ => ⟨S16x4x2x2048x2304, .f32⟩
  | .hbm, ⟨49, _⟩ => ⟨S16x4x2x2048x2304, .f32⟩
  | .hbm, ⟨50, _⟩ => ⟨S16x4x1x2048x2304, .f32⟩
  | .hbm, ⟨51, _⟩ => ⟨S16x4x2048x2304, .f32⟩
  | .hbm, ⟨52, _⟩ => ⟨S16x4x1x2048x2304, .f32⟩
  | .hbm, ⟨53, _⟩ => ⟨S16x4x2048x2304, .f32⟩
  | .hbm, ⟨54, _⟩ => ⟨S16x4x2048x2304, .f32⟩
  | .hbm, ⟨55, _⟩ => ⟨S16x4x2048x2304, .f32⟩
  | .hbm, ⟨56, _⟩ => ⟨S16x4x2048x2304, .f32⟩
  | .hbm, ⟨57, _⟩ => ⟨S16x4x64x2048, .f32⟩
  | .hbm, ⟨58, _⟩ => ⟨S16x2048x4x64, .f32⟩
  | .hbm, ⟨59, _⟩ => ⟨S16x2048x4x64, .f32⟩
  | .hbm, ⟨60, _⟩ => ⟨S_, .f32⟩
  | .hbm, ⟨61, _⟩ => ⟨S16x2048x4, .f32⟩
  | .hbm, ⟨62, _⟩ => ⟨S16x2048x4x1, .f32⟩
  | .hbm, ⟨63, _⟩ => ⟨S_, .f32⟩
  | .hbm, ⟨64, _⟩ => ⟨S16x2048x4x1, .f32⟩
  | .hbm, ⟨65, _⟩ => ⟨S16x2048x4x1, .f32⟩
  | .hbm, ⟨66, _⟩ => ⟨S_, .f32⟩
  | .hbm, ⟨67, _⟩ => ⟨S16x2048x4x1, .f32⟩
  | .hbm, ⟨68, _⟩ => ⟨S16x2048x4x1, .f32⟩
  | .hbm, ⟨69, _⟩ => ⟨S16x2048x4x1, .f32⟩
  | .hbm, ⟨70, _⟩ => ⟨S16x2048x4x64, .f32⟩
  | .hbm, ⟨71, _⟩ => ⟨S16x2048x4x64, .f32⟩
  | .hbm, ⟨72, _⟩ => ⟨S1x1x1x64, .f32⟩
  | .hbm, ⟨73, _⟩ => ⟨S16x2048x4x64, .f32⟩
  | .hbm, ⟨74, _⟩ => ⟨S16x2048x4x64, .f32⟩
  | .hbm, ⟨75, _⟩ => ⟨S_, .f32⟩
  | .hbm, ⟨76, _⟩ => ⟨S16x2048x4x64, .f32⟩
  | .hbm, ⟨77, _⟩ => ⟨S16x2048x4x64, .f32⟩
  | .hbm, ⟨78, _⟩ => ⟨S16x2048x256, .f32⟩
  | .hbm, ⟨79, _⟩ => ⟨S16x2048x256, .bf16⟩
  | _, _ => ⟨S16x2048x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_6 : Ref sig .tc := ⟨.hbm, 60, rfl⟩
abbrev main_v46 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_cst_8 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_9 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩

abbrev nD : Nat := 1
abbrev τ : Topo := Topo.v7x

variable {F : FTy → Type} [FloatOps F]
-- ==== Kernel2.lean ====
abbrev S16x2048x1024 : Shape := ⟨3, ![16, 2048, 1024]⟩
abbrev S1024 : Shape := ⟨1, ![1024]⟩
abbrev S24x6144 : Shape := ⟨2, ![24, 6144]⟩
abbrev S1024x5632 : Shape := ⟨2, ![1024, 5632]⟩
abbrev S3x2816 : Shape := ⟨2, ![3, 2816]⟩
abbrev S2816x1024 : Shape := ⟨2, ![2816, 1024]⟩
abbrev S24x1x6144 : Shape := ⟨3, ![24, 1, 6144]⟩
abbrev S1024x2816 : Shape := ⟨2, ![1024, 2816]⟩
abbrev S1024x2x1408 : Shape := ⟨3, ![1024, 2, 1408]⟩
abbrev S2x1024x1408 : Shape := ⟨3, ![2, 1024, 1408]⟩
abbrev S2x1408x1024 : Shape := ⟨3, ![2, 1408, 1024]⟩
abbrev S3x2x1408 : Shape := ⟨3, ![3, 2, 1408]⟩
abbrev S2x3x1408 : Shape := ⟨3, ![2, 3, 1408]⟩
abbrev S1x1024 : Shape := ⟨2, ![1, 1024]⟩
abbrev S1x512x1024 : Shape := ⟨3, ![1, 512, 1024]⟩
abbrev S1x16x1024 : Shape := ⟨3, ![1, 16, 1024]⟩
abbrev S1x1x1024 : Shape := ⟨3, ![1, 1, 1024]⟩
abbrev S544x1024 : Shape := ⟨2, ![544, 1024]⟩
abbrev S544x1408 : Shape := ⟨2, ![544, 1408]⟩
abbrev S512x1024 : Shape := ⟨2, ![512, 1024]⟩
abbrev S16x1024 : Shape := ⟨2, ![16, 1024]⟩
abbrev S16 : Shape := ⟨1, ![16]⟩
abbrev S16x1 : Shape := ⟨2, ![16, 1]⟩
abbrev S512 : Shape := ⟨1, ![512]⟩
abbrev S512x1 : Shape := ⟨2, ![512, 1]⟩
abbrev S1x1024x1408 : Shape := ⟨3, ![1, 1024, 1408]⟩
abbrev S1024x1408 : Shape := ⟨2, ![1024, 1408]⟩
abbrev S1x3x1408 : Shape := ⟨3, ![1, 3, 1408]⟩
abbrev S3x1408 : Shape := ⟨2, ![3, 1408]⟩
abbrev S512x1408 : Shape := ⟨2, ![512, 1408]⟩
abbrev S1x1408 : Shape := ⟨2, ![1, 1408]⟩
abbrev S1x1408x1024 : Shape := ⟨3, ![1, 1408, 1024]⟩
abbrev S1408x1024 : Shape := ⟨2, ![1408, 1024]⟩

abbrev nBuf : Space → Nat
  | .hbm => 23
  | .vmem => 22
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S24x6144, .f32⟩
  | .hbm, ⟨3, _⟩ => ⟨S1024x5632, .f32⟩
  | .hbm, ⟨4, _⟩ => ⟨S3x2816, .f32⟩
  | .hbm, ⟨5, _⟩ => ⟨S2816x1024, .f32⟩
  | .hbm, ⟨6, _⟩ => ⟨S1024, .f32⟩
  | .hbm, ⟨7, _⟩ => ⟨S24x1x6144, .f32⟩
  | .hbm, ⟨8, _⟩ => ⟨S1024x2816, .f32⟩
  | .hbm, ⟨9, _⟩ => ⟨S1024x2816, .bf16⟩
  | .hbm, ⟨10, _⟩ => ⟨S1024x2x1408, .bf16⟩
  | .hbm, ⟨11, _⟩ => ⟨S2x1024x1408, .bf16⟩
  | .hbm, ⟨12, _⟩ => ⟨S1024x2816, .f32⟩
  | .hbm, ⟨13, _⟩ => ⟨S1024x2816, .bf16⟩
  | .hbm, ⟨14, _⟩ => ⟨S1024x2x1408, .bf16⟩
  | .hbm, ⟨15, _⟩ => ⟨S2x1024x1408, .bf16⟩
  | .hbm, ⟨16, _⟩ => ⟨S2816x1024, .bf16⟩
  | .hbm, ⟨17, _⟩ => ⟨S2x1408x1024, .bf16⟩
  | .hbm, ⟨18, _⟩ => ⟨S3x2x1408, .f32⟩
  | .hbm, ⟨19, _⟩ => ⟨S2x3x1408, .f32⟩
  | .hbm, ⟨20, _⟩ => ⟨S1x1024, .f32⟩
  | .hbm, ⟨21, _⟩ => ⟨S1x1024, .f32⟩
  | .hbm, ⟨22, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S2x1024x1408, .bf16⟩
  | .local _ .vmem, ⟨14, _⟩ => ⟨S2x1024x1408, .bf16⟩
  | .local _ .vmem, ⟨15, _⟩ => ⟨S2x3x1408, .f32⟩
  | .local _ .vmem, ⟨16, _⟩ => ⟨S2x1408x1024, .bf16⟩
  | .local _ .vmem, ⟨17, _⟩ => ⟨S1x1024, .f32⟩
  | .local _ .vmem, ⟨18, _⟩ => ⟨S1x512x1024, .f32⟩
  | .local _ .vmem, ⟨19, _⟩ => ⟨S1x512x1024, .f32⟩
  | .local _ .vmem, ⟨20, _⟩ => ⟨S544x1024, .bf16⟩
  | .local _ .vmem, ⟨21, _⟩ => ⟨S544x1408, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S2x1024x1408 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2x1024x1408 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2x3x1408 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2x1408x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S16x2048x1024 : Shape := ⟨3, ![16, 2048, 1024]⟩
abbrev S1024 : Shape := ⟨1, ![1024]⟩
abbrev S24x6144 : Shape := ⟨2, ![24, 6144]⟩
abbrev S1024x5632 : Shape := ⟨2, ![1024, 5632]⟩
abbrev S3x2816 : Shape := ⟨2, ![3, 2816]⟩
abbrev S2816x1024 : Shape := ⟨2, ![2816, 1024]⟩
abbrev S16x6144 : Shape := ⟨2, ![16, 6144]⟩
abbrev S16x1024 : Shape := ⟨2, ![16, 1024]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2048x2816 : Shape := ⟨3, ![16, 2048, 2816]⟩
abbrev S16x2050x2816 : Shape := ⟨3, ![16, 2050, 2816]⟩
abbrev S1x2816 : Shape := ⟨2, ![1, 2816]⟩
abbrev S2816 : Shape := ⟨1, ![2816]⟩
abbrev S1x1x2816 : Shape := ⟨3, ![1, 1, 2816]⟩

abbrev nBuf : Space → Nat
  | .hbm => 99
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S24x6144, .f32⟩
  | .hbm, ⟨3, _⟩ => ⟨S1024x5632, .f32⟩
  | .hbm, ⟨4, _⟩ => ⟨S3x2816, .f32⟩
  | .hbm, ⟨5, _⟩ => ⟨S2816x1024, .f32⟩
  | .hbm, ⟨6, _⟩ => ⟨S1024, .f32⟩
  | .hbm, ⟨7, _⟩ => ⟨S16x6144, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S16x1024, .f32⟩
  | .hbm, ⟨14, _⟩ => ⟨S16x1x1024, .f32⟩
  | .hbm, ⟨15, _⟩ => ⟨S16x1x1024, .f32⟩
  | .hbm, ⟨16, _⟩ => ⟨S16x1x1024, .f32⟩
  | .hbm, ⟨17, _⟩ => ⟨S16x1x1024, .f32⟩
  | .hbm, ⟨18, _⟩ => ⟨S16x1x1024, .f32⟩
  | .hbm, ⟨19, _⟩ => ⟨S16x1x1024, .f32⟩
  | .hbm, ⟨20, _⟩ => ⟨S16x2048x1024, .f32⟩
  | .hbm, ⟨21, _⟩ => ⟨S_, .f32⟩
  | .hbm, ⟨22, _⟩ => ⟨S16x2048, .f32⟩
  | .hbm, ⟨23, _⟩ => ⟨S16x2048x1, .f32⟩
  | .hbm, ⟨24, _⟩ => ⟨S_, .f32⟩
  | .hbm, ⟨25, _⟩ => ⟨S16x2048x1, .f32⟩
  | .hbm, ⟨26, _⟩ => ⟨S16x2048x1, .f32⟩
  | .hbm, ⟨27, _⟩ => ⟨S_, .f32⟩
  | .hbm, ⟨28, _⟩ => ⟨S16x2048x1, .f32⟩
  | .hbm, ⟨29, _⟩ => ⟨S16x2048x1, .f32⟩
  | .hbm, ⟨30, _⟩ => ⟨S16x2048x1, .f32⟩
  | .hbm, ⟨31, _⟩ => ⟨S16x2048x1024, .f32⟩
  | .hbm, ⟨32, _⟩ => ⟨S16x2048x1024, .f32⟩
  | .hbm, ⟨33, _⟩ => ⟨S1x1x1024, .f32⟩
  | .hbm, ⟨34, _⟩ => ⟨S16x2048x1024, .f32⟩
  | .hbm, ⟨35, _⟩ => ⟨S16x2048x1024, .f32⟩
  | .hbm, ⟨36, _⟩ => ⟨S_, .f32⟩
  | .hbm, ⟨37, _⟩ => ⟨S16x1x1024, .f32⟩
  | .hbm, ⟨38, _⟩ => ⟨S16x1x1024, .f32⟩
  | .hbm, ⟨39, _⟩ => ⟨S16x2048x1024, .f32⟩
  | .hbm, ⟨40, _⟩ => ⟨S16x2048x1024, .f32⟩
  | .hbm, ⟨41, _⟩ => ⟨S16x2048x1024, .f32⟩
  | .hbm, ⟨42, _⟩ => ⟨S16x2048x1024, .f32⟩
  | .hbm, ⟨43, _⟩ => ⟨S16x2048x5632, .f32⟩
  | .hbm, ⟨44, _⟩ => ⟨S16x2048x2816, .f32⟩
  | .hbm, ⟨45, _⟩ => ⟨S16x2048x2816, .f32⟩
  | .hbm, ⟨46, _⟩ => ⟨S_, .i32⟩
  | .hbm, ⟨47, _⟩ => ⟨S_, .f32⟩
  | .hbm, ⟨48, _⟩ => ⟨S16x2050x2816, .f32⟩
  | .hbm, ⟨49, _⟩ => ⟨S16x2048x2816, .f32⟩
  | .hbm, ⟨50, _⟩ => ⟨S1x2816, .f32⟩
  | .hbm, ⟨51, _⟩ => ⟨S2816, .f32⟩
  | .hbm, ⟨52, _⟩ => ⟨S1x1x2816, .f32⟩
  | .hbm, ⟨53, _⟩ => ⟨S16x2048x2816, .f32⟩
  | .hbm, ⟨54, _⟩ => ⟨S16x2048x2816, .f32⟩
  | .hbm, ⟨55, _⟩ => ⟨S16x2048x2816, .f32⟩
  | .hbm, ⟨56, _⟩ => ⟨S1x2816, .f32⟩
  | .hbm, ⟨57, _⟩ => ⟨S2816, .f32⟩
  | .hbm, ⟨58, _⟩ => ⟨S1x1x2816, .f32⟩
  | .hbm, ⟨59, _⟩ => ⟨S16x2048x2816, .f32⟩
  | .hbm, ⟨60, _⟩ => ⟨S16x2048x2816, .f32⟩
  | .hbm, ⟨61, _⟩ => ⟨S16x2048x2816, .f32⟩
  | .hbm, ⟨62, _⟩ => ⟨S16x2048x2816, .f32⟩
  | .hbm, ⟨63, _⟩ => ⟨S1x2816, .f32⟩
  | .hbm, ⟨64, _⟩ => ⟨S2816, .f32⟩
  | .hbm, ⟨65, _⟩ => ⟨S1x1x2816, .f32⟩
  | .hbm, ⟨66, _⟩ => ⟨S16x2048x2816, .f32⟩
  | .hbm, ⟨67, _⟩ => ⟨S16x2048x2816, .f32⟩
  | .hbm, ⟨68, _⟩ => ⟨S16x2048x2816, .f32⟩
  | .hbm, ⟨69, _⟩ => ⟨S16x2048x2816, .f32⟩
  | .hbm, ⟨70, _⟩ => ⟨S16x2048x2816, .f32⟩
  | .hbm, ⟨71, _⟩ => ⟨S_, .f32⟩
  | .hbm, ⟨72, _⟩ => ⟨S16x2048x2816, .f32⟩
  | .hbm, ⟨73, _⟩ => ⟨S16x2048x2816, .f32⟩
  | .hbm, ⟨74, _⟩ => ⟨S_, .f32⟩
  | .hbm, ⟨75, _⟩ => ⟨S16x2048x2816, .f32⟩
  | .hbm, ⟨76, _⟩ => ⟨S16x2048x2816, .f32⟩
  | .hbm, ⟨77, _⟩ => ⟨S16x2048x2816, .f32⟩
  | .hbm, ⟨78, _⟩ => ⟨S16x2048x2816, .f32⟩
  | .hbm, ⟨79, _⟩ => ⟨S16x2048x1024, .f32⟩
  | .hbm, ⟨80, _⟩ => ⟨S16x2048x1024, .f32⟩
  | .hbm, ⟨81, _⟩ => ⟨S16x2048x1024, .f32⟩
  | .hbm, ⟨82, _⟩ => ⟨S16x2048x1024, .f32⟩
  | .hbm, ⟨83, _⟩ => ⟨S16x2048x1024, .f32⟩
  | .hbm, ⟨84, _⟩ => ⟨S_, .f32⟩
  | .hbm, ⟨85, _⟩ => ⟨S16x2048, .f32⟩
  | .hbm, ⟨86, _⟩ => ⟨S16x2048x1, .f32⟩
  | .hbm, ⟨87, _⟩ => ⟨S_, .f32⟩
  | .hbm, ⟨88, _⟩ => ⟨S16x2048x1, .f32⟩
  | .hbm, ⟨89, _⟩ => ⟨S16x2048x1, .f32⟩
  | .hbm, ⟨90, _⟩ => ⟨S_, .f32⟩
  | .hbm, ⟨91, _⟩ => ⟨S16x2048x1, .f32⟩
  | .hbm, ⟨92, _⟩ => ⟨S16x2048x1, .f32⟩
  | .hbm, ⟨93, _⟩ => ⟨S16x2048x1, .f32⟩
  | .hbm, ⟨94, _⟩ => ⟨S16x2048x1024, .f32⟩
  | .hbm, ⟨95, _⟩ => ⟨S16x2048x1024, .f32⟩
  | .hbm, ⟨96, _⟩ => ⟨S1x1x1024, .f32⟩
  | .hbm, ⟨97, _⟩ => ⟨S16x2048x1024, .f32⟩
  | .hbm, ⟨98, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c : Ref sig .tc := ⟨.hbm, 46, rfl⟩
abbrev main_call0_v0 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_call1_v0 : Ref sig .tc := ⟨.hbm, 69, rfl⟩
abbrev main_call1_v1 : Ref sig .tc := ⟨.hbm, 70, rfl⟩
abbrev main_call1_cst : Ref sig .tc := ⟨.hbm, 71, rfl⟩
abbrev main_call1_v2 : Ref sig .tc := ⟨.hbm, 72, rfl⟩
abbrev main_call1_v3 : Ref sig .tc := ⟨.hbm, 73, rfl⟩
abbrev main_call1_cst_0 : Ref sig .tc := ⟨.hbm, 74, rfl⟩
abbrev main_call1_v4 : Ref sig .tc := ⟨.hbm, 75, rfl⟩
abbrev main_call1_v5 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_3 : Ref sig .tc := ⟨.hbm, 84, rfl⟩
abbrev main_v63 : Ref sig .tc := ⟨.hbm, 85, rfl⟩
abbrev main_v64 : Ref sig .tc := ⟨.hbm, 86, rfl⟩
abbrev main_cst_4 : Ref sig .tc := ⟨.hbm, 87, rfl⟩
abbrev main_v65 : Ref sig .tc := ⟨.hbm, 88, rfl⟩
abbrev main_v66 : Ref sig .tc := ⟨.hbm, 89, rfl⟩
abbrev main_cst_5 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩

abbrev nD : Nat := 1
abbrev τ : Topo := Topo.v7x

variable {F : FTy → Type} [FloatOps F]
-- ==== Kernel3.lean ====
abbrev S16x2048x1024 : Shape := ⟨3, ![16, 2048, 1024]⟩
abbrev S1024 : Shape := ⟨1, ![1024]⟩
abbrev S24x6144 : Shape := ⟨2, ![24, 6144]⟩
abbrev S1024x2304 : Shape := ⟨2, ![1024, 2304]⟩
abbrev S256 : Shape := ⟨1, ![256]⟩
abbrev S24x1x6144 : Shape := ⟨3, ![24, 1, 6144]⟩
abbrev S2048 : Shape := ⟨1, ![2048]⟩
abbrev S_ : Shape := ⟨0, ![]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S1x256 : Shape := ⟨2, ![1, 256]⟩
abbrev S256x1 : Shape := ⟨2, ![256, 1]⟩
abbrev S2048x256 : Shape := ⟨2, ![2048, 256]⟩
abbrev S1x1024 : Shape := ⟨2, ![1, 1024]⟩
abbrev S16x2048x2304 : Shape := ⟨3, ![16, 2048, 2304]⟩
abbrev S1x512x1024 : Shape := ⟨3, ![1, 512, 1024]⟩
abbrev S1x1x1024 : Shape := ⟨3, ![1, 1, 1024]⟩
abbrev S512x256 : Shape := ⟨2, ![512, 256]⟩
abbrev S1x512x2304 : Shape := ⟨3, ![1, 512, 2304]⟩
abbrev S512x1024 : Shape := ⟨2, ![512, 1024]⟩
abbrev S512 : Shape := ⟨1, ![512]⟩
abbrev S512x1 : Shape := ⟨2, ![512, 1]⟩
abbrev S512x2304 : Shape := ⟨2, ![512, 2304]⟩
abbrev S512x1536 : Shape := ⟨2, ![512, 1536]⟩
abbrev S1x512x1536 : Shape := ⟨3, ![1, 512, 1536]⟩
abbrev S1x512x256 : Shape := ⟨3, ![1, 512, 256]⟩

abbrev nBuf : Space → Nat
  | .hbm => 111
  | .vmem => 16
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S24x6144, .f32⟩
  | .hbm, ⟨3, _⟩ => ⟨S1024x2304, .f32⟩
  | .hbm, ⟨4, _⟩ => ⟨S256, .i1⟩
  | .hbm, ⟨5, _⟩ => ⟨S256, .i32⟩
  | .hbm, ⟨6, _⟩ => ⟨S256, .i1⟩
  | .hbm, ⟨7, _⟩ => ⟨S256, .i1⟩
  | .hbm, ⟨8, _⟩ => ⟨S256, .i1⟩
  | .hbm, ⟨9, _⟩ => ⟨S256, .i1⟩
  | .hbm, ⟨10, _⟩ => ⟨S24x1x6144, .f32⟩
  | .hbm, ⟨11, _⟩ => ⟨S1024x2304, .bf16⟩
  | .hbm, ⟨12, _⟩ => ⟨S2048, .i32⟩
  | .hbm, ⟨13, _⟩ => ⟨S_, .i32⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S2048, .i32⟩
  | .hbm, ⟨22, _⟩ => ⟨S2048, .i32⟩
  | .hbm, ⟨23, _⟩ => ⟨S_, .i32⟩
  | .hbm, ⟨24, _⟩ => ⟨S2048, .i32⟩
  | .hbm, ⟨25, _⟩ => ⟨S2048, .i1⟩
  | .hbm, ⟨26, _⟩ => ⟨S2048, .i1⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S2048, .i32⟩
  | .hbm, ⟨31, _⟩ => ⟨S2048, .f32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S2048, .i32⟩
  | .hbm, ⟨39, _⟩ => ⟨S2048, .i32⟩
  | .hbm, ⟨40, _⟩ => ⟨S_, .i32⟩
  | .hbm, ⟨41, _⟩ => ⟨S2048, .i32⟩
  | .hbm, ⟨42, _⟩ => ⟨S2048, .i1⟩
  | .hbm, ⟨43, _⟩ => ⟨S_, .i32⟩
  | .hbm, ⟨44, _⟩ => ⟨S2048, .i32⟩
  | .hbm, ⟨45, _⟩ => ⟨S2048, .i1⟩
  | .hbm, ⟨46, _⟩ => ⟨S_, .i32⟩
  | .hbm, ⟨47, _⟩ => ⟨S_, .i1⟩
  | .hbm, ⟨48, _⟩ => ⟨S2048, .i1⟩
  | .hbm, ⟨49, _⟩ => ⟨S2048, .i1⟩
  | .hbm, ⟨50, _⟩ => ⟨S2048, .i1⟩
  | .hbm, ⟨51, _⟩ => ⟨S2048, .i32⟩
  | .hbm, ⟨52, _⟩ => ⟨S2048, .i32⟩
  | .hbm, ⟨53, _⟩ => ⟨S2048, .i32⟩
  | .hbm, ⟨54, _⟩ => ⟨S2048, .f32⟩
  | .hbm, ⟨55, _⟩ => ⟨S8, .f32⟩
  | .hbm, ⟨56, _⟩ => ⟨S_, .f32⟩
  | .hbm, ⟨57, _⟩ => ⟨S8, .f32⟩
  | .hbm, ⟨58, _⟩ => ⟨S8, .f32⟩
  | .hbm, ⟨59, _⟩ => ⟨S_, .f32⟩
  | .hbm, ⟨60, _⟩ => ⟨S8, .f32⟩
  | .hbm, ⟨61, _⟩ => ⟨S8, .f32⟩
  | .hbm, ⟨62, _⟩ => ⟨S8, .f32⟩
  | .hbm, ⟨63, _⟩ => ⟨S_, .f32⟩
  | .hbm, ⟨64, _⟩ => ⟨S8, .f32⟩
  | .hbm, ⟨65, _⟩ => ⟨S8, .f32⟩
  | .hbm, ⟨66, _⟩ => ⟨S_, .f32⟩
  | .hbm, ⟨67, _⟩ => ⟨S8, .f32⟩
  | .hbm, ⟨68, _⟩ => ⟨S8, .f32⟩
  | .hbm, ⟨69, _⟩ => ⟨S2048x1, .f32⟩
  | .hbm, ⟨70, _⟩ => ⟨S1x8, .f32⟩
  | .hbm, ⟨71, _⟩ => ⟨S2048x8, .f32⟩
  | .hbm, ⟨72, _⟩ => ⟨S2048x8, .f32⟩
  | .hbm, ⟨73, _⟩ => ⟨S2048x8, .f32⟩
  | .hbm, ⟨74, _⟩ => ⟨S2048x1, .f32⟩
  | .hbm, ⟨75, _⟩ => ⟨S1x8, .f32⟩
  | .hbm, ⟨76, _⟩ => ⟨S2048x8, .f32⟩
  | .hbm, ⟨77, _⟩ => ⟨S2048x8, .f32⟩
  | .hbm, ⟨78, _⟩ => ⟨S2048x8, .f32⟩
  | .hbm, ⟨79, _⟩ => ⟨S1x256, .i1⟩
  | .hbm, ⟨80, _⟩ => ⟨S_, .i32⟩
  | .hbm, ⟨81, _⟩ => ⟨S256, .i32⟩
  | .hbm, ⟨82, _⟩ => ⟨S256, .i32⟩
  | .hbm, ⟨83, _⟩ => ⟨S256, .i32⟩
  | .hbm, ⟨84, _⟩ => ⟨S256x1, .i32⟩
  | .hbm, ⟨85, _⟩ => ⟨S2048x256, .f32⟩
  | .hbm, ⟨86, _⟩ => ⟨S_, .i32⟩
  | .hbm, ⟨87, _⟩ => ⟨S256, .i32⟩
  | .hbm, ⟨88, _⟩ => ⟨S256, .i32⟩
  | .hbm, ⟨89, _⟩ => ⟨S256, .i32⟩
  | .hbm, ⟨90, _⟩ => ⟨S256x1, .i32⟩
  | .hbm, ⟨91, _⟩ => ⟨S2048x256, .f32⟩
  | .hbm, ⟨92, _⟩ => ⟨S2048x256, .i1⟩
  | .hbm, ⟨93, _⟩ => ⟨S2048x256, .f32⟩
  | .hbm, ⟨94, _⟩ => ⟨S2048x256, .f32⟩
  | .hbm, ⟨95, _⟩ => ⟨S2048x256, .f32⟩
  | .hbm, ⟨96, _⟩ => ⟨S1x256, .i1⟩
  | .hbm, ⟨97, _⟩ => ⟨S2048x256, .f32⟩
  | .hbm, ⟨98, _⟩ => ⟨S_, .f32⟩
  | .hbm, ⟨99, _⟩ => ⟨S_, .f32⟩
  | .hbm, ⟨100, _⟩ => ⟨S2048x256, .i1⟩
  | .hbm, ⟨101, _⟩ => ⟨S2048x256, .f32⟩
  | .hbm, ⟨102, _⟩ => ⟨S2048x256, .f32⟩
  | .hbm, ⟨103, _⟩ => ⟨S1x256, .i1⟩
  | .hbm, ⟨104, _⟩ => ⟨S_, .f32⟩
  | .hbm, ⟨105, _⟩ => ⟨S_, .f32⟩
  | .hbm, ⟨106, _⟩ => ⟨S2048x256, .i1⟩
  | .hbm, ⟨107, _⟩ => ⟨S2048x256, .f32⟩
  | .hbm, ⟨108, _⟩ => ⟨S2048x256, .f32⟩
  | .hbm, ⟨109, _⟩ => ⟨S1x1024, .f32⟩
  | .hbm, ⟨110, _⟩ => ⟨S16x2048x2304, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2304, .bf16⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S1x512x2304, .bf16⟩
  | .local _ .vmem, ⟨15, _⟩ => ⟨S1x512x2304, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_c_3 : Ref sig .tc := ⟨.hbm, 8, rfl⟩
abbrev main_c_4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c_5 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v3 : Ref sig .tc := ⟨.hbm, 30, rfl⟩
abbrev main_v4 : Ref sig .tc := ⟨.hbm, 31, rfl⟩
abbrev main_c_6 : Ref sig .tc := ⟨.hbm, 32, rfl⟩
abbrev main_call1_v0 : Ref sig .tc := ⟨.hbm, 33, rfl⟩
abbrev main_call1_c : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_c_1 : Ref sig .tc := ⟨.hbm, 40, rfl⟩
abbrev main_call1_v5 : Ref sig .tc := ⟨.hbm, 41, rfl⟩
abbrev main_call1_v6 : Ref sig .tc := ⟨.hbm, 42, rfl⟩
abbrev main_call1_c_2 : Ref sig .tc := ⟨.hbm, 43, rfl⟩
abbrev main_call1_v7 : Ref sig .tc := ⟨.hbm, 44, rfl⟩
abbrev main_call1_v8 : Ref sig .tc := ⟨.hbm, 45, rfl⟩
abbrev main_call1_c_3 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev main_cst : Ref sig .tc := ⟨.hbm, 56, rfl⟩
abbrev main_v8 : Ref sig .tc := ⟨.hbm, 57, rfl⟩
abbrev main_v9 : Ref sig .tc := ⟨.hbm, 58, rfl⟩
abbrev main_cst_7 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_cst_8 : Ref sig .tc := ⟨.hbm, 63, rfl⟩
abbrev main_v13 : Ref sig .tc := ⟨.hbm, 64, rfl⟩
abbrev main_v14 : Ref sig .tc := ⟨.hbm, 65, rfl⟩
abbrev main_cst_9 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_c_10 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_c_11 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_call2_v0 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_cst_12 : Ref sig .tc := ⟨.hbm, 98, rfl⟩
abbrev main_call3_v0 : Ref sig .tc := ⟨.hbm, 99, rfl⟩
abbrev main_call3_v1 : Ref sig .tc := ⟨.hbm, 100, rfl⟩
abbrev main_call3_v2 : Ref sig .tc := ⟨.hbm, 101, rfl⟩
abbrev main_v43 : Ref sig .tc := ⟨.hbm, 102, rfl⟩
abbrev main_v44 : Ref sig .tc := ⟨.hbm, 103, rfl⟩
abbrev main_cst_13 : Ref sig .tc := ⟨.hbm, 104, rfl⟩
abbrev main_call4_v0 : Ref sig .tc := ⟨.hbm, 105, rfl⟩
abbrev main_call4_v1 : Ref sig .tc := ⟨.hbm, 106, rfl⟩
abbrev main_call4_v2 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg1.toNat, c0_i32.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1024x2304 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x2304 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S16x2048x1024 : Shape := ⟨3, ![16, 2048, 1024]⟩
abbrev S1024 : Shape := ⟨1, ![1024]⟩
abbrev S24x6144 : Shape := ⟨2, ![24, 6144]⟩
abbrev S1024x2304 : Shape := ⟨2, ![1024, 2304]⟩
abbrev S32 : Shape := ⟨1, ![32]⟩
abbrev S32x1 : Shape := ⟨2, ![32, 1]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S16x6144 : Shape := ⟨2, ![16, 6144]⟩
abbrev S16x1024 : Shape := ⟨2, ![16, 1024]⟩
abbrev S16x1x1024 : Shape := ⟨3, ![16, 1, 1024]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2304 : Shape := ⟨3, ![16, 2048, 2304]⟩
abbrev S16x2048x256 : Shape := ⟨3, ![16, 2048, 256]⟩
abbrev S16x2048x4x2x32 : Shape := ⟨5, ![16, 2048, 4, 2, 32]⟩
abbrev S16x2048x4x2x16 : Shape := ⟨5, ![16, 2048, 4, 2, 16]⟩
abbrev S1x2048x1x1x8 : Shape := ⟨5, ![1, 2048, 1, 1, 8]⟩
abbrev S16x2048x4x2x8 : Shape := ⟨5, ![16, 2048, 4, 2, 8]⟩
abbrev S16x2048x1536 : Shape := ⟨3, ![16, 2048, 1536]⟩

abbrev nBuf : Space → Nat
  | .hbm => 157
  | .vmem => 0
  | .smem => 0
  | _ => 0

abbrev hbmTy0_0 (i : Nat) : BufTy := match i % 128 with
  | 0 => ⟨S16x2048x1024, .f32⟩
  | 1 => ⟨S1024, .f32⟩
  | 2 => ⟨S24x6144, .f32⟩
  | 3 => ⟨S1024x2304, .f32⟩
  | 4 => ⟨S32, .f32⟩
  | 5 => ⟨S32x1, .f32⟩
  | 6 => ⟨S32x64, .f32⟩
  | 7 => ⟨S2048, .f32⟩
  | 8 => ⟨S64, .f32⟩
  | 9 => ⟨S1x64, .f32⟩
  | 10 => ⟨S32x64, .f32⟩
  | 11 => ⟨S2048, .f32⟩
  | 12 => ⟨S8, .f32⟩
  | 13 => ⟨S_, .f32⟩
  | 14 => ⟨S8, .f32⟩
  | 15 => ⟨S8, .f32⟩
  | 16 => ⟨S_, .f32⟩
  | 17 => ⟨S8, .f32⟩
  | 18 => ⟨S8, .f32⟩
  | 19 => ⟨S8, .f32⟩
  | 20 => ⟨S_, .f32⟩
  | 21 => ⟨S8, .f32⟩
  | 22 => ⟨S8, .f32⟩
  | 23 => ⟨S_, .f32⟩
  | 24 => ⟨S8, .f32⟩
  | 25 => ⟨S8, .f32⟩
  | 26 => ⟨S2048x1, .f32⟩
  | 27 => ⟨S1x8, .f32⟩
  | 28 => ⟨S2048x8, .f32⟩
  | 29 => ⟨S2048x8, .f32⟩
  | 30 => ⟨S2048x8, .f32⟩
  | 31 => ⟨S2048x1, .f32⟩
  | 32 => ⟨S1x8, .f32⟩
  | 33 => ⟨S2048x8, .f32⟩
  | 34 => ⟨S2048x8, .f32⟩
  | 35 => ⟨S2048x8, .f32⟩
  | 36 => ⟨S16x6144, .f32⟩
  | 37 => ⟨S16x1024, .f32⟩
  | 38 => ⟨S16x1024, .f32⟩
  | 39 => ⟨S16x1024, .f32⟩
  | 40 => ⟨S16x1024, .f32⟩
  | 41 => ⟨S16x1024, .f32⟩
  | 42 => ⟨S16x1024, .f32⟩
  | 43 => ⟨S16x1x1024, .f32⟩
  | 44 => ⟨S16x1x1024, .f32⟩
  | 45 => ⟨S16x1x1024, .f32⟩
  | 46 => ⟨S16x1x1024, .f32⟩
  | 47 => ⟨S16x1x1024, .f32⟩
  | 48 => ⟨S16x1x1024, .f32⟩
  | 49 => ⟨S16x2048x1024, .f32⟩
  | 50 => ⟨S_, .f32⟩
  | 51 => ⟨S16x2048, .f32⟩
  | 52 => ⟨S16x2048x1, .f32⟩
  | 53 => ⟨S_, .f32⟩
  | 54 => ⟨S16x2048x1, .f32⟩
  | 55 => ⟨S16x2048x1, .f32⟩
  | 56 => ⟨S_, .f32⟩
  | 57 => ⟨S16x2048x1, .f32⟩
  | 58 => ⟨S16x2048x1, .f32⟩
  | 59 => ⟨S16x2048x1, .f32⟩
  | 60 => ⟨S16x2048x1024, .f32⟩
  | 61 => ⟨S16x2048x1024, .f32⟩
  | 62 => ⟨S1x1x1024, .f32⟩
  | 63 => ⟨S16x2048x1024, .f32⟩
  | 64 => ⟨S16x2048x1024, .f32⟩
  | 65 => ⟨S_, .f32⟩
  | 66 => ⟨S16x1x1024, .f32⟩
  | 67 => ⟨S16x1x1024, .f32⟩
  | 68 => ⟨S16x2048x1024, .f32⟩
  | 69 => ⟨S16x2048x1024, .f32⟩
  | 70 => ⟨S16x2048x1024, .f32⟩
  | 71 => ⟨S16x2048x1024, .f32⟩
  | 72 => ⟨S16x2048x2304, .f32⟩
  | 73 => ⟨S16x2048x256, .f32⟩
  | 74 => ⟨S16x2048x4x2x32, .f32⟩
  | 75 => ⟨S16x2048x4x2x16, .f32⟩
  | 76 => ⟨S2048x8, .f32⟩
  | 77 => ⟨S1x2048x1x1x8, .f32⟩
  | 78 => ⟨S2048x8, .f32⟩
  | 79 => ⟨S1x2048x1x1x8, .f32⟩
  | 80 => ⟨S16x2048x4x2x8, .f32⟩
  | 81 => ⟨S16x2048x4x2x8, .f32⟩
  | 82 => ⟨S16x2048x4x2x8, .f32⟩
  | 83 => ⟨S16x2048x4x2x8, .f32⟩
  | 84 => ⟨S16x2048x4x2x8, .f32⟩
  | 85 => ⟨S16x2048x4x2x8, .f32⟩
  | 86 => ⟨S16x2048x4x2x8, .f32⟩
  | 87 => ⟨S16x2048x4x2x8, .f32⟩
  | 88 => ⟨S16x2048x4x2x8, .f32⟩
  | 89 => ⟨S16x2048x4x2x8, .f32⟩
  | 90 => ⟨S16x2048x4x2x8, .f32⟩
  | 91 => ⟨S16x2048x4x2x8, .f32⟩
  | 92 => ⟨S16x2048x4x2x16, .f32⟩
  | 93 => ⟨S16x2048x4x2x16, .f32⟩
  | 94 => ⟨S2048x8, .f32⟩
  | 95 => ⟨S1x2048x1x1x8, .f32⟩
  | 96 => ⟨S2048x8, .f32⟩
  | 97 => ⟨S1x2048x1x1x8, .f32⟩
  | 98 => ⟨S16x2048x4x2x8, .f32⟩
  | 99 => ⟨S16x2048x4x2x8, .f32⟩
  | 100 => ⟨S16x2048x4x2x8, .f32⟩
  | 101 => ⟨S16x2048x4x2x8, .f32⟩
  | 102 => ⟨S16x2048x4x2x8, .f32⟩
  | 103 => ⟨S16x2048x4x2x8, .f32⟩
  | 104 => ⟨S16x2048x4x2x8, .f32⟩
  | 105 => ⟨S16x2048x4x2x8, .f32⟩
  | 106 => ⟨S16x2048x4x2x8, .f32⟩
  | 107 => ⟨S16x2048x4x2x8, .f32⟩
  | 108 => ⟨S16x2048x4x2x8, .f32⟩
  | 109 => ⟨S16x2048x4x2x8, .f32⟩
  | 110 => ⟨S16x2048x4x2x16, .f32⟩
  | 111 => ⟨S16x2048x4x2x32, .f32⟩
  | 112 => ⟨S16x2048x256, .f32⟩
  | 113 => ⟨S16x2048x4x2x32, .f32⟩
  | 114 => ⟨S16x2048x4x2x16, .f32⟩
  | 115 => ⟨S2048x8, .f32⟩
  | 116 => ⟨S1x2048x1x1x8, .f32⟩
  | 117 => ⟨S2048x8, .f32⟩
  | 118 => ⟨S1x2048x1x1x8, .f32⟩
  | 119 => ⟨S16x2048x4x2x8, .f32⟩
  | 120 => ⟨S16x2048x4x2x8, .f32⟩
  | 121 => ⟨S16x2048x4x2x8, .f32⟩
  | 122 => ⟨S16x2048x4x2x8, .f32⟩
  | 123 => ⟨S16x2048x4x2x8, .f32⟩
  | 124 => ⟨S16x2048x4x2x8, .f32⟩
  | 125 => ⟨S16x2048x4x2x8, .f32⟩
  | 126 => ⟨S16x2048x4x2x8, .f32⟩
  | 127 => ⟨S16x2048x4x2x8, .f32⟩
  | _ => ⟨S16x2048x1024, .f32⟩

abbrev hbmTy0_1 (i : Nat) : BufTy := match i % 128 with
  | 0 => ⟨S16x2048x4x2x8, .f32⟩
  | 1 => ⟨S16x2048x4x2x8, .f32⟩
  | 2 => ⟨S16x2048x4x2x8, .f32⟩
  | 3 => ⟨S16x2048x4x2x16, .f32⟩
  | 4 => ⟨S16x2048x4x2x16, .f32⟩
  | 5 => ⟨S2048x8, .f32⟩
  | 6 => ⟨S1x2048x1x1x8, .f32⟩
  | 7 => ⟨S2048x8, .f32⟩
  | 8 => ⟨S1x2048x1x1x8, .f32⟩
  | 9 => ⟨S16x2048x4x2x8, .f32⟩
  | 10 => ⟨S16x2048x4x2x8, .f32⟩
  | 11 => ⟨S16x2048x4x2x8, .f32⟩
  | 12 => ⟨S16x2048x4x2x8, .f32⟩
  | 13 => ⟨S16x2048x4x2x8, .f32⟩
  | 14 => ⟨S16x2048x4x2x8, .f32⟩
  | 15 => ⟨S16x2048x4x2x8, .f32⟩
  | 16 => ⟨S16x2048x4x2x8, .f32⟩
  | 17 => ⟨S16x2048x4x2x8, .f32⟩
  | 18 => ⟨S16x2048x4x2x8, .f32⟩
  | 19 => ⟨S16x2048x4x2x8, .f32⟩
  | 20 => ⟨S16x2048x4x2x8, .f32⟩
  | 21 => ⟨S16x2048x4x2x16, .f32⟩
  | 22 => ⟨S16x2048x4x2x32, .f32⟩
  | 23 => ⟨S16x2048x256, .f32⟩
  | 24 => ⟨S16x2048x256, .f32⟩
  | 25 => ⟨S16x2048x1536, .f32⟩
  | 26 => ⟨S16x2048x256, .f32⟩
  | 27 => ⟨S16x2048x2304, .f32⟩
  | 28 => ⟨S16x2048x2304, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_3 : Ref sig .tc := ⟨.hbm, 50, rfl⟩
abbrev main_v42 : Ref sig .tc := ⟨.hbm, 51, rfl⟩
abbrev main_v43 : Ref sig .tc := ⟨.hbm, 52, rfl⟩
abbrev main_cst_4 : Ref sig .tc := ⟨.hbm, 53, rfl⟩
abbrev main_v44 : Ref sig .tc := ⟨.hbm, 54, rfl⟩
abbrev main_v45 : Ref sig .tc := ⟨.hbm, 55, rfl⟩
abbrev main_cst_5 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_6 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩

abbrev nD : Nat := 1
abbrev τ : Topo := Topo.v7x

variable {F : FTy → Type} [FloatOps F]
-- ==== Kernel4.lean ====
abbrev S16x2048x1024 : Shape := ⟨3, ![16, 2048, 1024]⟩
abbrev S16x2048x768 : Shape := ⟨3, ![16, 2048, 768]⟩
abbrev S16x2048x256 : Shape := ⟨3, ![16, 2048, 256]⟩
abbrev S1024x1024 : Shape := ⟨2, ![1024, 1024]⟩
abbrev S24x6144 : Shape := ⟨2, ![24, 6144]⟩
abbrev S24x1x6144 : Shape := ⟨3, ![24, 1, 6144]⟩
abbrev S1x512x1024 : Shape := ⟨3, ![1, 512, 1024]⟩
abbrev S1x512x768 : Shape := ⟨3, ![1, 512, 768]⟩
abbrev S1x512x256 : Shape := ⟨3, ![1, 512, 256]⟩
abbrev S1x1x1024 : Shape := ⟨3, ![1, 1, 1024]⟩
abbrev S512x768 : Shape := ⟨2, ![512, 768]⟩
abbrev S768x1024 : Shape := ⟨2, ![768, 1024]⟩
abbrev S512x1024 : Shape := ⟨2, ![512, 1024]⟩
abbrev S512x256 : Shape := ⟨2, ![512, 256]⟩
abbrev S256x1024 : Shape := ⟨2, ![256, 1024]⟩
abbrev S1x1024 : Shape := ⟨2, ![1, 1024]⟩

abbrev nBuf : Space → Nat
  | .hbm => 8
  | .vmem => 11
  | .smem => 0
  | _ => 0

abbrev bufTy : (tb : Table) → Fin (tcTables nBuf tb) → BufTy
  | .hbm, ⟨0, _⟩ => ⟨S16x2048x1024, .f32⟩
  | .hbm, ⟨1, _⟩ => ⟨S16x2048x768, .bf16⟩
  | .hbm, ⟨2, _⟩ => ⟨S16x2048x256, .bf16⟩
  | .hbm, ⟨3, _⟩ => ⟨S1024x1024, .f32⟩
  | .hbm, ⟨4, _⟩ => ⟨S24x6144, .f32⟩
  | .hbm, ⟨5, _⟩ => ⟨S24x1x6144, .f32⟩
  | .hbm, ⟨6, _⟩ => ⟨S1024x1024, .bf16⟩
  | .hbm, ⟨7, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x768, .bf16⟩
  | .local _ .vmem, ⟨3, _⟩ => ⟨S1x512x768, .bf16⟩
  | .local _ .vmem, ⟨4, _⟩ => ⟨S1x512x256, .bf16⟩
  | .local _ .vmem, ⟨5, _⟩ => ⟨S1x512x256, .bf16⟩
  | .local _ .vmem, ⟨6, _⟩ => ⟨S1024x1024, .bf16⟩
  | .local _ .vmem, ⟨7, _⟩ => ⟨S1x1x1024, .f32⟩
  | .local _ .vmem, ⟨8, _⟩ => ⟨S1x1x1024, .f32⟩
  | .local _ .vmem, ⟨9, _⟩ => ⟨S1x512x1024, .f32⟩
  | .local _ .vmem, ⟨10, _⟩ => ⟨S1x512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg1.toNat, c0_i32.toNat, c2_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S16x2048x1024 : Shape := ⟨3, ![16, 2048, 1024]⟩
abbrev S16x2048x768 : Shape := ⟨3, ![16, 2048, 768]⟩
abbrev S16x2048x256 : Shape := ⟨3, ![16, 2048, 256]⟩
abbrev S1024x1024 : Shape := ⟨2, ![1024, 1024]⟩
abbrev S24x6144 : Shape := ⟨2, ![24, 6144]⟩
abbrev S16x6144 : Shape := ⟨2, ![16, 6144]⟩
abbrev S16x1024 : Shape := ⟨2, ![16, 1024]⟩
abbrev S16x1x1024 : Shape := ⟨3, ![16, 1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x768, .bf16⟩
  | .hbm, ⟨2, _⟩ => ⟨S16x2048x256, .bf16⟩
  | .hbm, ⟨3, _⟩ => ⟨S1024x1024, .f32⟩
  | .hbm, ⟨4, _⟩ => ⟨S24x6144, .f32⟩
  | .hbm, ⟨5, _⟩ => ⟨S16x6144, .f32⟩
  | .hbm, ⟨6, _⟩ => ⟨S16x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x1x1024, .f32⟩
  | .hbm, ⟨13, _⟩ => ⟨S16x1x1024, .f32⟩
  | .hbm, ⟨14, _⟩ => ⟨S16x1x1024, .f32⟩
  | .hbm, ⟨15, _⟩ => ⟨S16x1x1024, .f32⟩
  | .hbm, ⟨16, _⟩ => ⟨S16x1x1024, .f32⟩
  | .hbm, ⟨17, _⟩ => ⟨S16x1x1024, .f32⟩
  | .hbm, ⟨18, _⟩ => ⟨S16x2048x1024, .bf16⟩
  | .hbm, ⟨19, _⟩ => ⟨S16x2048x1024, .f32⟩
  | .hbm, ⟨20, _⟩ => ⟨S16x2048x1024, .f32⟩
  | .hbm, ⟨21, _⟩ => ⟨S16x2048x1024, .f32⟩
  | .hbm, ⟨22, _⟩ => ⟨S16x2048x1024, .f32⟩
  | .hbm, ⟨23, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]
-- ==== Kernel5.lean ====
abbrev S16x2048x1024 : Shape := ⟨3, ![16, 2048, 1024]⟩
abbrev S1024 : Shape := ⟨1, ![1024]⟩
abbrev S24x6144 : Shape := ⟨2, ![24, 6144]⟩
abbrev S1024x5632 : Shape := ⟨2, ![1024, 5632]⟩
abbrev S3x2816 : Shape := ⟨2, ![3, 2816]⟩
abbrev S2816x1024 : Shape := ⟨2, ![2816, 1024]⟩
abbrev S24x1x6144 : Shape := ⟨3, ![24, 1, 6144]⟩
abbrev S1024x2816 : Shape := ⟨2, ![1024, 2816]⟩
abbrev S1024x2x1408 : Shape := ⟨3, ![1024, 2, 1408]⟩
abbrev S2x1024x1408 : Shape := ⟨3, ![2, 1024, 1408]⟩
abbrev S2x1408x1024 : Shape := ⟨3, ![2, 1408, 1024]⟩
abbrev S3x2x1408 : Shape := ⟨3, ![3, 2, 1408]⟩
abbrev S2x3x1408 : Shape := ⟨3, ![2, 3, 1408]⟩
abbrev S1x1024 : Shape := ⟨2, ![1, 1024]⟩
abbrev S1x512x1024 : Shape := ⟨3, ![1, 512, 1024]⟩
abbrev S1x16x1024 : Shape := ⟨3, ![1, 16, 1024]⟩
abbrev S1x1x1024 : Shape := ⟨3, ![1, 1, 1024]⟩
abbrev S544x1024 : Shape := ⟨2, ![544, 1024]⟩
abbrev S544x1408 : Shape := ⟨2, ![544, 1408]⟩
abbrev S512x1024 : Shape := ⟨2, ![512, 1024]⟩
abbrev S16x1024 : Shape := ⟨2, ![16, 1024]⟩
abbrev S16 : Shape := ⟨1, ![16]⟩
abbrev S16x1 : Shape := ⟨2, ![16, 1]⟩
abbrev S512 : Shape := ⟨1, ![512]⟩
abbrev S512x1 : Shape := ⟨2, ![512, 1]⟩
abbrev S1x1024x1408 : Shape := ⟨3, ![1, 1024, 1408]⟩
abbrev S1024x1408 : Shape := ⟨2, ![1024, 1408]⟩
abbrev S1x3x1408 : Shape := ⟨3, ![1, 3, 1408]⟩
abbrev S3x1408 : Shape := ⟨2, ![3, 1408]⟩
abbrev S512x1408 : Shape := ⟨2, ![512, 1408]⟩
abbrev S1x1408 : Shape := ⟨2, ![1, 1408]⟩
abbrev S1x1408x1024 : Shape := ⟨3, ![1, 1408, 1024]⟩
abbrev S1408x1024 : Shape := ⟨2, ![1408, 1024]⟩

abbrev nBuf : Space → Nat
  | .hbm => 21
  | .vmem => 21
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S24x6144, .f32⟩
  | .hbm, ⟨3, _⟩ => ⟨S1024x5632, .f32⟩
  | .hbm, ⟨4, _⟩ => ⟨S3x2816, .f32⟩
  | .hbm, ⟨5, _⟩ => ⟨S2816x1024, .f32⟩
  | .hbm, ⟨6, _⟩ => ⟨S24x1x6144, .f32⟩
  | .hbm, ⟨7, _⟩ => ⟨S1024x2816, .f32⟩
  | .hbm, ⟨8, _⟩ => ⟨S1024x2816, .bf16⟩
  | .hbm, ⟨9, _⟩ => ⟨S1024x2x1408, .bf16⟩
  | .hbm, ⟨10, _⟩ => ⟨S2x1024x1408, .bf16⟩
  | .hbm, ⟨11, _⟩ => ⟨S1024x2816, .f32⟩
  | .hbm, ⟨12, _⟩ => ⟨S1024x2816, .bf16⟩
  | .hbm, ⟨13, _⟩ => ⟨S1024x2x1408, .bf16⟩
  | .hbm, ⟨14, _⟩ => ⟨S2x1024x1408, .bf16⟩
  | .hbm, ⟨15, _⟩ => ⟨S2816x1024, .bf16⟩
  | .hbm, ⟨16, _⟩ => ⟨S2x1408x1024, .bf16⟩
  | .hbm, ⟨17, _⟩ => ⟨S3x2x1408, .f32⟩
  | .hbm, ⟨18, _⟩ => ⟨S2x3x1408, .f32⟩
  | .hbm, ⟨19, _⟩ => ⟨S1x1024, .f32⟩
  | .hbm, ⟨20, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S2x1024x1408, .bf16⟩
  | .local _ .vmem, ⟨14, _⟩ => ⟨S2x1024x1408, .bf16⟩
  | .local _ .vmem, ⟨15, _⟩ => ⟨S2x3x1408, .f32⟩
  | .local _ .vmem, ⟨16, _⟩ => ⟨S2x1408x1024, .bf16⟩
  | .local _ .vmem, ⟨17, _⟩ => ⟨S1x512x1024, .f32⟩
  | .local _ .vmem, ⟨18, _⟩ => ⟨S1x512x1024, .f32⟩
  | .local _ .vmem, ⟨19, _⟩ => ⟨S544x1024, .bf16⟩
  | .local _ .vmem, ⟨20, _⟩ => ⟨S544x1408, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S2x1024x1408 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2x1024x1408 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2x3x1408 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2x1408x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference5Ideal.lean ====
abbrev S16x2048x1024 : Shape := ⟨3, ![16, 2048, 1024]⟩
abbrev S1024 : Shape := ⟨1, ![1024]⟩
abbrev S24x6144 : Shape := ⟨2, ![24, 6144]⟩
abbrev S1024x5632 : Shape := ⟨2, ![1024, 5632]⟩
abbrev S3x2816 : Shape := ⟨2, ![3, 2816]⟩
abbrev S2816x1024 : Shape := ⟨2, ![2816, 1024]⟩
abbrev S16x6144 : Shape := ⟨2, ![16, 6144]⟩
abbrev S16x1024 : Shape := ⟨2, ![16, 1024]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2048x2816 : Shape := ⟨3, ![16, 2048, 2816]⟩
abbrev S16x2050x2816 : Shape := ⟨3, ![16, 2050, 2816]⟩
abbrev S1x2816 : Shape := ⟨2, ![1, 2816]⟩
abbrev S2816 : Shape := ⟨1, ![2816]⟩
abbrev S1x1x2816 : Shape := ⟨3, ![1, 1, 2816]⟩

abbrev nBuf : Space → Nat
  | .hbm => 82
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S24x6144, .f32⟩
  | .hbm, ⟨3, _⟩ => ⟨S1024x5632, .f32⟩
  | .hbm, ⟨4, _⟩ => ⟨S3x2816, .f32⟩
  | .hbm, ⟨5, _⟩ => ⟨S2816x1024, .f32⟩
  | .hbm, ⟨6, _⟩ => ⟨S16x6144, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S16x1x1024, .f32⟩
  | .hbm, ⟨14, _⟩ => ⟨S16x1x1024, .f32⟩
  | .hbm, ⟨15, _⟩ => ⟨S16x1x1024, .f32⟩
  | .hbm, ⟨16, _⟩ => ⟨S16x1x1024, .f32⟩
  | .hbm, ⟨17, _⟩ => ⟨S16x1x1024, .f32⟩
  | .hbm, ⟨18, _⟩ => ⟨S16x1x1024, .f32⟩
  | .hbm, ⟨19, _⟩ => ⟨S16x2048x1024, .f32⟩
  | .hbm, ⟨20, _⟩ => ⟨S_, .f32⟩
  | .hbm, ⟨21, _⟩ => ⟨S16x2048, .f32⟩
  | .hbm, ⟨22, _⟩ => ⟨S16x2048x1, .f32⟩
  | .hbm, ⟨23, _⟩ => ⟨S_, .f32⟩
  | .hbm, ⟨24, _⟩ => ⟨S16x2048x1, .f32⟩
  | .hbm, ⟨25, _⟩ => ⟨S16x2048x1, .f32⟩
  | .hbm, ⟨26, _⟩ => ⟨S_, .f32⟩
  | .hbm, ⟨27, _⟩ => ⟨S16x2048x1, .f32⟩
  | .hbm, ⟨28, _⟩ => ⟨S16x2048x1, .f32⟩
  | .hbm, ⟨29, _⟩ => ⟨S16x2048x1, .f32⟩
  | .hbm, ⟨30, _⟩ => ⟨S16x2048x1024, .f32⟩
  | .hbm, ⟨31, _⟩ => ⟨S16x2048x1024, .f32⟩
  | .hbm, ⟨32, _⟩ => ⟨S1x1x1024, .f32⟩
  | .hbm, ⟨33, _⟩ => ⟨S16x2048x1024, .f32⟩
  | .hbm, ⟨34, _⟩ => ⟨S16x2048x1024, .f32⟩
  | .hbm, ⟨35, _⟩ => ⟨S_, .f32⟩
  | .hbm, ⟨36, _⟩ => ⟨S16x1x1024, .f32⟩
  | .hbm, ⟨37, _⟩ => ⟨S16x1x1024, .f32⟩
  | .hbm, ⟨38, _⟩ => ⟨S16x2048x1024, .f32⟩
  | .hbm, ⟨39, _⟩ => ⟨S16x2048x1024, .f32⟩
  | .hbm, ⟨40, _⟩ => ⟨S16x2048x1024, .f32⟩
  | .hbm, ⟨41, _⟩ => ⟨S16x2048x1024, .f32⟩
  | .hbm, ⟨42, _⟩ => ⟨S16x2048x5632, .f32⟩
  | .hbm, ⟨43, _⟩ => ⟨S16x2048x2816, .f32⟩
  | .hbm, ⟨44, _⟩ => ⟨S16x2048x2816, .f32⟩
  | .hbm, ⟨45, _⟩ => ⟨S_, .i32⟩
  | .hbm, ⟨46, _⟩ => ⟨S_, .f32⟩
  | .hbm, ⟨47, _⟩ => ⟨S16x2050x2816, .f32⟩
  | .hbm, ⟨48, _⟩ => ⟨S16x2048x2816, .f32⟩
  | .hbm, ⟨49, _⟩ => ⟨S1x2816, .f32⟩
  | .hbm, ⟨50, _⟩ => ⟨S2816, .f32⟩
  | .hbm, ⟨51, _⟩ => ⟨S1x1x2816, .f32⟩
  | .hbm, ⟨52, _⟩ => ⟨S16x2048x2816, .f32⟩
  | .hbm, ⟨53, _⟩ => ⟨S16x2048x2816, .f32⟩
  | .hbm, ⟨54, _⟩ => ⟨S16x2048x2816, .f32⟩
  | .hbm, ⟨55, _⟩ => ⟨S1x2816, .f32⟩
  | .hbm, ⟨56, _⟩ => ⟨S2816, .f32⟩
  | .hbm, ⟨57, _⟩ => ⟨S1x1x2816, .f32⟩
  | .hbm, ⟨58, _⟩ => ⟨S16x2048x2816, .f32⟩
  | .hbm, ⟨59, _⟩ => ⟨S16x2048x2816, .f32⟩
  | .hbm, ⟨60, _⟩ => ⟨S16x2048x2816, .f32⟩
  | .hbm, ⟨61, _⟩ => ⟨S16x2048x2816, .f32⟩
  | .hbm, ⟨62, _⟩ => ⟨S1x2816, .f32⟩
  | .hbm, ⟨63, _⟩ => ⟨S2816, .f32⟩
  | .hbm, ⟨64, _⟩ => ⟨S1x1x2816, .f32⟩
  | .hbm, ⟨65, _⟩ => ⟨S16x2048x2816, .f32⟩
  | .hbm, ⟨66, _⟩ => ⟨S16x2048x2816, .f32⟩
  | .hbm, ⟨67, _⟩ => ⟨S16x2048x2816, .f32⟩
  | .hbm, ⟨68, _⟩ => ⟨S16x2048x2816, .f32⟩
  | .hbm, ⟨69, _⟩ => ⟨S16x2048x2816, .f32⟩
  | .hbm, ⟨70, _⟩ => ⟨S_, .f32⟩
  | .hbm, ⟨71, _⟩ => ⟨S16x2048x2816, .f32⟩
  | .hbm, ⟨72, _⟩ => ⟨S16x2048x2816, .f32⟩
  | .hbm, ⟨73, _⟩ => ⟨S_, .f32⟩
  | .hbm, ⟨74, _⟩ => ⟨S16x2048x2816, .f32⟩
  | .hbm, ⟨75, _⟩ => ⟨S16x2048x2816, .f32⟩
  | .hbm, ⟨76, _⟩ => ⟨S16x2048x2816, .f32⟩
  | .hbm, ⟨77, _⟩ => ⟨S16x2048x2816, .f32⟩
  | .hbm, ⟨78, _⟩ => ⟨S16x2048x1024, .f32⟩
  | .hbm, ⟨79, _⟩ => ⟨S16x2048x1024, .f32⟩
  | .hbm, ⟨80, _⟩ => ⟨S16x2048x1024, .f32⟩
  | .hbm, ⟨81, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c : Ref sig .tc := ⟨.hbm, 45, rfl⟩
abbrev main_call0_v0 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_call1_v0 : Ref sig .tc := ⟨.hbm, 68, rfl⟩
abbrev main_call1_v1 : Ref sig .tc := ⟨.hbm, 69, rfl⟩
abbrev main_call1_cst : Ref sig .tc := ⟨.hbm, 70, rfl⟩
abbrev main_call1_v2 : Ref sig .tc := ⟨.hbm, 71, rfl⟩
abbrev main_call1_v3 : Ref sig .tc := ⟨.hbm, 72, rfl⟩
abbrev main_call1_cst_0 : Ref sig .tc := ⟨.hbm, 73, rfl⟩
abbrev main_call1_v4 : Ref sig .tc := ⟨.hbm, 74, rfl⟩
abbrev main_call1_v5 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]
-- ==== Kernel6.lean ====
abbrev S16x256x1024 : Shape := ⟨3, ![16, 256, 1024]⟩
abbrev S1024 : Shape := ⟨1, ![1024]⟩
abbrev S24x6144 : Shape := ⟨2, ![24, 6144]⟩
abbrev S1024x5632 : Shape := ⟨2, ![1024, 5632]⟩
abbrev S3x2816 : Shape := ⟨2, ![3, 2816]⟩
abbrev S2816x1024 : Shape := ⟨2, ![2816, 1024]⟩
abbrev S24x1x6144 : Shape := ⟨3, ![24, 1, 6144]⟩
abbrev S1024x2816 : Shape := ⟨2, ![1024, 2816]⟩
abbrev S1024x2x1408 : Shape := ⟨3, ![1024, 2, 1408]⟩
abbrev S2x1024x1408 : Shape := ⟨3, ![2, 1024, 1408]⟩
abbrev S2x1408x1024 : Shape := ⟨3, ![2, 1408, 1024]⟩
abbrev S3x2x1408 : Shape := ⟨3, ![3, 2, 1408]⟩
abbrev S2x3x1408 : Shape := ⟨3, ![2, 3, 1408]⟩
abbrev S1x1024 : Shape := ⟨2, ![1, 1024]⟩
abbrev S1x256x1024 : Shape := ⟨3, ![1, 256, 1024]⟩
abbrev S1x16x1024 : Shape := ⟨3, ![1, 16, 1024]⟩
abbrev S1x1x1024 : Shape := ⟨3, ![1, 1, 1024]⟩
abbrev S288x1024 : Shape := ⟨2, ![288, 1024]⟩
abbrev S288x1408 : Shape := ⟨2, ![288, 1408]⟩
abbrev S256x1024 : Shape := ⟨2, ![256, 1024]⟩
abbrev S16x1024 : Shape := ⟨2, ![16, 1024]⟩
abbrev S16 : Shape := ⟨1, ![16]⟩
abbrev S16x1 : Shape := ⟨2, ![16, 1]⟩
abbrev S256 : Shape := ⟨1, ![256]⟩
abbrev S256x1 : Shape := ⟨2, ![256, 1]⟩
abbrev S1x1024x1408 : Shape := ⟨3, ![1, 1024, 1408]⟩
abbrev S1024x1408 : Shape := ⟨2, ![1024, 1408]⟩
abbrev S1x3x1408 : Shape := ⟨3, ![1, 3, 1408]⟩
abbrev S3x1408 : Shape := ⟨2, ![3, 1408]⟩
abbrev S256x1408 : Shape := ⟨2, ![256, 1408]⟩
abbrev S1x1408 : Shape := ⟨2, ![1, 1408]⟩
abbrev S1x1408x1024 : Shape := ⟨3, ![1, 1408, 1024]⟩
abbrev S1408x1024 : Shape := ⟨2, ![1408, 1024]⟩

abbrev nBuf : Space → Nat
  | .hbm => 21
  | .vmem => 18
  | .smem => 0
  | _ => 0

abbrev bufTy : (tb : Table) → Fin (tcTables nBuf tb) → BufTy
  | .hbm, ⟨0, _⟩ => ⟨S16x256x1024, .f32⟩
  | .hbm, ⟨1, _⟩ => ⟨S1024, .f32⟩
  | .hbm, ⟨2, _⟩ => ⟨S24x6144, .f32⟩
  | .hbm, ⟨3, _⟩ => ⟨S1024x5632, .f32⟩
  | .hbm, ⟨4, _⟩ => ⟨S3x2816, .f32⟩
  | .hbm, ⟨5, _⟩ => ⟨S2816x1024, .f32⟩
  | .hbm, ⟨6, _⟩ => ⟨S24x1x6144, .f32⟩
  | .hbm, ⟨7, _⟩ => ⟨S1024x2816, .f32⟩
  | .hbm, ⟨8, _⟩ => ⟨S1024x2816, .bf16⟩
  | .hbm, ⟨9, _⟩ => ⟨S1024x2x1408, .bf16⟩
  | .hbm, ⟨10, _⟩ => ⟨S2x1024x1408, .bf16⟩
  | .hbm, ⟨11, _⟩ => ⟨S1024x2816, .f32⟩
  | .hbm, ⟨12, _⟩ => ⟨S1024x2816, .bf16⟩
  | .hbm, ⟨13, _⟩ => ⟨S1024x2x1408, .bf16⟩
  | .hbm, ⟨14, _⟩ => ⟨S2x1024x1408, .bf16⟩
  | .hbm, ⟨15, _⟩ => ⟨S2816x1024, .bf16⟩
  | .hbm, ⟨16, _⟩ => ⟨S2x1408x1024, .bf16⟩
  | .hbm, ⟨17, _⟩ => ⟨S3x2x1408, .f32⟩
  | .hbm, ⟨18, _⟩ => ⟨S2x3x1408, .f32⟩
  | .hbm, ⟨19, _⟩ => ⟨S1x1024, .f32⟩
  | .hbm, ⟨20, _⟩ => ⟨S16x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S2x1024x1408, .bf16⟩
  | .local _ .vmem, ⟨11, _⟩ => ⟨S2x1024x1408, .bf16⟩
  | .local _ .vmem, ⟨12, _⟩ => ⟨S2x3x1408, .f32⟩
  | .local _ .vmem, ⟨13, _⟩ => ⟨S2x1408x1024, .bf16⟩
  | .local _ .vmem, ⟨14, _⟩ => ⟨S1x256x1024, .f32⟩
  | .local _ .vmem, ⟨15, _⟩ => ⟨S1x256x1024, .f32⟩
  | .local _ .vmem, ⟨16, _⟩ => ⟨S288x1024, .bf16⟩
  | .local _ .vmem, ⟨17, _⟩ => ⟨S288x1408, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c15_i32 : BitVec 32 := 15#32
  let v2 : BitVec 32 := Scalar.minsi v1 c15_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let c3_i32 : BitVec 32 := 3#32
  let c0_i32_0 : BitVec 32 := 0#32
  ![c16_i32.toNat, c0_i32.toNat, c3_i32.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let c4_i32 : BitVec 32 := 4#32
  let c0_i32_0 : BitVec 32 := 0#32
  ![c16_i32.toNat, c0_i32.toNat, c4_i32.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let c5_i32 : BitVec 32 := 5#32
  let c0_i32_0 : BitVec 32 := 0#32
  ![c16_i32.toNat, c0_i32.toNat, c5_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x1024x1408 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2x1024x1408 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2x3x1408 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2x1408x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference6Ideal.lean ====
abbrev S16x256x1024 : Shape := ⟨3, ![16, 256, 1024]⟩
abbrev S1024 : Shape := ⟨1, ![1024]⟩
abbrev S24x6144 : Shape := ⟨2, ![24, 6144]⟩
abbrev S1024x5632 : Shape := ⟨2, ![1024, 5632]⟩
abbrev S3x2816 : Shape := ⟨2, ![3, 2816]⟩
abbrev S2816x1024 : Shape := ⟨2, ![2816, 1024]⟩
abbrev S1x6144 : Shape := ⟨2, ![1, 6144]⟩
abbrev S6144 : Shape := ⟨1, ![6144]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S16x256x5632 : Shape := ⟨3, ![16, 256, 5632]⟩
abbrev S16x256x2816 : Shape := ⟨3, ![16, 256, 2816]⟩
abbrev S16x258x2816 : Shape := ⟨3, ![16, 258, 2816]⟩
abbrev S1x2816 : Shape := ⟨2, ![1, 2816]⟩
abbrev S2816 : Shape := ⟨1, ![2816]⟩
abbrev S1x1x2816 : Shape := ⟨3, ![1, 1, 2816]⟩

abbrev nBuf : Space → Nat
  | .hbm => 80
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1024, .f32⟩
  | .hbm, ⟨2, _⟩ => ⟨S24x6144, .f32⟩
  | .hbm, ⟨3, _⟩ => ⟨S1024x5632, .f32⟩
  | .hbm, ⟨4, _⟩ => ⟨S3x2816, .f32⟩
  | .hbm, ⟨5, _⟩ => ⟨S2816x1024, .f32⟩
  | .hbm, ⟨6, _⟩ => ⟨S1x6144, .f32⟩
  | .hbm, ⟨7, _⟩ => ⟨S6144, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S16x256x1024, .f32⟩
  | .hbm, ⟨15, _⟩ => ⟨S_, .f32⟩
  | .hbm, ⟨16, _⟩ => ⟨S16x256, .f32⟩
  | .hbm, ⟨17, _⟩ => ⟨S16x256x1, .f32⟩
  | .hbm, ⟨18, _⟩ => ⟨S_, .f32⟩
  | .hbm, ⟨19, _⟩ => ⟨S16x256x1, .f32⟩
  | .hbm, ⟨20, _⟩ => ⟨S16x256x1, .f32⟩
  | .hbm, ⟨21, _⟩ => ⟨S_, .f32⟩
  | .hbm, ⟨22, _⟩ => ⟨S16x256x1, .f32⟩
  | .hbm, ⟨23, _⟩ => ⟨S16x256x1, .f32⟩
  | .hbm, ⟨24, _⟩ => ⟨S16x256x1, .f32⟩
  | .hbm, ⟨25, _⟩ => ⟨S16x256x1024, .f32⟩
  | .hbm, ⟨26, _⟩ => ⟨S16x256x1024, .f32⟩
  | .hbm, ⟨27, _⟩ => ⟨S1x1x1024, .f32⟩
  | .hbm, ⟨28, _⟩ => ⟨S16x256x1024, .f32⟩
  | .hbm, ⟨29, _⟩ => ⟨S16x256x1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1x1x1024, .f32⟩
  | .hbm, ⟨34, _⟩ => ⟨S16x256x1024, .f32⟩
  | .hbm, ⟨35, _⟩ => ⟨S16x256x1024, .f32⟩
  | .hbm, ⟨36, _⟩ => ⟨S1x1x1024, .f32⟩
  | .hbm, ⟨37, _⟩ => ⟨S16x256x1024, .f32⟩
  | .hbm, ⟨38, _⟩ => ⟨S16x256x1024, .f32⟩
  | .hbm, ⟨39, _⟩ => ⟨S16x256x5632, .f32⟩
  | .hbm, ⟨40, _⟩ => ⟨S16x256x2816, .f32⟩
  | .hbm, ⟨41, _⟩ => ⟨S16x256x2816, .f32⟩
  | .hbm, ⟨42, _⟩ => ⟨S_, .i32⟩
  | .hbm, ⟨43, _⟩ => ⟨S_, .f32⟩
  | .hbm, ⟨44, _⟩ => ⟨S16x258x2816, .f32⟩
  | .hbm, ⟨45, _⟩ => ⟨S16x256x2816, .f32⟩
  | .hbm, ⟨46, _⟩ => ⟨S1x2816, .f32⟩
  | .hbm, ⟨47, _⟩ => ⟨S2816, .f32⟩
  | .hbm, ⟨48, _⟩ => ⟨S1x1x2816, .f32⟩
  | .hbm, ⟨49, _⟩ => ⟨S16x256x2816, .f32⟩
  | .hbm, ⟨50, _⟩ => ⟨S16x256x2816, .f32⟩
  | .hbm, ⟨51, _⟩ => ⟨S16x256x2816, .f32⟩
  | .hbm, ⟨52, _⟩ => ⟨S1x2816, .f32⟩
  | .hbm, ⟨53, _⟩ => ⟨S2816, .f32⟩
  | .hbm, ⟨54, _⟩ => ⟨S1x1x2816, .f32⟩
  | .hbm, ⟨55, _⟩ => ⟨S16x256x2816, .f32⟩
  | .hbm, ⟨56, _⟩ => ⟨S16x256x2816, .f32⟩
  | .hbm, ⟨57, _⟩ => ⟨S16x256x2816, .f32⟩
  | .hbm, ⟨58, _⟩ => ⟨S16x256x2816, .f32⟩
  | .hbm, ⟨59, _⟩ => ⟨S1x2816, .f32⟩
  | .hbm, ⟨60, _⟩ => ⟨S2816, .f32⟩
  | .hbm, ⟨61, _⟩ => ⟨S1x1x2816, .f32⟩
  | .hbm, ⟨62, _⟩ => ⟨S16x256x2816, .f32⟩
  | .hbm, ⟨63, _⟩ => ⟨S16x256x2816, .f32⟩
  | .hbm, ⟨64, _⟩ => ⟨S16x256x2816, .f32⟩
  | .hbm, ⟨65, _⟩ => ⟨S16x256x2816, .f32⟩
  | .hbm, ⟨66, _⟩ => ⟨S16x256x2816, .f32⟩
  | .hbm, ⟨67, _⟩ => ⟨S_, .f32⟩
  | .hbm, ⟨68, _⟩ => ⟨S16x256x2816, .f32⟩
  | .hbm, ⟨69, _⟩ => ⟨S16x256x2816, .f32⟩
  | .hbm, ⟨70, _⟩ => ⟨S_, .f32⟩
  | .hbm, ⟨71, _⟩ => ⟨S16x256x2816, .f32⟩
  | .hbm, ⟨72, _⟩ => ⟨S16x256x2816, .f32⟩
  | .hbm, ⟨73, _⟩ => ⟨S16x256x2816, .f32⟩
  | .hbm, ⟨74, _⟩ => ⟨S16x256x2816, .f32⟩
  | .hbm, ⟨75, _⟩ => ⟨S16x256x1024, .f32⟩
  | .hbm, ⟨76, _⟩ => ⟨S1x1x1024, .f32⟩
  | .hbm, ⟨77, _⟩ => ⟨S16x256x1024, .f32⟩
  | .hbm, ⟨78, _⟩ => ⟨S16x256x1024, .f32⟩
  | .hbm, ⟨79, _⟩ => ⟨S16x256x1024, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c : Ref sig .tc := ⟨.hbm, 42, rfl⟩
abbrev main_call0_v0 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_call1_v0 : Ref sig .tc := ⟨.hbm, 65, rfl⟩
abbrev main_call1_v1 : Ref sig .tc := ⟨.hbm, 66, rfl⟩
abbrev main_call1_cst : Ref sig .tc := ⟨.hbm, 67, rfl⟩
abbrev main_call1_v2 : Ref sig .tc := ⟨.hbm, 68, rfl⟩
abbrev main_call1_v3 : Ref sig .tc := ⟨.hbm, 69, rfl⟩
abbrev main_call1_cst_0 : Ref sig .tc := ⟨.hbm, 70, rfl⟩
abbrev main_call1_v4 : Ref sig .tc := ⟨.hbm, 71, rfl⟩
abbrev main_call1_v5 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩

abbrev nD : Nat := 1
abbrev τ : Topo := Topo.v7x

variable {F : FTy → Type} [FloatOps F]
-- ==== Kernel7.lean ====
abbrev S16x256x1024 : Shape := ⟨3, ![16, 256, 1024]⟩
abbrev S1024 : Shape := ⟨1, ![1024]⟩
abbrev S24x6144 : Shape := ⟨2, ![24, 6144]⟩
abbrev S1024x2304 : Shape := ⟨2, ![1024, 2304]⟩
abbrev S24x1x6144 : Shape := ⟨3, ![24, 1, 6144]⟩
abbrev S1x1024 : Shape := ⟨2, ![1, 1024]⟩
abbrev S16x256x2304 : Shape := ⟨3, ![16, 256, 2304]⟩
abbrev S1x256x1024 : Shape := ⟨3, ![1, 256, 1024]⟩
abbrev S1x1x1024 : Shape := ⟨3, ![1, 1, 1024]⟩
abbrev S1x256x2304 : Shape := ⟨3, ![1, 256, 2304]⟩
abbrev S256x1024 : Shape := ⟨2, ![256, 1024]⟩
abbrev S256 : Shape := ⟨1, ![256]⟩
abbrev S256x1 : Shape := ⟨2, ![256, 1]⟩
abbrev S256x2304 : Shape := ⟨2, ![256, 2304]⟩
abbrev S256x1536 : Shape := ⟨2, ![256, 1536]⟩
abbrev S1x256x1536 : Shape := ⟨3, ![1, 256, 1536]⟩
abbrev S256x256 : Shape := ⟨2, ![256, 256]⟩
abbrev S1x256x256 : Shape := ⟨3, ![1, 256, 256]⟩

abbrev nBuf : Space → Nat
  | .hbm => 8
  | .vmem => 8
  | .smem => 0
  | _ => 0

abbrev bufTy : (tb : Table) → Fin (tcTables nBuf tb) → BufTy
  | .hbm, ⟨0, _⟩ => ⟨S16x256x1024, .f32⟩
  | .hbm, ⟨1, _⟩ => ⟨S1024, .f32⟩
  | .hbm, ⟨2, _⟩ => ⟨S24x6144, .f32⟩
  | .hbm, ⟨3, _⟩ => ⟨S1024x2304, .f32⟩
  | .hbm, ⟨4, _⟩ => ⟨S24x1x6144, .f32⟩
  | .hbm, ⟨5, _⟩ => ⟨S1024x2304, .bf16⟩
  | .hbm, ⟨6, _⟩ => ⟨S1x1024, .f32⟩
  | .hbm, ⟨7, _⟩ => ⟨S16x256x2304, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1024x2304, .bf16⟩
  | .local _ .vmem, ⟨6, _⟩ => ⟨S1x256x2304, .bf16⟩
  | .local _ .vmem, ⟨7, _⟩ => ⟨S1x256x2304, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![1, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let c0_i32_0 : BitVec 32 := 0#32
  let c0_i32_1 : BitVec 32 := 0#32
  ![c16_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let c1_i32 : BitVec 32 := 1#32
  let c0_i32_0 : BitVec 32 := 0#32
  ![c16_i32.toNat, c0_i32.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2304 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x2304 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S16x256x1024 : Shape := ⟨3, ![16, 256, 1024]⟩
abbrev S1024 : Shape := ⟨1, ![1024]⟩
abbrev S24x6144 : Shape := ⟨2, ![24, 6144]⟩
abbrev S1024x2304 : Shape := ⟨2, ![1024, 2304]⟩
abbrev S1x6144 : Shape := ⟨2, ![1, 6144]⟩
abbrev S6144 : Shape := ⟨1, ![6144]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S1024x512 : Shape := ⟨2, ![1024, 512]⟩
abbrev S16x256x512 : Shape := ⟨3, ![16, 256, 512]⟩
abbrev S1024x1792 : Shape := ⟨2, ![1024, 1792]⟩
abbrev S16x256x1792 : Shape := ⟨3, ![16, 256, 1792]⟩
abbrev S16x256x2304 : Shape := ⟨3, ![16, 256, 2304]⟩

abbrev nBuf : Space → Nat
  | .hbm => 43
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1024, .f32⟩
  | .hbm, ⟨2, _⟩ => ⟨S24x6144, .f32⟩
  | .hbm, ⟨3, _⟩ => ⟨S1024x2304, .f32⟩
  | .hbm, ⟨4, _⟩ => ⟨S1x6144, .f32⟩
  | .hbm, ⟨5, _⟩ => ⟨S6144, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S16x256x1024, .f32⟩
  | .hbm, ⟨13, _⟩ => ⟨S_, .f32⟩
  | .hbm, ⟨14, _⟩ => ⟨S16x256, .f32⟩
  | .hbm, ⟨15, _⟩ => ⟨S16x256x1, .f32⟩
  | .hbm, ⟨16, _⟩ => ⟨S_, .f32⟩
  | .hbm, ⟨17, _⟩ => ⟨S16x256x1, .f32⟩
  | .hbm, ⟨18, _⟩ => ⟨S16x256x1, .f32⟩
  | .hbm, ⟨19, _⟩ => ⟨S_, .f32⟩
  | .hbm, ⟨20, _⟩ => ⟨S16x256x1, .f32⟩
  | .hbm, ⟨21, _⟩ => ⟨S16x256x1, .f32⟩
  | .hbm, ⟨22, _⟩ => ⟨S16x256x1, .f32⟩
  | .hbm, ⟨23, _⟩ => ⟨S16x256x1024, .f32⟩
  | .hbm, ⟨24, _⟩ => ⟨S16x256x1024, .f32⟩
  | .hbm, ⟨25, _⟩ => ⟨S1x1x1024, .f32⟩
  | .hbm, ⟨26, _⟩ => ⟨S16x256x1024, .f32⟩
  | .hbm, ⟨27, _⟩ => ⟨S16x256x1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1x1x1024, .f32⟩
  | .hbm, ⟨32, _⟩ => ⟨S16x256x1024, .f32⟩
  | .hbm, ⟨33, _⟩ => ⟨S16x256x1024, .f32⟩
  | .hbm, ⟨34, _⟩ => ⟨S1x1x1024, .f32⟩
  | .hbm, ⟨35, _⟩ => ⟨S16x256x1024, .f32⟩
  | .hbm, ⟨36, _⟩ => ⟨S16x256x1024, .f32⟩
  | .hbm, ⟨37, _⟩ => ⟨S1024x512, .f32⟩
  | .hbm, ⟨38, _⟩ => ⟨S16x256x512, .f32⟩
  | .hbm, ⟨39, _⟩ => ⟨S1024x1792, .f32⟩
  | .hbm, ⟨40, _⟩ => ⟨S16x256x1792, .f32⟩
  | .hbm, ⟨41, _⟩ => ⟨S16x256x2304, .f32⟩
  | .hbm, ⟨42, _⟩ => ⟨S16x256x2304, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩

abbrev nD : Nat := 1
abbrev τ : Topo := Topo.v7x

variable {F : FTy → Type} [FloatOps F]
-- ==== Kernel8.lean ====
abbrev S16x256x1024 : Shape := ⟨3, ![16, 256, 1024]⟩
abbrev S16x256x768 : Shape := ⟨3, ![16, 256, 768]⟩
abbrev S16x256x256 : Shape := ⟨3, ![16, 256, 256]⟩
abbrev S1024x1024 : Shape := ⟨2, ![1024, 1024]⟩
abbrev S24x6144 : Shape := ⟨2, ![24, 6144]⟩
abbrev S24x1x6144 : Shape := ⟨3, ![24, 1, 6144]⟩
abbrev S1x256x1024 : Shape := ⟨3, ![1, 256, 1024]⟩
abbrev S1x256x768 : Shape := ⟨3, ![1, 256, 768]⟩
abbrev S1x256x256 : Shape := ⟨3, ![1, 256, 256]⟩
abbrev S1x1x1024 : Shape := ⟨3, ![1, 1, 1024]⟩
abbrev S256x768 : Shape := ⟨2, ![256, 768]⟩
abbrev S768x1024 : Shape := ⟨2, ![768, 1024]⟩
abbrev S256x1024 : Shape := ⟨2, ![256, 1024]⟩
abbrev S256x256 : Shape := ⟨2, ![256, 256]⟩
abbrev S1x1024 : Shape := ⟨2, ![1, 1024]⟩

abbrev nBuf : Space → Nat
  | .hbm => 8
  | .vmem => 10
  | .smem => 0
  | _ => 0

abbrev bufTy : (tb : Table) → Fin (tcTables nBuf tb) → BufTy
  | .hbm, ⟨0, _⟩ => ⟨S16x256x1024, .f32⟩
  | .hbm, ⟨1, _⟩ => ⟨S16x256x768, .bf16⟩
  | .hbm, ⟨2, _⟩ => ⟨S16x256x256, .bf16⟩
  | .hbm, ⟨3, _⟩ => ⟨S1024x1024, .f32⟩
  | .hbm, ⟨4, _⟩ => ⟨S24x6144, .f32⟩
  | .hbm, ⟨5, _⟩ => ⟨S24x1x6144, .f32⟩
  | .hbm, ⟨6, _⟩ => ⟨S1024x1024, .bf16⟩
  | .hbm, ⟨7, _⟩ => ⟨S16x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x768, .bf16⟩
  | .local _ .vmem, ⟨3, _⟩ => ⟨S1x256x768, .bf16⟩
  | .local _ .vmem, ⟨4, _⟩ => ⟨S1x256x256, .bf16⟩
  | .local _ .vmem, ⟨5, _⟩ => ⟨S1x256x256, .bf16⟩
  | .local _ .vmem, ⟨6, _⟩ => ⟨S1024x1024, .bf16⟩
  | .local _ .vmem, ⟨7, _⟩ => ⟨S1x1x1024, .f32⟩
  | .local _ .vmem, ⟨8, _⟩ => ⟨S1x256x1024, .f32⟩
  | .local _ .vmem, ⟨9, _⟩ => ⟨S1x256x1024, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let c2_i32 : BitVec 32 := 2#32
  let c0_i32_0 : BitVec 32 := 0#32
  ![c16_i32.toNat, c0_i32.toNat, c2_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference8Ideal.lean ====
abbrev S16x256x1024 : Shape := ⟨3, ![16, 256, 1024]⟩
abbrev S16x256x768 : Shape := ⟨3, ![16, 256, 768]⟩
abbrev S16x256x256 : Shape := ⟨3, ![16, 256, 256]⟩
abbrev S1024x1024 : Shape := ⟨2, ![1024, 1024]⟩
abbrev S24x6144 : Shape := ⟨2, ![24, 6144]⟩
abbrev S1x6144 : Shape := ⟨2, ![1, 6144]⟩
abbrev S6144 : Shape := ⟨1, ![6144]⟩
abbrev S1024 : Shape := ⟨1, ![1024]⟩
abbrev S1x1x1024 : Shape := ⟨3, ![1, 1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S16x256x768, .bf16⟩
  | .hbm, ⟨2, _⟩ => ⟨S16x256x256, .bf16⟩
  | .hbm, ⟨3, _⟩ => ⟨S1024x1024, .f32⟩
  | .hbm, ⟨4, _⟩ => ⟨S24x6144, .f32⟩
  | .hbm, ⟨5, _⟩ => ⟨S1x6144, .f32⟩
  | .hbm, ⟨6, _⟩ => ⟨S6144, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S16x256x1024, .bf16⟩
  | .hbm, ⟨14, _⟩ => ⟨S16x256x1024, .f32⟩
  | .hbm, ⟨15, _⟩ => ⟨S16x256x1024, .f32⟩
  | .hbm, ⟨16, _⟩ => ⟨S1x1x1024, .f32⟩
  | .hbm, ⟨17, _⟩ => ⟨S16x256x1024, .f32⟩
  | .hbm, ⟨18, _⟩ => ⟨S16x256x1024, .f32⟩
  | .hbm, ⟨19, _⟩ => ⟨S16x256x1024, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel9.lean ====
abbrev S24x1024 : Shape := ⟨2, ![24, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x24x6144 : Shape := ⟨3, ![2, 24, 6144]⟩
abbrev S1x1024x1024 : Shape := ⟨3, ![1, 1024, 1024]⟩
abbrev S1x1x1024 : Shape := ⟨3, ![1, 1, 1024]⟩
abbrev S1x24x1024 : Shape := ⟨3, ![1, 24, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S24x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x24x6144, .f32⟩
  | .local _ .vmem, ⟨0, _⟩ => ⟨S24x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x24x1024, .f32⟩
  | .local _ .vmem, ⟨6, _⟩ => ⟨S1x24x1024, .f32⟩
  | _, _ => ⟨S24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x24x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S24x1024 : Shape := ⟨2, ![24, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S24x6144 : Shape := ⟨2, ![24, 6144]⟩
abbrev S1x6144 : Shape := ⟨2, ![1, 6144]⟩
abbrev S6144 : Shape := ⟨1, ![6144]⟩
abbrev S1x24x6144 : Shape := ⟨3, ![1, 24, 6144]⟩
abbrev S2x24x6144 : Shape := ⟨3, ![2, 24, 6144]⟩

abbrev nBuf : Space → Nat
  | .hbm => 40
  | .vmem => 0
  | .smem => 0
  | _ => 0

abbrev bufTy : (tb : Table) → Fin (tcTables nBuf tb) → BufTy
  | .hbm, ⟨0, _⟩ => ⟨S24x1024, .f32⟩
  | .hbm, ⟨1, _⟩ => ⟨S2x1024x6144, .f32⟩
  | .hbm, ⟨2, _⟩ => ⟨S2x6144, .f32⟩
  | .hbm, ⟨3, _⟩ => ⟨S24x1024, .f32⟩
  | .hbm, ⟨4, _⟩ => ⟨S24x1024, .f32⟩
  | .hbm, ⟨5, _⟩ => ⟨S_, .f32⟩
  | .hbm, ⟨6, _⟩ => ⟨S24x1024, .f32⟩
  | .hbm, ⟨7, _⟩ => ⟨S24x1024, .f32⟩
  | .hbm, ⟨8, _⟩ => ⟨S_, .f32⟩
  | .hbm, ⟨9, _⟩ => ⟨S24x1024, .f32⟩
  | .hbm, ⟨10, _⟩ => ⟨S24x1024, .f32⟩
  | .hbm, ⟨11, _⟩ => ⟨S24x1024, .f32⟩
  | .hbm, ⟨12, _⟩ => ⟨S1x1024x6144, .f32⟩
  | .hbm, ⟨13, _⟩ => ⟨S1024x6144, .f32⟩
  | .hbm, ⟨14, _⟩ => ⟨S24x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S24x6144, .f32⟩
  | .hbm, ⟨19, _⟩ => ⟨S24x6144, .f32⟩
  | .hbm, ⟨20, _⟩ => ⟨S24x1024, .f32⟩
  | .hbm, ⟨21, _⟩ => ⟨S24x1024, .f32⟩
  | .hbm, ⟨22, _⟩ => ⟨S_, .f32⟩
  | .hbm, ⟨23, _⟩ => ⟨S24x1024, .f32⟩
  | .hbm, ⟨24, _⟩ => ⟨S24x1024, .f32⟩
  | .hbm, ⟨25, _⟩ => ⟨S_, .f32⟩
  | .hbm, ⟨26, _⟩ => ⟨S24x1024, .f32⟩
  | .hbm, ⟨27, _⟩ => ⟨S24x1024, .f32⟩
  | .hbm, ⟨28, _⟩ => ⟨S24x1024, .f32⟩
  | .hbm, ⟨29, _⟩ => ⟨S1x1024x6144, .f32⟩
  | .hbm, ⟨30, _⟩ => ⟨S1024x6144, .f32⟩
  | .hbm, ⟨31, _⟩ => ⟨S24x6144, .f32⟩
  | .hbm, ⟨32, _⟩ => ⟨S1x6144, .f32⟩
  | .hbm, ⟨33, _⟩ => ⟨S6144, .f32⟩
  | .hbm, ⟨34, _⟩ => ⟨S1x6144, .f32⟩
  | .hbm, ⟨35, _⟩ => ⟨S24x6144, .f32⟩
  | .hbm, ⟨36, _⟩ => ⟨S24x6144, .f32⟩
  | .hbm, ⟨37, _⟩ => ⟨S1x24x6144, .f32⟩
  | .hbm, ⟨38, _⟩ => ⟨S1x24x6144, .f32⟩
  | .hbm, ⟨39, _⟩ => ⟨S2x24x6144, .f32⟩
  | _, _ => ⟨S24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Proof.Plain.lean ====
/-
The plain programs run to the end, leave their arguments as they were and every counter at zero.
-/
module

public import proofs.«01_k».proof.Defs
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import Idealize.ShloMosaic.Lib.Quiescent

@[expose] public section

noncomputable section

namespace Cert.Proof

open Idealize.ShloMosaic Idealize.SL.Sem

theorem plain_attention : Cert.quiescent_ReferenceIdeal := fun m g _ =>
  (θ_run _ _ _).mono (fun r h => ⟨fun c => (h c).2, sem_eq_zero_of_no_sems (by decide) r.2⟩)
    (Cert.ReferenceIdeal.Value.run m g)

theorem plain_ffn : Cert.quiescent_Reference2Ideal := fun m g _ =>
  (θ_run _ _ _).mono (fun r h => ⟨fun c => (h c).2, sem_eq_zero_of_no_sems (by decide) r.2⟩)
    (Cert.Reference2Ideal.Value.run m g)

theorem plain_in_proj : Cert.quiescent_Reference3Ideal := fun m g _ =>
  (θ_run _ _ _).mono (fun r h => ⟨fun c => (h c).2, sem_eq_zero_of_no_sems (by decide) r.2⟩)
    (Cert.Reference3Ideal.Value.run m g)

theorem plain_out_proj : Cert.quiescent_Reference4Ideal := fun m g _ =>
  (θ_run _ _ _).mono (fun r h => ⟨fun c => (h c).2, sem_eq_zero_of_no_sems (by decide) r.2⟩)
    (Cert.Reference4Ideal.Value.run m g)

theorem plain_ffn_one : Cert.quiescent_Reference5Ideal := fun m g _ =>
  (θ_run _ _ _).mono (fun r h => ⟨fun c => (h c).2, sem_eq_zero_of_no_sems (by decide) r.2⟩)
    (Cert.Reference5Ideal.Value.run m g)

theorem plain_ffn_ctx : Cert.quiescent_Reference6Ideal := fun m g _ =>
  (θ_run _ _ _).mono (fun r h => ⟨fun c => (h c).2, sem_eq_zero_of_no_sems (by decide) r.2⟩)
    (Cert.Reference6Ideal.Value.run m g)

theorem plain_in_proj_ctx : Cert.quiescent_Reference7Ideal := fun m g _ =>
  (θ_run _ _ _).mono (fun r h => ⟨fun c => (h c).2, sem_eq_zero_of_no_sems (by decide) r.2⟩)
    (Cert.Reference7Ideal.Value.run m g)

theorem plain_out_proj_ctx : Cert.quiescent_Reference8Ideal := fun m g _ =>
  (θ_run _ _ _).mono (fun r h => ⟨fun c => (h c).2, sem_eq_zero_of_no_sems (by decide) r.2⟩)
    (Cert.Reference8Ideal.Value.run m g)

theorem plain_adaln : Cert.quiescent_Reference9Ideal := fun m g _ =>
  (θ_run _ _ _).mono (fun r h => ⟨fun c => (h c).2, sem_eq_zero_of_no_sems (by decide) r.2⟩)
    (Cert.Reference9Ideal.Value.run m g)

end Cert.Proof

end
-- ==== Proof.Out.Value.lean ====
/-
The output projection: the value of the array the pipelined kernel leaves behind.

Each of the 64 grid points handles one block of 512 tokens of one sample: it multiplies the
attention-and-mixer part (768 lanes) and the depthwise part (256 lanes) with the two row slices of the
weight, gates the sum by the sample's `gamma1`, and adds the residual.  The plain program joins the two
parts and multiplies once.
-/
module

public import proofs.«01_k».proof.Defs
public import proofs.«01_k».proof.Proof.Gen.Kernel4Ideal.Value
public import proofs.«01_k».proof.Proof.Gen.Reference4Ideal
public import Idealize.ShloMosaic.Lib.Pipeline.ValueKit
public import Idealize.ShloMosaic.Lib.Claim

@[expose] public section

set_option maxRecDepth 16384

noncomputable section

namespace Cert.Kernel4Ideal.Hand

open Cert.Kernel4Ideal Cert.Kernel4Ideal.Gen Cert.Kernel4Ideal.Value
open Idealize.ShloMosaic Idealize.ShloMosaic.TcCoe Idealize.SL.Sem
open Idealize.ShloMosaic.Pipeline (Dat)

variable (m : (ℓ : Loc nD τ sig) → Buf (Elt Ideal) ℓ)

/-- The plain program's result, from its five arguments. -/
def result (x : FVec Ideal S16x2048x1024 .f32) (mabc : FVec Ideal S16x2048x768 .bf16)
    (md : FVec Ideal S16x2048x256 .bf16) (w : FVec Ideal S1024x1024 .f32) (mod : FVec Ideal S24x6144 .f32) :
    FVec Ideal S16x2048x1024 .f32 :=
  addf x (mulf (broadcastInDim S16x2048x1024 ![0, 1, 2] Cert.Reference4Ideal.Gen.bcast_S16x1x1024_S16x2048x1024_0_1_2 (broadcastInDim Cert.Reference4Ideal.S16x1x1024 ![0, 2] Cert.Reference4Ideal.Gen.bcast_S16x1024_S16x1x1024_0_2 (extractStridedSlice Cert.Reference4Ideal.S16x1024 ![0, 2048] (extractStridedSlice Cert.Reference4Ideal.S16x6144 ![0, 0] mod Cert.Reference4Ideal.Gen.slices_S24x6144_S16x6144_0_0) Cert.Reference4Ideal.Gen.slices_S16x6144_S16x1024_0_2048))) (Host.dotGeneral Cert.Reference4Ideal.dot_S16x2048x1024_S1024x1024_S16x2048x1024_2_0_01_1_n_n none (extf .f32 (concatenate S16x2048x1024 2 [⟨S16x2048x768, mabc⟩, ⟨S16x2048x256, md⟩] Cert.Reference4Ideal.Gen.concatenates_S16x2048x768_S16x2048x256_S16x2048x1024_d2) Cert.Reference4Ideal.Gen.bitsLt_bf16_f32) w))

/-- Where each grid point's blocks lie: samples by the second coordinate, token blocks by the first. -/
theorem idx : ∀ t : Fin cfg0.N,
    win0_0.index t = ![((grid0.coords t) 1).val, ((grid0.coords t) 0).val, 0]
    ∧ win0_1.index t = ![((grid0.coords t) 1).val, ((grid0.coords t) 0).val, 0]
    ∧ win0_2.index t = ![((grid0.coords t) 1).val, ((grid0.coords t) 0).val, 0]
    ∧ win0_3.index t = ![0, 0]
    ∧ win0_4.index t = ![((grid0.coords t) 1).val, 0, 2]
    ∧ win0_5.index t = ![((grid0.coords t) 1).val, ((grid0.coords t) 0).val, 0] :=
  (by decide +kernel : ∀ t : Fin grid0.N, _)

/-- The final array is the plain program's result. -/
theorem final (c : Dev nD) :
    (dats m 0 c).arrAt 5 cfg0.N = result (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  frame_out
  pointwise [k0_pay1, result]
  blk_point [iblk, V, idx t]

end Cert.Kernel4Ideal.Hand

end
-- ==== Proof.Out.Claim.lean ====
/-
The output projection: both programs, run from agreeing arguments, end with the same result.
-/
module

public import proofs.«01_k».proof.Defs
public import proofs.«01_k».proof.Proof.Out.Value
public import proofs.«01_k».proof.Proof.Gen.Reference4Ideal.Run

@[expose] public section

noncomputable section

namespace Cert.Proof

open Idealize.ShloMosaic Idealize.SL.Sem

theorem out_proj_equal : Cert.algebraic_Kernel4Ideal_Reference4Ideal := by
  pair_intro
  · run_from Cert.Kernel4Ideal.Gen.run_main m g
  · run_from Cert.Reference4Ideal.Value.run m' g'
    obtain ⟨-, h1, h2, -, -⟩ := hagree c
    have h := Cert.Kernel4Ideal.Hand.final m c
    rw [← h1, ← h2] at h
    exact h.symm

end Cert.Proof

end
-- ==== Proof.Ffn.Spec.lean ====
/-
The feed-forward part in scalar formulas over the extended reals.

Rows are functions of the model lane (1024) or of the hidden lane.  The token axis is counted from one:
position `0` and position `2049` are the zero rows that the convolution sees beyond the two ends of a
sample.
-/
module

public import Idealize.ShloMosaic.Lib.Pipeline.ValueKit

@[expose] public section

noncomputable section

namespace Cert.Ffn

open Idealize.ShloMosaic

/-- A row divided by the root of its mean square. -/
def nrm (f : Fin 1024 → EReal) (d : Fin 1024) : EReal :=
  f d * Ideal.rsqrt (Ideal.div (∑ k, f k * f k) (Ideal.ofBits .f32 0x44800000#32) + Ideal.ofBits .f32 0x358637BD#32)

/-- The normalized row with its gain, scaled and shifted. -/
def modu (f g sc sh : Fin 1024 → EReal) (d : Fin 1024) : EReal :=
  nrm f d * g d * (1 + sc d) + sh d

/-- A row times a matrix. -/
def proj {n : ℕ} (h : Fin 1024 → EReal) (w : Fin 1024 → Fin n → EReal) (j : Fin n) : EReal :=
  ∑ d, h d * w d j

/-- Three neighbouring rows with a weight each. -/
def conv (a0 a1 a2 w0 w1 w2 : EReal) : EReal := a0 * w0 + a1 * w1 + a2 * w2

/-- The gated hidden value: the logistic unit of the convolution times the second half of the projection. -/
def gated (v b : EReal) : EReal := v * Ideal.logistic v * b

/-- A zero row beyond both ends, the rows `f 0 … f 2047` at the positions `1 … 2048`. -/
def withEnds (f : Fin 2048 → Fin 1024 → EReal) (n : ℕ) (d : Fin 1024) : EReal :=
  if h : 1 ≤ n ∧ n - 1 < 2048 then f ⟨n - 1, h.2⟩ d else 0

end Cert.Ffn

end
-- ==== Proof.Ffn.Blocks.lean ====
/-
The payloads of the feed-forward kernel, each read at one index of its block.
-/
module

public import proofs.«01_k».proof.Proof.Ffn.Spec
public import proofs.«01_k».proof.Proof.Gen.Kernel2Ideal.Skeleton
public import Idealize.ShloMosaic.Lib.Claim

@[expose] public section

set_option maxRecDepth 16384

noncomputable section

namespace Cert.Ffn

open Cert.Kernel2Ideal Cert.Kernel2Ideal.Gen
open Idealize.ShloMosaic Idealize.ShloMosaic.TcCoe Idealize.SL.Sem

/-- The block's own rows. -/
theorem own_at (g : FVec Ideal S1x1024 .f32) (sh sc : FVec Ideal S1x1x1024 .f32) (x : FVec Ideal S1x512x1024 .f32)
    (r : Fin 512) (d : Fin 1024) :
    k0_pay7 (F := Ideal) (k0_pay2 g) (k0_pay3 sh) (k0_pay4 sc) (k0_pay5 x) (ix2 r d)
      = modu (fun k => x (ix3 0 r k)) (fun k => g (ix2 0 k)) (fun k => sc (ix3 0 0 k)) (fun k => sh (ix3 0 0 k)) d := by
  pointwise [k0_pay7, k0_pay2, k0_pay3, k0_pay4, k0_pay5, modu, nrm]

/-- The rows before the block. -/
theorem before_at (i : grid0.Coords) (g : FVec Ideal S1x1024 .f32) (sh sc : FVec Ideal S1x1x1024 .f32) (x : FVec Ideal S1x16x1024 .f32)
    (r : Fin 16) (d : Fin 1024) :
    k0_pay6 (F := Ideal) i g sh sc x (ix2 r d)
      = Scalar.select (Scalar.cmpi .sgt (BitVec.ofNat 32 (i 1).val) 0#32)
          (modu (fun k => x (ix3 0 r k)) (fun k => g (ix2 0 k)) (fun k => sc (ix3 0 0 k)) (fun k => sh (ix3 0 0 k)) d) 0 := by
  pointwise [k0_pay6, k0_pay2, k0_pay3, k0_pay4, modu, nrm]

/-- The rows after the block. -/
theorem after_at (p : BitVec 1) (g : FVec Ideal S1x1024 .f32) (sh sc : FVec Ideal S1x1x1024 .f32) (x : FVec Ideal S1x16x1024 .f32)
    (r : Fin 16) (d : Fin 1024) :
    k0_pay10 (F := Ideal) p (k0_pay8 (k0_pay2 g) (k0_pay3 sh) (k0_pay4 sc) x) k0_pay9 (ix2 r d)
      = Scalar.select p (modu (fun k => x (ix3 0 r k)) (fun k => g (ix2 0 k)) (fun k => sc (ix3 0 0 k)) (fun k => sh (ix3 0 0 k)) d) 0 := by
  pointwise [k0_pay10, k0_pay8, k0_pay9, k0_pay2, k0_pay3, k0_pay4, modu, nrm]

/-- The first chunk's projection. -/
theorem first_up_at (h : FVec Ideal S544x1024 .bf16) (w : FVec Ideal S1x1024x1408 .bf16) (r : Fin 544) (j : Fin 1408) :
    k0_pay12 (F := Ideal) h w (ix2 r j) = proj (fun k => h (ix2 r k)) (fun d j => w (ix3 0 d j)) j := by
  pointwise [k0_pay12, proj]

/-- The second chunk's projection. -/
theorem second_up_at (h : FVec Ideal S544x1024 .bf16) (w : FVec Ideal S1x1024x1408 .bf16) (r : Fin 544) (j : Fin 1408) :
    k0_pay16 (F := Ideal) h w (ix2 r j) = proj (fun k => h (ix2 r k)) (fun d j => w (ix3 0 d j)) j := by
  pointwise [k0_pay16, proj]

/-- The first chunk's convolution. -/
theorem first_conv_at (w : FVec Ideal S1x3x1408 .f32) (a0 a1 a2 : FVec Ideal S512x1408 .f32) (r : Fin 512) (j : Fin 1408) :
    k0_pay13 (F := Ideal) w a0 a1 a2 (ix2 r j) = conv (a0 (ix2 r j)) (a1 (ix2 r j)) (a2 (ix2 r j)) (w (ix3 0 0 j)) (w (ix3 0 1 j)) (w (ix3 0 2 j)) := by
  pointwise [k0_pay13, conv]

/-- The second chunk's convolution. -/
theorem second_conv_at (w : FVec Ideal S1x3x1408 .f32) (a0 a1 a2 : FVec Ideal S512x1408 .f32) (r : Fin 512) (j : Fin 1408) :
    k0_pay17 (F := Ideal) w a0 a1 a2 (ix2 r j) = conv (a0 (ix2 r j)) (a1 (ix2 r j)) (a2 (ix2 r j)) (w (ix3 0 0 j)) (w (ix3 0 1 j)) (w (ix3 0 2 j)) := by
  pointwise [k0_pay17, conv]

/-- The first chunk's part of the sum over the hidden lanes. -/
theorem first_part_at (v : FVec Ideal S512x1408 .f32) (h : FVec Ideal S512x1024 .bf16) (wb : FVec Ideal S1x1024x1408 .bf16)
    (wd : FVec Ideal S1x1408x1024 .bf16) (r : Fin 512) (d : Fin 1024) :
    k0_pay15 (F := Ideal) k0_pay11 v h (k0_pay14 wb) (constant S512x1408 .f32 0x00000000#32) wd (ix2 r d)
      = ∑ j : Fin 1408, gated (v (ix2 r j)) (proj (fun k => h (ix2 r k)) (fun d j => wb (ix3 0 d j)) j) * wd (ix3 0 j d) := by
  pointwise [k0_pay15, k0_pay11, k0_pay14, gated, proj]

/-- The block that is stored, from the first chunk's part. -/
theorem stored_at (x : FVec Ideal S1x512x1024 .f32) (p : FVec Ideal S512x1024 .f32) (v : FVec Ideal S512x1408 .f32)
    (h : FVec Ideal S512x1024 .bf16) (wb : FVec Ideal S1x1024x1408 .bf16) (wd : FVec Ideal S1x1408x1024 .bf16)
    (gt : FVec Ideal S1x1x1024 .f32) (fg : FVec Ideal S1x1024 .f32) (u : Fin 1) (r : Fin 512) (d : Fin 1024) :
    k0_pay1 (F := Ideal) (k0_pay5 x) p v h wb wd gt fg (ix3 u r d)
      = nrm (fun k => x (ix3 0 r k) + gt (ix3 0 0 k) * (p (ix2 r k)
          + ∑ j : Fin 1408, gated (v (ix2 r j)) (proj (fun k => h (ix2 r k)) (fun d j => wb (ix3 0 d j)) j) * wd (ix3 0 j k))) d
        * fg (ix2 0 d) := by
  pointwise [k0_pay1, k0_pay5, gated, proj, nrm]

end Cert.Ffn

end
-- ==== Proof.Ffn.Scratch.lean ====
/-
What the feed-forward kernel reads back from its two scratch buffers.

The first holds 544 normalized rows, written in three parts: 16 rows before the block, the block's 512
rows, 16 rows after it.  The second holds one chunk of their projection, written whole for each chunk and
read at three shifts.
-/
module

public import proofs.«01_k».proof.Proof.Ffn.Spec
public import proofs.«01_k».proof.Proof.Gen.Kernel2Ideal.Value
public import Idealize.ShloMosaic.Lib.Pipeline.ValueKit
public import Idealize.ShloMosaic.Lib.Claim

@[expose] public section

set_option maxRecDepth 16384

noncomputable section

namespace Cert.Ffn

open Cert.Kernel2Ideal Cert.Kernel2Ideal.Gen
open Idealize.ShloMosaic Idealize.ShloMosaic.TcCoe Idealize.SL.Sem

/-- The three parts, one below the other. -/
def rows (P0 : FVec Ideal S16x1024 .bf16) (P1 : FVec Ideal S512x1024 .bf16) (P2 : FVec Ideal S16x1024 .bf16) :
    FVec Ideal S544x1024 .bf16 := fun j =>
  if h0 : (j 0).val < 16 then P0 (ix2 ⟨(j 0).val, h0⟩ (j 1))
  else if h1 : (j 0).val - 16 < 512 then P1 (ix2 ⟨(j 0).val - 16, h1⟩ (j 1))
  else P2 (ix2 ⟨(j 0).val - 528, by have : (j 0).val < 544 := (j 0).isLt; omega⟩ (j 1))

/-- 512 rows from row `o` on. -/
def shifted (o : ℕ) (ho : o ≤ 32) (A : FVec Ideal S544x1408 .f32) : FVec Ideal S512x1408 .f32 := fun j =>
  A (ix2 ⟨o + (j 0).val, by have : (j 0).val < 512 := (j 0).isLt; omega⟩ (j 1))

/-- The pieces of the first buffer leave `rows`. -/
theorem canon_rows (P0 : FVec Ideal S16x1024 .bf16) (P1 : FVec Ideal S512x1024 .bf16) (P2 : FVec Ideal S16x1024 .bf16)
    (y : S544x1024.Idx) :
    View.canon [(⟨Rect.unit ![528, 0] ![16, 1024] inb_S544x1024_S16x1024_528_0, P2⟩ : View.Piece (Elt Ideal) S544x1024 .bf16),
      ⟨Rect.unit ![16, 0] ![512, 1024] inb_S544x1024_S512x1024_16_0, P1⟩,
      ⟨Rect.unit ![0, 0] ![16, 1024] inb_S544x1024_S16x1024_0_0, P0⟩] y = rows P0 P1 P2 y := by
  have hy0 : (y 0).val < 544 := (y 0).isLt
  have hy1 : (y 1).val < 1024 := (y 1).isLt
  have cover : ∃ p ∈ [(⟨Rect.unit ![528, 0] ![16, 1024] inb_S544x1024_S16x1024_528_0, P2⟩ : View.Piece (Elt Ideal) S544x1024 .bf16),
      ⟨Rect.unit ![16, 0] ![512, 1024] inb_S544x1024_S512x1024_16_0, P1⟩,
      ⟨Rect.unit ![0, 0] ![16, 1024] inb_S544x1024_S16x1024_0_0, P0⟩], y ∈ p.1.set := by
    by_cases h0 : (y 0).val < 16
    · refine ⟨_, List.mem_cons_of_mem _ (List.mem_cons_of_mem _ List.mem_cons_self), ?_⟩
      rw [Rect.mem_set_unit]
      exact Fin.forall_fin_two.2 ⟨⟨Nat.zero_le _, by simpa using h0⟩, ⟨Nat.zero_le _, by simpa using hy1⟩⟩
    · by_cases h1 : (y 0).val < 528
      · refine ⟨_, List.mem_cons_of_mem _ List.mem_cons_self, ?_⟩
        rw [Rect.mem_set_unit]
        exact Fin.forall_fin_two.2 ⟨⟨by simpa using h0, by simpa using h1⟩, ⟨Nat.zero_le _, by simpa using hy1⟩⟩
      · refine ⟨_, List.mem_cons_self, ?_⟩
        rw [Rect.mem_set_unit]
        exact Fin.forall_fin_two.2 ⟨⟨by simpa using h1, by simpa using hy0⟩, ⟨Nat.zero_le _, by simpa using hy1⟩⟩
  canon_tiles x h using cover
  all_goals unfold rows
  · rw [dif_neg (by omega), dif_neg (by omega)]
    blk_ext
  · rw [dif_neg (by omega), dif_pos (by omega)]
    blk_ext
  · rw [dif_pos (by omega)]
    blk_ext

/-- All rows, read back. -/
theorem read_rows {sg : RefSig} {κ : Kind} {sp : Space} (v : View sg κ sp S544x1024 .bf16) (P0 : FVec Ideal S16x1024 .bf16) (P1 : FVec Ideal S512x1024 .bf16) (P2 : FVec Ideal S16x1024 .bf16) :
    View.readCov (Val := Elt Ideal) v
      [(⟨Rect.unit ![528, 0] ![16, 1024] inb_S544x1024_S16x1024_528_0, P2⟩ : View.Piece (Elt Ideal) S544x1024 .bf16),
        ⟨Rect.unit ![16, 0] ![512, 1024] inb_S544x1024_S512x1024_16_0, P1⟩,
        ⟨Rect.unit ![0, 0] ![16, 1024] inb_S544x1024_S16x1024_0_0, P0⟩]
      (Rect.unit ![0, 0] ![544, 1024] inb_S544x1024_S544x1024_0_0).toLoadRect = rows P0 P1 P2 := by
  rw [View.readCov_eq_canon']
  funext j
  rw [canon_rows]
  refine congrArg (rows P0 P1 P2) (funext fun a => Fin.ext ?_)
  rw [Rect.idx_unit_val]
  match a with
  | ⟨0, _⟩ => exact Nat.zero_add _
  | ⟨1, _⟩ => exact Nat.zero_add _

/-- The block's own rows, read back. -/
theorem read_own {sg : RefSig} {κ : Kind} {sp : Space} (v : View sg κ sp S544x1024 .bf16) (P0 : FVec Ideal S16x1024 .bf16) (P1 : FVec Ideal S512x1024 .bf16) (P2 : FVec Ideal S16x1024 .bf16) :
    View.readCov (Val := Elt Ideal) v
      [(⟨Rect.unit ![528, 0] ![16, 1024] inb_S544x1024_S16x1024_528_0, P2⟩ : View.Piece (Elt Ideal) S544x1024 .bf16),
        ⟨Rect.unit ![16, 0] ![512, 1024] inb_S544x1024_S512x1024_16_0, P1⟩,
        ⟨Rect.unit ![0, 0] ![16, 1024] inb_S544x1024_S16x1024_0_0, P0⟩]
      (Rect.unit ![16, 0] ![512, 1024] inb_S544x1024_S512x1024_16_0).toLoadRect = P1 := by
  rw [View.readCov_eq_canon']
  funext j
  rw [canon_rows]
  have h0 := Rect.idx_unit_val (s := S544x1024) ![16, 0] ![512, 1024] inb_S544x1024_S512x1024_16_0 j 0
  have h1 := Rect.idx_unit_val (s := S544x1024) ![16, 0] ![512, 1024] inb_S544x1024_S512x1024_16_0 j 1
  simp only [Matrix.cons_val_zero, Matrix.cons_val_one] at h0 h1
  have hj : (j 0).val < 512 := (j 0).isLt
  unfold rows
  rw [dif_neg (by omega), dif_pos (by omega)]
  refine congrArg P1 (funext fun a => Fin.ext ?_)
  match a with
  | ⟨0, _⟩ => show _ - 16 = _; rw [h0]; exact Nat.add_sub_cancel_left _ _
  | ⟨1, _⟩ => exact h1.trans (Nat.zero_add _)

/-- A chunk's projection, read back at a shift of 15 rows: what was written last. -/
theorem read_shift_15 {sg : RefSig} {κ : Kind} {sp : Space} (v : View sg κ sp S544x1408 .f32) (A : FVec Ideal S544x1408 .f32) (L : List (View.Piece (Elt Ideal) S544x1408 .f32)) :
    View.readCov (Val := Elt Ideal) v
      ((⟨Rect.unit ![0, 0] ![544, 1408] inb_S544x1408_S544x1408_0_0, A⟩ : View.Piece (Elt Ideal) S544x1408 .f32) :: L)
      (Rect.unit ![15, 0] ![512, 1408] inb_S544x1408_S512x1408_15_0).toLoadRect
    = shifted 15 (by omega) A := by
  have e : View.canon ((⟨Rect.unit ![0, 0] ![544, 1408] inb_S544x1408_S544x1408_0_0, A⟩ :
      View.Piece (Elt Ideal) S544x1408 .f32) :: L) = A := by
    simp (disch := decide) only [View.canon_cons_unit_lit']
  rw [View.readCov_eq_canon', e]
  funext j
  refine congrArg A (funext fun a => Fin.ext ?_)
  match a with
  | ⟨0, _⟩ => exact Rect.idx_unit_val _ _ _ _ _
  | ⟨1, _⟩ => exact (Rect.idx_unit_val _ _ _ _ _).trans (Nat.zero_add _)

/-- A chunk's projection, read back at a shift of 16 rows: what was written last. -/
theorem read_shift_16 {sg : RefSig} {κ : Kind} {sp : Space} (v : View sg κ sp S544x1408 .f32) (A : FVec Ideal S544x1408 .f32) (L : List (View.Piece (Elt Ideal) S544x1408 .f32)) :
    View.readCov (Val := Elt Ideal) v
      ((⟨Rect.unit ![0, 0] ![544, 1408] inb_S544x1408_S544x1408_0_0, A⟩ : View.Piece (Elt Ideal) S544x1408 .f32) :: L)
      (Rect.unit ![16, 0] ![512, 1408] inb_S544x1408_S512x1408_16_0).toLoadRect
    = shifted 16 (by omega) A := by
  have e : View.canon ((⟨Rect.unit ![0, 0] ![544, 1408] inb_S544x1408_S544x1408_0_0, A⟩ :
      View.Piece (Elt Ideal) S544x1408 .f32) :: L) = A := by
    simp (disch := decide) only [View.canon_cons_unit_lit']
  rw [View.readCov_eq_canon', e]
  funext j
  refine congrArg A (funext fun a => Fin.ext ?_)
  match a with
  | ⟨0, _⟩ => exact Rect.idx_unit_val _ _ _ _ _
  | ⟨1, _⟩ => exact (Rect.idx_unit_val _ _ _ _ _).trans (Nat.zero_add _)

/-- A chunk's projection, read back at a shift of 17 rows: what was written last. -/
theorem read_shift_17 {sg : RefSig} {κ : Kind} {sp : Space} (v : View sg κ sp S544x1408 .f32) (A : FVec Ideal S544x1408 .f32) (L : List (View.Piece (Elt Ideal) S544x1408 .f32)) :
    View.readCov (Val := Elt Ideal) v
      ((⟨Rect.unit ![0, 0] ![544, 1408] inb_S544x1408_S544x1408_0_0, A⟩ : View.Piece (Elt Ideal) S544x1408 .f32) :: L)
      (Rect.unit ![17, 0] ![512, 1408] inb_S544x1408_S512x1408_17_0).toLoadRect
    = shifted 17 (by omega) A := by
  have e : View.canon ((⟨Rect.unit ![0, 0] ![544, 1408] inb_S544x1408_S544x1408_0_0, A⟩ :
      View.Piece (Elt Ideal) S544x1408 .f32) :: L) = A := by
    simp (disch := decide) only [View.canon_cons_unit_lit']
  rw [View.readCov_eq_canon', e]
  funext j
  refine congrArg A (funext fun a => Fin.ext ?_)
  match a with
  | ⟨0, _⟩ => exact Rect.idx_unit_val _ _ _ _ _
  | ⟨1, _⟩ => exact (Rect.idx_unit_val _ _ _ _ _).trans (Nat.zero_add _)

end Cert.Ffn

end
-- ==== Proof.Ffn.Reference.lean ====
/-
The plain feed-forward program, cut into its steps, and each step read at one index.
-/
module

public import proofs.«01_k».proof.Proof.Ffn.Spec
public import proofs.«01_k».proof.Proof.Gen.Reference2Ideal.Run
public import Idealize.ShloMosaic.Lib.Claim

@[expose] public section

set_option maxRecDepth 16384

noncomputable section

namespace Cert.Ffn

open Cert.Reference2Ideal Cert.Reference2Ideal.Gen
open Idealize.ShloMosaic Idealize.ShloMosaic.TcCoe Idealize.SL.Sem

/-- The normalized input, scaled and shifted by the sample's parameters. -/
def modulated (x : FVec Ideal S16x2048x1024 .f32) (g : FVec Ideal S1024 .f32) (mod : FVec Ideal S24x6144 .f32) : FVec Ideal S16x2048x1024 .f32 :=
  addf (mulf (mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g))) (broadcastInDim S16x2048x1024 ![0, 1, 2] bcast_S16x1x1024_S16x2048x1024_0_1_2 (addf (broadcastInDim S16x1x1024 ![] bcast_S_S16x1x1024 (constant S_ .f32 0x3F800000#32)) (broadcastInDim S16x1x1024 ![0, 2] bcast_S16x1024_S16x1x1024_0_2 (extractStridedSlice S16x1024 ![0, 4096] (extractStridedSlice S16x6144 ![0, 0] mod slices_S24x6144_S16x6144_0_0) slices_S16x6144_S16x1024_0_4096))))) (broadcastInDim S16x2048x1024 ![0, 1, 2] bcast_S16x1x1024_S16x2048x1024_0_1_2 (broadcastInDim S16x1x1024 ![0, 2] bcast_S16x1024_S16x1x1024_0_2 (extractStridedSlice S16x1024 ![0, 3072] (extractStridedSlice S16x6144 ![0, 0] mod slices_S24x6144_S16x6144_0_0) slices_S16x6144_S16x1024_0_3072)))

/-- The projection to both hidden halves. -/
def raised (h : FVec Ideal S16x2048x1024 .f32) (wUp : FVec Ideal S1024x5632 .f32) : FVec Ideal S16x2048x5632 .f32 :=
  Host.dotGeneral dot_S16x2048x1024_S1024x5632_S16x2048x5632_2_0_01_1_n_n none h wUp

/-- The first hidden half with a zero row at both ends. -/
def ended (up : FVec Ideal S16x2048x5632 .f32) : FVec Ideal S16x2050x2816 .f32 :=
  pad S16x2050x2816 ![0, 1, 0] ![0, 1, 0] ![0, 0, 0] (extractStridedSlice S16x2048x2816 ![0, 0, 0] up slices_S16x2048x5632_S16x2048x2816_0_0_0) (sitofp .f32 (constantI S_ 32 0#32)) pads_S16x2048x2816_S16x2050x2816_000_110_000 h_S_

/-- The convolution over three tokens. -/
def convolved (ends : FVec Ideal S16x2050x2816 .f32) (cw : FVec Ideal S3x2816 .f32) : FVec Ideal S16x2048x2816 .f32 :=
  addf (addf (mulf (extractStridedSlice S16x2048x2816 ![0, 0, 0] ends slices_S16x2050x2816_S16x2048x2816_0_0_0) (broadcastInDim S16x2048x2816 ![0, 1, 2] bcast_S1x1x2816_S16x2048x2816_0_1_2 (broadcastInDim S1x1x2816 ![2] bcast_S2816_S1x1x2816_2 (shapeCast S2816 (extractStridedSlice S1x2816 ![0, 0] cw slices_S3x2816_S1x2816_0_0) shapeCasts_S1x2816_S2816)))) (mulf (extractStridedSlice S16x2048x2816 ![0, 1, 0] ends slices_S16x2050x2816_S16x2048x2816_0_1_0) (broadcastInDim S16x2048x2816 ![0, 1, 2] bcast_S1x1x2816_S16x2048x2816_0_1_2 (broadcastInDim S1x1x2816 ![2] bcast_S2816_S1x1x2816_2 (shapeCast S2816 (extractStridedSlice S1x2816 ![1, 0] cw slices_S3x2816_S1x2816_1_0) shapeCasts_S1x2816_S2816))))) (mulf (extractStridedSlice S16x2048x2816 ![0, 2, 0] ends slices_S16x2050x2816_S16x2048x2816_0_2_0) (broadcastInDim S16x2048x2816 ![0, 1, 2] bcast_S1x1x2816_S16x2048x2816_0_1_2 (broadcastInDim S1x1x2816 ![2] bcast_S2816_S1x1x2816_2 (shapeCast S2816 (extractStridedSlice S1x2816 ![2, 0] cw slices_S3x2816_S1x2816_2_0) shapeCasts_S1x2816_S2816))))

/-- The hidden values. -/
def activated (v : FVec Ideal S16x2048x2816 .f32) (up : FVec Ideal S16x2048x5632 .f32) : FVec Ideal S16x2048x2816 .f32 :=
  mulf (mulf v (Host.divf (broadcastInDim S16x2048x2816 ![] bcast_S_S16x2048x2816 (constant S_ .f32 0x3F800000#32)) (addf (broadcastInDim S16x2048x2816 ![] bcast_S_S16x2048x2816 (constant S_ .f32 0x3F800000#32)) (Host.exp (Host.negf v))))) (extractStridedSlice S16x2048x2816 ![0, 0, 2816] up slices_S16x2048x5632_S16x2048x2816_0_0_2816)

/-- The residual sum. -/
def added (x : FVec Ideal S16x2048x1024 .f32) (mod : FVec Ideal S24x6144 .f32) (a : FVec Ideal S16x2048x2816 .f32) (wDown : FVec Ideal S2816x1024 .f32) : FVec Ideal S16x2048x1024 .f32 :=
  addf x (mulf (broadcastInDim S16x2048x1024 ![0, 1, 2] bcast_S16x1x1024_S16x2048x1024_0_1_2 (broadcastInDim S16x1x1024 ![0, 2] bcast_S16x1024_S16x1x1024_0_2 (extractStridedSlice S16x1024 ![0, 5120] (extractStridedSlice S16x6144 ![0, 0] mod slices_S24x6144_S16x6144_0_0) slices_S16x6144_S16x1024_0_5120))) (Host.dotGeneral dot_S16x2048x2816_S2816x1024_S16x2048x1024_2_0_01_1_n_n none a wDown))

/-- The final norm. -/
def normed (y : FVec Ideal S16x2048x1024 .f32) (fg : FVec Ideal S1024 .f32) : FVec Ideal S16x2048x1024 .f32 :=
  mulf (mulf y (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf y y) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 fg))

/-- The plain program's result, from its seven arguments. -/
def result (x : FVec Ideal S16x2048x1024 .f32) (g : FVec Ideal S1024 .f32) (mod : FVec Ideal S24x6144 .f32)
    (wUp : FVec Ideal S1024x5632 .f32) (cw : FVec Ideal S3x2816 .f32) (wDown : FVec Ideal S2816x1024 .f32)
    (fg : FVec Ideal S1024 .f32) : FVec Ideal S16x2048x1024 .f32 :=
  let up := raised (modulated x g mod) wUp
  normed (added x mod (activated (convolved (ended up) cw) up) wDown) fg

theorem result_eq (m : (ℓ : Loc nD τ sig) → Buf (Elt Ideal) ℓ) (c : Dev nD) :
    Value.res_main_v74 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by
  unfold Value.res_main_v74 result
  rfl

theorem modulated_at (x : FVec Ideal S16x2048x1024 .f32) (g : FVec Ideal S1024 .f32) (mod : FVec Ideal S24x6144 .f32)
    (b : Fin 16) (s : Fin 2048) (d : Fin 1024) :
    modulated x g mod (ix3 b s d) = modu (fun k => x (ix3 b s k)) (fun k => g (ix1 k))
      (fun k => mod (ix2 ⟨b.val, by omega⟩ ⟨4096 + k.val, by omega⟩))
      (fun k => mod (ix2 ⟨b.val, by omega⟩ ⟨3072 + k.val, by omega⟩)) d := by
  pointwise [modulated, modu, nrm]

theorem raised_at (h : FVec Ideal S16x2048x1024 .f32) (w : FVec Ideal S1024x5632 .f32) (b : Fin 16) (s : Fin 2048) (j : Fin 5632) :
    raised h w (ix3 b s j) = proj (fun k => h (ix3 b s k)) (fun d j => w (ix2 d j)) j := by
  pointwise [raised, proj]

theorem ended_at (up : FVec Ideal S16x2048x5632 .f32) (b : Fin 16) (n : Fin 2050) (j : Fin 2816) :
    ended up (ix3 b n j) = if h : 1 ≤ n.val ∧ n.val - 1 < 2048 then up (ix3 b ⟨n.val - 1, h.2⟩ ⟨j.val, by omega⟩) else 0 := by
  pointwise [ended]
  have h0 : (FloatOps.sitofp (F := Ideal) .f32 (0#32) : EReal) = 0 := by
    show (((0#32 : BitVec 32).toInt : ℝ) : EReal) = 0
    simp
  rw [h0]

theorem convolved_at (e : FVec Ideal S16x2050x2816 .f32) (cw : FVec Ideal S3x2816 .f32) (b : Fin 16) (s : Fin 2048) (j : Fin 2816) :
    convolved e cw (ix3 b s j) = conv (e (ix3 b ⟨s.val, by omega⟩ j)) (e (ix3 b ⟨1 + s.val, by omega⟩ j)) (e (ix3 b ⟨2 + s.val, by omega⟩ j))
      (cw (ix2 0 j)) (cw (ix2 1 j)) (cw (ix2 2 j)) := by
  pointwise [convolved, conv]

theorem activated_at (v : FVec Ideal S16x2048x2816 .f32) (up : FVec Ideal S16x2048x5632 .f32) (b : Fin 16) (s : Fin 2048) (j : Fin 2816) :
    activated v up (ix3 b s j) = gated (v (ix3 b s j)) (up (ix3 b s ⟨2816 + j.val, by omega⟩)) := by
  pointwise [activated, gated]
  rfl

theorem added_at (x : FVec Ideal S16x2048x1024 .f32) (mod : FVec Ideal S24x6144 .f32) (a : FVec Ideal S16x2048x2816 .f32)
    (w : FVec Ideal S2816x1024 .f32) (b : Fin 16) (s : Fin 2048) (d : Fin 1024) :
    added x mod a w (ix3 b s d) = x (ix3 b s d)
      + mod (ix2 ⟨b.val, by omega⟩ ⟨5120 + d.val, by omega⟩) * ∑ j : Fin 2816, a (ix3 b s j) * w (ix2 j d) := by
  pointwise [added]

theorem normed_at (y : FVec Ideal S16x2048x1024 .f32) (fg : FVec Ideal S1024 .f32) (b : Fin 16) (s : Fin 2048) (d : Fin 1024) :
    normed y fg (ix3 b s d) = nrm (fun k => y (ix3 b s k)) d * fg (ix1 d) := by
  pointwise [normed, nrm]

end Cert.Ffn

end
-- ==== Proof.Ffn.Rows.lean ====
/-
The 544 rows of the feed-forward kernel's first scratch buffer are the plain program's normalized rows,
with zero rows beyond the two ends of the sample.
-/
module

public import proofs.«01_k».proof.Proof.Ffn.Blocks
public import proofs.«01_k».proof.Proof.Ffn.Scratch
public import proofs.«01_k».proof.Proof.Ffn.Reference

@[expose] public section

set_option maxRecDepth 16384

noncomputable section

namespace Cert.Ffn

open Cert.Kernel2Ideal Cert.Kernel2Ideal.Gen
open Idealize.ShloMosaic Idealize.ShloMosaic.TcCoe Idealize.SL.Sem

/-- The test for a block that is not the first of its sample. -/
theorem not_first : ∀ n : Fin 4, Scalar.cmpi .sgt (BitVec.ofNat 32 n.val) 0#32 = if 0 < n.val then 1#1 else 0#1 := by decide

/-- The test for a block that is not the last of its sample. -/
theorem not_last : ∀ n : Fin 4, Scalar.cmpi .slt (BitVec.ofNat 32 n.val) 3#32 = if n.val < 3 then 1#1 else 0#1 := by decide

/-- Below the end, the row is the sample's. -/
theorem withEnds_of (f : Fin 2048 → Fin 1024 → EReal) (s : Fin 2048) (n : ℕ) (h : n = s.val + 1) (d : Fin 1024) :
    withEnds f n d = f s d := by
  subst h
  have hs := s.isLt
  rw [withEnds, dif_pos ⟨by omega, by omega⟩]
  rfl

/-- Beyond either end, the row is zero. -/
theorem withEnds_zero (f : Fin 2048 → Fin 1024 → EReal) (n : ℕ) (h : n = 0 ∨ 2048 < n) (d : Fin 1024) :
    withEnds f n d = 0 := by
  rw [withEnds, dif_neg (by omega)]

/-- A projection of a zero row is zero. -/
theorem proj_withEnds {q : ℕ} (f : Fin 2048 → Fin 1024 → EReal) (w : Fin 1024 → Fin q → EReal) (n : ℕ) (j : Fin q) :
    proj (withEnds f n) w j = if h : 1 ≤ n ∧ n - 1 < 2048 then proj (f ⟨n - 1, h.2⟩) w j else 0 := by
  by_cases h : 1 ≤ n ∧ n - 1 < 2048
  · rw [dif_pos h]
    exact Finset.sum_congr rfl fun d _ => by rw [withEnds, dif_pos h]
  · rw [dif_neg h]
    exact Finset.sum_eq_zero fun d _ => by rw [withEnds, dif_neg h, zero_mul]

/-- Row `r` of the buffer at token block `n` is the row at position `512 n + r - 15`. -/
theorem rows_at (i : grid0.Coords) (x : FVec Ideal S16x2048x1024 .f32) (g : FVec Ideal S1024 .f32) (mod : FVec Ideal S24x6144 .f32)
    (b : Fin 16) (X : FVec Ideal S1x512x1024 .f32) (xp xn : FVec Ideal S1x16x1024 .f32) (gb : FVec Ideal S1x1024 .f32)
    (sh sc : FVec Ideal S1x1x1024 .f32)
    (hX : ∀ (r : Fin 512) (k : Fin 1024), X (ix3 0 r k) = x (ix3 b ⟨512 * (i 1).val + r.val, by have : (i 1).val < 4 := (i 1).isLt; omega⟩ k))
    (hp : ∀ (_ : 0 < (i 1).val) (r : Fin 16) (k : Fin 1024), xp (ix3 0 r k) = x (ix3 b ⟨512 * (i 1).val - 16 + r.val, by have : (i 1).val < 4 := (i 1).isLt; omega⟩ k))
    (hn : ∀ (h : (i 1).val < 3) (r : Fin 16) (k : Fin 1024), xn (ix3 0 r k) = x (ix3 b ⟨512 * (i 1).val + 512 + r.val, by omega⟩ k))
    (hg : ∀ k : Fin 1024, gb (ix2 0 k) = g (ix1 k))
    (hsh : ∀ k : Fin 1024, sh (ix3 0 0 k) = mod (ix2 ⟨b.val, by omega⟩ ⟨3072 + k.val, by omega⟩))
    (hsc : ∀ k : Fin 1024, sc (ix3 0 0 k) = mod (ix2 ⟨b.val, by omega⟩ ⟨4096 + k.val, by omega⟩))
    (r : Fin 544) (h15 : 15 ≤ r.val) (h528 : r.val ≤ 528) (d : Fin 1024) :
    rows (k0_pay6 i gb sh sc xp) (k0_pay7 (k0_pay2 gb) (k0_pay3 sh) (k0_pay4 sc) (k0_pay5 X))
        (k0_pay10 (Scalar.cmpi .slt (BitVec.ofNat 32 (i 1).val) 3#32) (k0_pay8 (k0_pay2 gb) (k0_pay3 sh) (k0_pay4 sc) xn) k0_pay9) (ix2 r d)
      = withEnds (fun s k => modulated x g mod (ix3 b s k)) (512 * (i 1).val + r.val - 15) d := by
  have hi : (i 1).val < 4 := (i 1).isLt
  have hg' : (fun k => gb (ix2 0 k)) = fun k => g (ix1 k) := funext hg
  have hsh' : (fun k => sh (ix3 0 0 k)) = _ := funext hsh
  have hsc' : (fun k => sc (ix3 0 0 k)) = _ := funext hsc
  show (if h0 : r.val < 16 then _ else if h1 : r.val - 16 < 512 then _ else _) = _
  by_cases h0 : r.val < 16
  · rw [dif_pos h0]
    refine (before_at i gb sh sc xp ⟨r.val, h0⟩ d).trans ?_
    rw [show Scalar.cmpi .sgt (BitVec.ofNat 32 (i 1).val) 0#32 = _ from not_first (i 1)]
    by_cases hz : 0 < (i 1).val
    · rw [if_pos hz, withEnds_of _ ⟨512 * (i 1).val - 16 + r.val, by omega⟩ _ (by show _ = 512 * (i 1).val - 16 + r.val + 1; omega), modulated_at,
        hg', hsh', hsc', show (fun k => xp (ix3 0 ⟨r.val, h0⟩ k)) = _ from funext (hp hz ⟨r.val, h0⟩)]
      rfl
    · rw [if_neg hz, withEnds_zero _ _ (by omega)]
      rfl
  · rw [dif_neg h0]
    by_cases h1 : r.val - 16 < 512
    · rw [dif_pos h1]
      refine (own_at gb sh sc X ⟨r.val - 16, h1⟩ d).trans ?_
      rw [withEnds_of _ ⟨512 * (i 1).val + (r.val - 16), by omega⟩ _ (by show _ = 512 * (i 1).val + (r.val - 16) + 1; omega), modulated_at,
        hg', hsh', hsc', show (fun k => X (ix3 0 ⟨r.val - 16, h1⟩ k)) = _ from funext (hX ⟨r.val - 16, h1⟩)]
    · rw [dif_neg h1]
      refine (after_at _ gb sh sc xn ⟨r.val - 528, by omega⟩ d).trans ?_
      rw [show Scalar.cmpi .slt (BitVec.ofNat 32 (i 1).val) 3#32 = _ from not_last (i 1)]
      by_cases hz : (i 1).val < 3
      · rw [if_pos hz, withEnds_of _ ⟨512 * (i 1).val + 512 + (r.val - 528), by omega⟩ _ (by show _ = 512 * (i 1).val + 512 + (r.val - 528) + 1; omega), modulated_at,
          hg', hsh', hsc', show (fun k => xn (ix3 0 ⟨r.val - 528, by omega⟩ k)) = _ from funext (hn hz ⟨r.val - 528, by omega⟩)]
        rfl
      · rw [if_neg hz, withEnds_zero _ _ (by omega)]
        rfl

end Cert.Ffn

end
-- ==== Proof.Ffn.Core.lean ====
/-
One block of the feed-forward kernel against the plain program: the two chunks of the hidden lanes add up
to the plain program's contraction over all hidden lanes.
-/
module

public import proofs.«01_k».proof.Proof.Ffn.Rows

@[expose] public section

set_option maxRecDepth 16384

noncomputable section

namespace Cert.Ffn

open Cert.Kernel2Ideal Cert.Kernel2Ideal.Gen
open Idealize.ShloMosaic Idealize.ShloMosaic.TcCoe Idealize.SL.Sem

variable (x : FVec Ideal S16x2048x1024 .f32) (g : FVec Ideal S1024 .f32) (mod : FVec Ideal S24x6144 .f32)
  (wUp : FVec Ideal S1024x5632 .f32) (cw : FVec Ideal S3x2816 .f32) (wDown : FVec Ideal S2816x1024 .f32) (fg : FVec Ideal S1024 .f32)

/-- The convolution's input, as the plain program has it at position `n`, from the rows with ends. -/
theorem ended_eq (b : Fin 16) (n : Fin 2050) (j : Fin 2816) :
    ended (raised (modulated x g mod) wUp) (ix3 b n j)
      = proj (withEnds (fun s k => modulated x g mod (ix3 b s k)) n.val) (fun d (j : Fin 2816) => wUp (ix2 d ⟨j.val, by omega⟩)) j := by
  rw [ended_at, proj_withEnds]
  by_cases h : 1 ≤ n.val ∧ n.val - 1 < 2048
  · rw [dif_pos h, dif_pos h, raised_at]
    rfl
  · rw [dif_neg h, dif_neg h]

/-- The hidden value of the plain program at hidden lane `j`. -/
theorem hidden_eq (b : Fin 16) (s : Fin 2048) (j : Fin 2816) :
    activated (convolved (ended (raised (modulated x g mod) wUp)) cw) (raised (modulated x g mod) wUp) (ix3 b s j)
      = gated (conv
          (proj (withEnds (fun s k => modulated x g mod (ix3 b s k)) s.val) (fun d (j : Fin 2816) => wUp (ix2 d ⟨j.val, by omega⟩)) j)
          (proj (withEnds (fun s k => modulated x g mod (ix3 b s k)) (1 + s.val)) (fun d (j : Fin 2816) => wUp (ix2 d ⟨j.val, by omega⟩)) j)
          (proj (withEnds (fun s k => modulated x g mod (ix3 b s k)) (2 + s.val)) (fun d (j : Fin 2816) => wUp (ix2 d ⟨j.val, by omega⟩)) j)
          (cw (ix2 0 j)) (cw (ix2 1 j)) (cw (ix2 2 j)))
        (proj (fun k => modulated x g mod (ix3 b s k)) (fun d (j : Fin 2816) => wUp (ix2 d ⟨2816 + j.val, by omega⟩)) j) := by
  rw [activated_at, convolved_at, ended_eq, ended_eq, ended_eq, raised_at]
  rfl

/-- The two chunks of a block add up to the contraction over all hidden lanes. -/
theorem hidden_sum (n : ℕ) (hn : n < 4) (b : Fin 16) (H : FVec Ideal S544x1024 .bf16) (H1 : FVec Ideal S512x1024 .bf16)
    (wa0 wa1 wb0 wb1 : FVec Ideal S1x1024x1408 .bf16) (cw0 cw1 : FVec Ideal S1x3x1408 .f32)
    (wd0 wd1 : FVec Ideal S1x1408x1024 .bf16) (h15 : 15 ≤ 32) (h16 : 16 ≤ 32) (h17 : 17 ≤ 32)
    (hH : ∀ (r : Fin 544), 15 ≤ r.val → r.val ≤ 528 → ∀ d : Fin 1024,
      H (ix2 r d) = withEnds (fun s k => modulated x g mod (ix3 b s k)) (512 * n + r.val - 15) d)
    (hH1 : ∀ (r : Fin 512) (d : Fin 1024), H1 (ix2 r d) = modulated x g mod (ix3 b ⟨512 * n + r.val, by omega⟩ d))
    (hwa0 : ∀ (d : Fin 1024) (j : Fin 1408), wa0 (ix3 0 d j) = wUp (ix2 d ⟨j.val, by omega⟩))
    (hwa1 : ∀ (d : Fin 1024) (j : Fin 1408), wa1 (ix3 0 d j) = wUp (ix2 d ⟨1408 + j.val, by omega⟩))
    (hwb0 : ∀ (d : Fin 1024) (j : Fin 1408), wb0 (ix3 0 d j) = wUp (ix2 d ⟨2816 + j.val, by omega⟩))
    (hwb1 : ∀ (d : Fin 1024) (j : Fin 1408), wb1 (ix3 0 d j) = wUp (ix2 d ⟨2816 + (1408 + j.val), by omega⟩))
    (hcw0 : ∀ (k : Fin 3) (j : Fin 1408), cw0 (ix3 0 k j) = cw (ix2 k ⟨j.val, by omega⟩))
    (hcw1 : ∀ (k : Fin 3) (j : Fin 1408), cw1 (ix3 0 k j) = cw (ix2 k ⟨1408 + j.val, by omega⟩))
    (hwd0 : ∀ (j : Fin 1408) (d : Fin 1024), wd0 (ix3 0 j d) = wDown (ix2 ⟨j.val, by omega⟩ d))
    (hwd1 : ∀ (j : Fin 1408) (d : Fin 1024), wd1 (ix3 0 j d) = wDown (ix2 ⟨1408 + j.val, by omega⟩ d))
    (r : Fin 512) (d : Fin 1024) :
      (k0_pay15 (F := Ideal) k0_pay11 (k0_pay13 cw0 (shifted 15 h15 (k0_pay12 H wa0)) (shifted 16 h16 (k0_pay12 H wa0)) (shifted 17 h17 (k0_pay12 H wa0)))
          H1 (k0_pay14 wb0) (constant S512x1408 .f32 0x00000000#32) wd0) (ix2 r d)
        + ∑ j : Fin 1408, gated (k0_pay17 (F := Ideal) cw1 (shifted 15 h15 (k0_pay16 H wa1)) (shifted 16 h16 (k0_pay16 H wa1)) (shifted 17 h17 (k0_pay16 H wa1)) (ix2 r j))
            (proj (fun k => H1 (ix2 r k)) (fun d j => wb1 (ix3 0 d j)) j) * wd1 (ix3 0 j d)
      = ∑ j : Fin 2816, activated (convolved (ended (raised (modulated x g mod) wUp)) cw) (raised (modulated x g mod) wUp)
          (ix3 b ⟨512 * n + r.val, by omega⟩ j) * wDown (ix2 j d) := by
  have hrow : ∀ (q o : ℕ) (ho : o = 15 + q ∧ q ≤ 2), (fun k => H (ix2 ⟨o + r.val, by omega⟩ k))
      = withEnds (fun s k => modulated x g mod (ix3 b s k)) (q + (512 * n + r.val)) := fun q o ho => by
    funext k
    rw [hH ⟨o + r.val, by omega⟩ (by show 15 ≤ o + r.val; omega) (by show o + r.val ≤ 528; omega)]
    congr 1
    show 512 * n + (o + r.val) - 15 = _
    omega
  have hH1' : (fun k => H1 (ix2 r k)) = fun k => modulated x g mod (ix3 b ⟨512 * n + r.val, by omega⟩ k) := funext (hH1 r)
  have up0 : ∀ (q o : ℕ) (ho : o ≤ 32) (ho' : o = 15 + q ∧ q ≤ 2) (j : Fin 1408), shifted o ho (k0_pay12 H wa0) (ix2 r j)
      = proj (withEnds (fun s k => modulated x g mod (ix3 b s k)) (q + (512 * n + r.val)))
          (fun d (j : Fin 2816) => wUp (ix2 d ⟨j.val, by omega⟩)) ⟨j.val, by omega⟩ := fun q o ho ho' j => by
    refine (first_up_at H wa0 ⟨o + r.val, by omega⟩ j).trans ?_
    rw [hrow q o ho']
    exact Finset.sum_congr rfl fun d _ => congrArg (_ * ·) (hwa0 d j)
  have up1 : ∀ (q o : ℕ) (ho : o ≤ 32) (ho' : o = 15 + q ∧ q ≤ 2) (j : Fin 1408), shifted o ho (k0_pay16 H wa1) (ix2 r j)
      = proj (withEnds (fun s k => modulated x g mod (ix3 b s k)) (q + (512 * n + r.val)))
          (fun d (j : Fin 2816) => wUp (ix2 d ⟨j.val, by omega⟩)) ⟨1408 + j.val, by omega⟩ := fun q o ho ho' j => by
    refine (second_up_at H wa1 ⟨o + r.val, by omega⟩ j).trans ?_
    rw [hrow q o ho']
    exact Finset.sum_congr rfl fun d _ => congrArg (_ * ·) (hwa1 d j)
  rw [first_part_at, Fin.sum_univ_two_halves 1408 1408 rfl]
  refine congrArg₂ (· + ·) (Finset.sum_congr rfl fun j _ => ?_) (Finset.sum_congr rfl fun j _ => ?_)
  · rw [first_conv_at, up0 0 15 h15 (by omega), up0 1 16 h16 (by omega), up0 2 17 h17 (by omega), Nat.zero_add, hH1', hidden_eq, hcw0, hcw0, hcw0, hwd0]
    refine congrArg (· * _) (congrArg (gated _) ?_)
    exact Finset.sum_congr rfl fun d _ => congrArg (_ * ·) (hwb0 d j)
  · rw [second_conv_at, up1 0 15 h15 (by omega), up1 1 16 h16 (by omega), up1 2 17 h17 (by omega), Nat.zero_add, hH1', hidden_eq, hcw1, hcw1, hcw1, hwd1]
    refine congrArg (· * _) (congrArg (gated _) ?_)
    exact Finset.sum_congr rfl fun d _ => congrArg (_ * ·) (hwb1 d j)

/-- A stored block of the kernel is the plain program's result there. -/
theorem block_eq (n : ℕ) (hn : n < 4) (b : Fin 16) (H : FVec Ideal S544x1024 .bf16) (H1 : FVec Ideal S512x1024 .bf16)
    (X : FVec Ideal S1x512x1024 .f32) (wa0 wa1 wb0 wb1 : FVec Ideal S1x1024x1408 .bf16) (cw0 cw1 : FVec Ideal S1x3x1408 .f32)
    (wd0 wd1 : FVec Ideal S1x1408x1024 .bf16) (gt : FVec Ideal S1x1x1024 .f32) (fgb : FVec Ideal S1x1024 .f32)
    (h15 : 15 ≤ 32) (h16 : 16 ≤ 32) (h17 : 17 ≤ 32)
    (hX : ∀ (r : Fin 512) (k : Fin 1024), X (ix3 0 r k) = x (ix3 b ⟨512 * n + r.val, by omega⟩ k))
    (hH : ∀ (r : Fin 544), 15 ≤ r.val → r.val ≤ 528 → ∀ d : Fin 1024,
      H (ix2 r d) = withEnds (fun s k => modulated x g mod (ix3 b s k)) (512 * n + r.val - 15) d)
    (hH1 : ∀ (r : Fin 512) (d : Fin 1024), H1 (ix2 r d) = modulated x g mod (ix3 b ⟨512 * n + r.val, by omega⟩ d))
    (hwa0 : ∀ (d : Fin 1024) (j : Fin 1408), wa0 (ix3 0 d j) = wUp (ix2 d ⟨j.val, by omega⟩))
    (hwa1 : ∀ (d : Fin 1024) (j : Fin 1408), wa1 (ix3 0 d j) = wUp (ix2 d ⟨1408 + j.val, by omega⟩))
    (hwb0 : ∀ (d : Fin 1024) (j : Fin 1408), wb0 (ix3 0 d j) = wUp (ix2 d ⟨2816 + j.val, by omega⟩))
    (hwb1 : ∀ (d : Fin 1024) (j : Fin 1408), wb1 (ix3 0 d j) = wUp (ix2 d ⟨2816 + (1408 + j.val), by omega⟩))
    (hcw0 : ∀ (k : Fin 3) (j : Fin 1408), cw0 (ix3 0 k j) = cw (ix2 k ⟨j.val, by omega⟩))
    (hcw1 : ∀ (k : Fin 3) (j : Fin 1408), cw1 (ix3 0 k j) = cw (ix2 k ⟨1408 + j.val, by omega⟩))
    (hwd0 : ∀ (j : Fin 1408) (d : Fin 1024), wd0 (ix3 0 j d) = wDown (ix2 ⟨j.val, by omega⟩ d))
    (hwd1 : ∀ (j : Fin 1408) (d : Fin 1024), wd1 (ix3 0 j d) = wDown (ix2 ⟨1408 + j.val, by omega⟩ d))
    (hgt : ∀ k : Fin 1024, gt (ix3 0 0 k) = mod (ix2 ⟨b.val, by omega⟩ ⟨5120 + k.val, by omega⟩))
    (hfg : ∀ k : Fin 1024, fgb (ix2 0 k) = fg (ix1 k))
    (u : Fin 1) (r : Fin 512) (d : Fin 1024) :
    k0_pay1 (F := Ideal) (k0_pay5 X)
        (k0_pay15 k0_pay11 (k0_pay13 cw0 (shifted 15 h15 (k0_pay12 H wa0)) (shifted 16 h16 (k0_pay12 H wa0)) (shifted 17 h17 (k0_pay12 H wa0)))
          H1 (k0_pay14 wb0) (constant S512x1408 .f32 0x00000000#32) wd0)
        (k0_pay17 cw1 (shifted 15 h15 (k0_pay16 H wa1)) (shifted 16 h16 (k0_pay16 H wa1)) (shifted 17 h17 (k0_pay16 H wa1)))
        H1 wb1 wd1 gt fgb (ix3 u r d)
      = result x g mod wUp cw wDown fg (ix3 b ⟨512 * n + r.val, by omega⟩ d) := by
  rw [stored_at]
  show _ = normed _ fg _
  rw [normed_at, hfg]
  refine congrArg (fun f => nrm f d * fg (ix1 d)) (funext fun k => ?_)
  rw [added_at, hX, hgt, hidden_sum x g mod wUp cw wDown n hn b H H1 wa0 wa1 wb0 wb1 cw0 cw1 wd0 wd1 h15 h16 h17 hH hH1 hwa0 hwa1 hwb0 hwb1
    hcw0 hcw1 hwd0 hwd1 r k]

end Cert.Ffn

end
-- ==== Proof.Ffn.Value.lean ====
/-
The feed-forward part: the value of the array the pipelined kernel leaves behind.

Each of the 64 grid points handles one block of 512 tokens of one sample.  It normalizes the block's rows
and the 16 rows on either side, projects them in two chunks of 1408 hidden lanes, convolves over three
tokens, gates, projects back, adds the residual and normalizes the sum.
-/
module

public import proofs.«01_k».proof.Defs
public import proofs.«01_k».proof.Proof.Ffn.Core
public import proofs.«01_k».proof.Proof.Gen.Kernel2Ideal.Value
public import Idealize.ShloMosaic.Lib.Pipeline.ValueKit
public import Idealize.ShloMosaic.Lib.Claim

@[expose] public section

set_option maxRecDepth 16384

noncomputable section

namespace Cert.Kernel2Ideal.Hand

open Cert.Kernel2Ideal Cert.Kernel2Ideal.Gen Cert.Kernel2Ideal.Value
open Idealize.ShloMosaic Idealize.ShloMosaic.TcCoe Idealize.SL.Sem
open Idealize.ShloMosaic.Pipeline (Dat)

variable (m : (ℓ : Loc nD τ sig) → Buf (Elt Ideal) ℓ)

/-- Where each grid point's blocks lie: samples by the first coordinate, token blocks by the second. -/
theorem idx : ∀ t : Fin cfg0.N,
    win0_0.index t = ![((grid0.coords t) 0).val, ((grid0.coords t) 1).val, 0]
    ∧ win0_1.index t = ![((grid0.coords t) 0).val, ((grid0.coords t) 1).val * 32 - 1, 0]
    ∧ win0_2.index t = ![((grid0.coords t) 0).val, if ((grid0.coords t) 1).val < 3 then ((grid0.coords t) 1).val * 32 + 32 else 127, 0]
    ∧ win0_3.index t = ![0, 0]
    ∧ win0_4.index t = ![((grid0.coords t) 0).val, 0, 3]
    ∧ win0_5.index t = ![((grid0.coords t) 0).val, 0, 4]
    ∧ win0_6.index t = ![((grid0.coords t) 0).val, 0, 5]
    ∧ win0_7.index t = ![0, 0, 0]
    ∧ win0_8.index t = ![0, 0, 0]
    ∧ win0_9.index t = ![0, 0, 0]
    ∧ win0_10.index t = ![0, 0, 0]
    ∧ win0_11.index t = ![0, 0]
    ∧ win0_12.index t = ![((grid0.coords t) 0).val, ((grid0.coords t) 1).val, 0] :=
  (by decide +kernel : ∀ t : Fin grid0.N, _)

/-- Chunk 0 of a block of two, read at one place. -/
theorem chunk_up_0 (X : FVec Ideal S2x1024x1408 .bf16) (d : Fin 1024) (j : Fin 1408) :
    View.ld (Val := Elt Ideal) (S := S2x1024x1408) (e' := .bf16) X (Rect.unit ![0, 0, 0] ![1, 1024, 1408] inb_S2x1024x1408_S1x1024x1408_0_0_0) (ix3 0 d j) = X (ix3 0 d j) := by
  refine congrArg X (funext fun k => Fin.ext ?_)
  fin_cases k <;> simp [Rect.idx_unit_val]

/-- Chunk 1 of a block of two, read at one place. -/
theorem chunk_up_1 (X : FVec Ideal S2x1024x1408 .bf16) (d : Fin 1024) (j : Fin 1408) :
    View.ld (Val := Elt Ideal) (S := S2x1024x1408) (e' := .bf16) X (Rect.unit ![1, 0, 0] ![1, 1024, 1408] inb_S2x1024x1408_S1x1024x1408_1_0_0) (ix3 0 d j) = X (ix3 1 d j) := by
  refine congrArg X (funext fun k => Fin.ext ?_)
  fin_cases k <;> simp [Rect.idx_unit_val]

/-- Chunk 0 of a block of two, read at one place. -/
theorem chunk_cw_0 (X : FVec Ideal S2x3x1408 .f32) (d : Fin 3) (j : Fin 1408) :
    View.ld (Val := Elt Ideal) (S := S2x3x1408) (e' := .f32) X (Rect.unit ![0, 0, 0] ![1, 3, 1408] inb_S2x3x1408_S1x3x1408_0_0_0) (ix3 0 d j) = X (ix3 0 d j) := by
  refine congrArg X (funext fun k => Fin.ext ?_)
  fin_cases k <;> simp [Rect.idx_unit_val]

/-- Chunk 1 of a block of two, read at one place. -/
theorem chunk_cw_1 (X : FVec Ideal S2x3x1408 .f32) (d : Fin 3) (j : Fin 1408) :
    View.ld (Val := Elt Ideal) (S := S2x3x1408) (e' := .f32) X (Rect.unit ![1, 0, 0] ![1, 3, 1408] inb_S2x3x1408_S1x3x1408_1_0_0) (ix3 0 d j) = X (ix3 1 d j) := by
  refine congrArg X (funext fun k => Fin.ext ?_)
  fin_cases k <;> simp [Rect.idx_unit_val]

/-- Chunk 0 of a block of two, read at one place. -/
theorem chunk_dn_0 (X : FVec Ideal S2x1408x1024 .bf16) (d : Fin 1408) (j : Fin 1024) :
    View.ld (Val := Elt Ideal) (S := S2x1408x1024) (e' := .bf16) X (Rect.unit ![0, 0, 0] ![1, 1408, 1024] inb_S2x1408x1024_S1x1408x1024_0_0_0) (ix3 0 d j) = X (ix3 0 d j) := by
  refine congrArg X (funext fun k => Fin.ext ?_)
  fin_cases k <;> simp [Rect.idx_unit_val]

/-- Chunk 1 of a block of two, read at one place. -/
theorem chunk_dn_1 (X : FVec Ideal S2x1408x1024 .bf16) (d : Fin 1408) (j : Fin 1024) :
    View.ld (Val := Elt Ideal) (S := S2x1408x1024) (e' := .bf16) X (Rect.unit ![1, 0, 0] ![1, 1408, 1024] inb_S2x1408x1024_S1x1408x1024_1_0_0) (ix3 0 d j) = X (ix3 1 d j) := by
  refine congrArg X (funext fun k => Fin.ext ?_)
  fin_cases k <;> simp [Rect.idx_unit_val]

section Reads

variable (c : Dev nD) (t : Fin cfg0.N)

theorem read_x (b : Fin 16) (hb : ((grid0.coords t) 0).val = b.val) (r : Fin 512) (k : Fin 1024) :
    (show FVec Ideal S1x512x1024 .f32 from iblk m c 0 t) (ix3 0 r k)
      = (show FVec Ideal S16x2048x1024 .f32 from m ((c : Thread nD τ).loc main_arg0))
          (ix3 b ⟨512 * ((grid0.coords t) 1).val + r.val, by have : ((grid0.coords t) 1).val < 4 := ((grid0.coords t) 1).isLt; omega⟩ k) := by
  blk_ext [iblk, V, idx t]

theorem read_prev (b : Fin 16) (hb : ((grid0.coords t) 0).val = b.val) (h : 0 < ((grid0.coords t) 1).val) (r : Fin 16) (k : Fin 1024) :
    (show FVec Ideal S1x16x1024 .f32 from iblk m c 1 t) (ix3 0 r k)
      = (show FVec Ideal S16x2048x1024 .f32 from m ((c : Thread nD τ).loc main_arg0))
          (ix3 b ⟨512 * ((grid0.coords t) 1).val - 16 + r.val, by have : ((grid0.coords t) 1).val < 4 := ((grid0.coords t) 1).isLt; omega⟩ k) := by
  blk_ext [iblk, V, idx t]

theorem read_next (b : Fin 16) (hb : ((grid0.coords t) 0).val = b.val) (h : ((grid0.coords t) 1).val < 3) (r : Fin 16) (k : Fin 1024) :
    (show FVec Ideal S1x16x1024 .f32 from iblk m c 2 t) (ix3 0 r k)
      = (show FVec Ideal S16x2048x1024 .f32 from m ((c : Thread nD τ).loc main_arg0))
          (ix3 b ⟨512 * ((grid0.coords t) 1).val + 512 + r.val, by omega⟩ k) := by
  blk_ext [iblk, V, idx t, if_pos h]

theorem read_g (k : Fin 1024) :
    (show FVec Ideal S1x1024 .f32 from iblk m c 3 t) (ix2 0 k)
      = (show FVec Ideal S1024 .f32 from m ((c : Thread nD τ).loc main_arg1)) (ix1 k) := by
  blk_point [iblk, V, idx t]

theorem read_shift (b : Fin 16) (hb : ((grid0.coords t) 0).val = b.val) (k : Fin 1024) :
    (show FVec Ideal S1x1x1024 .f32 from iblk m c 4 t) (ix3 0 0 k)
      = (show FVec Ideal S24x6144 .f32 from m ((c : Thread nD τ).loc main_arg2)) (ix2 ⟨b.val, by omega⟩ ⟨3072 + k.val, by omega⟩) := by
  blk_point [iblk, V, idx t]

theorem read_scale (b : Fin 16) (hb : ((grid0.coords t) 0).val = b.val) (k : Fin 1024) :
    (show FVec Ideal S1x1x1024 .f32 from iblk m c 5 t) (ix3 0 0 k)
      = (show FVec Ideal S24x6144 .f32 from m ((c : Thread nD τ).loc main_arg2)) (ix2 ⟨b.val, by omega⟩ ⟨4096 + k.val, by omega⟩) := by
  blk_point [iblk, V, idx t]

theorem read_gate (b : Fin 16) (hb : ((grid0.coords t) 0).val = b.val) (k : Fin 1024) :
    (show FVec Ideal S1x1x1024 .f32 from iblk m c 6 t) (ix3 0 0 k)
      = (show FVec Ideal S24x6144 .f32 from m ((c : Thread nD τ).loc main_arg2)) (ix2 ⟨b.val, by omega⟩ ⟨5120 + k.val, by omega⟩) := by
  blk_point [iblk, V, idx t]

theorem read_wa (q : Fin 2) (d : Fin 1024) (j : Fin 1408) :
    (show FVec Ideal S2x1024x1408 .bf16 from iblk m c 7 t) (ix3 q d j)
      = (show FVec Ideal S1024x5632 .f32 from m ((c : Thread nD τ).loc main_arg3)) (ix2 d ⟨1408 * q.val + j.val, by omega⟩) := by
  blk_point [iblk, V, idx t]

theorem read_wb (q : Fin 2) (d : Fin 1024) (j : Fin 1408) :
    (show FVec Ideal S2x1024x1408 .bf16 from iblk m c 8 t) (ix3 q d j)
      = (show FVec Ideal S1024x5632 .f32 from m ((c : Thread nD τ).loc main_arg3)) (ix2 d ⟨2816 + (1408 * q.val + j.val), by omega⟩) := by
  blk_point [iblk, V, idx t]

theorem read_cw (q : Fin 2) (k : Fin 3) (j : Fin 1408) :
    (show FVec Ideal S2x3x1408 .f32 from iblk m c 9 t) (ix3 q k j)
      = (show FVec Ideal S3x2816 .f32 from m ((c : Thread nD τ).loc main_arg4)) (ix2 k ⟨1408 * q.val + j.val, by omega⟩) := by
  blk_point [iblk, V, idx t]

theorem read_wd (q : Fin 2) (j : Fin 1408) (d : Fin 1024) :
    (show FVec Ideal S2x1408x1024 .bf16 from iblk m c 10 t) (ix3 q j d)
      = (show FVec Ideal S2816x1024 .f32 from m ((c : Thread nD τ).loc main_arg5)) (ix2 ⟨1408 * q.val + j.val, by omega⟩ d) := by
  blk_point [iblk, V, idx t]

theorem read_fg (k : Fin 1024) :
    (show FVec Ideal S1x1024 .f32 from iblk m c 11 t) (ix2 0 k)
      = (show FVec Ideal S1024 .f32 from m ((c : Thread nD τ).loc main_arg6)) (ix1 k) := by
  blk_point [iblk, V, idx t]

theorem chunk_wa0 (d : Fin 1024) (j : Fin 1408) :
    View.ld (Val := Elt Ideal) (S := S2x1024x1408) (e' := .bf16) (iblk m c 7 t) (Rect.unit ![0, 0, 0] ![1, 1024, 1408] inb_S2x1024x1408_S1x1024x1408_0_0_0) (ix3 0 d j)
      = (show FVec Ideal S1024x5632 .f32 from m ((c : Thread nD τ).loc main_arg3)) (ix2 d ⟨j.val, by omega⟩) := by
  refine (chunk_up_0 _ d j).trans ((read_wa m c t 0 d j).trans (congrArg _ ?_))
  funext k; fin_cases k <;> apply Fin.ext <;> simp

theorem chunk_wa1 (d : Fin 1024) (j : Fin 1408) :
    View.ld (Val := Elt Ideal) (S := S2x1024x1408) (e' := .bf16) (iblk m c 7 t) (Rect.unit ![1, 0, 0] ![1, 1024, 1408] inb_S2x1024x1408_S1x1024x1408_1_0_0) (ix3 0 d j)
      = (show FVec Ideal S1024x5632 .f32 from m ((c : Thread nD τ).loc main_arg3)) (ix2 d ⟨1408 + j.val, by omega⟩) := by
  refine (chunk_up_1 _ d j).trans ((read_wa m c t 1 d j).trans (congrArg _ ?_))
  funext k; fin_cases k <;> apply Fin.ext <;> simp

theorem chunk_wb0 (d : Fin 1024) (j : Fin 1408) :
    View.ld (Val := Elt Ideal) (S := S2x1024x1408) (e' := .bf16) (iblk m c 8 t) (Rect.unit ![0, 0, 0] ![1, 1024, 1408] inb_S2x1024x1408_S1x1024x1408_0_0_0) (ix3 0 d j)
      = (show FVec Ideal S1024x5632 .f32 from m ((c : Thread nD τ).loc main_arg3)) (ix2 d ⟨2816 + j.val, by omega⟩) := by
  refine (chunk_up_0 _ d j).trans ((read_wb m c t 0 d j).trans (congrArg _ ?_))
  funext k; fin_cases k <;> apply Fin.ext <;> simp

theorem chunk_wb1 (d : Fin 1024) (j : Fin 1408) :
    View.ld (Val := Elt Ideal) (S := S2x1024x1408) (e' := .bf16) (iblk m c 8 t) (Rect.unit ![1, 0, 0] ![1, 1024, 1408] inb_S2x1024x1408_S1x1024x1408_1_0_0) (ix3 0 d j)
      = (show FVec Ideal S1024x5632 .f32 from m ((c : Thread nD τ).loc main_arg3)) (ix2 d ⟨2816 + (1408 + j.val), by omega⟩) := by
  refine (chunk_up_1 _ d j).trans ((read_wb m c t 1 d j).trans (congrArg _ ?_))
  funext k; fin_cases k <;> apply Fin.ext <;> simp

theorem chunk_cw0 (d : Fin 3) (j : Fin 1408) :
    View.ld (Val := Elt Ideal) (S := S2x3x1408) (e' := .f32) (iblk m c 9 t) (Rect.unit ![0, 0, 0] ![1, 3, 1408] inb_S2x3x1408_S1x3x1408_0_0_0) (ix3 0 d j)
      = (show FVec Ideal S3x2816 .f32 from m ((c : Thread nD τ).loc main_arg4)) (ix2 d ⟨j.val, by omega⟩) := by
  refine (chunk_cw_0 _ d j).trans ((read_cw m c t 0 d j).trans (congrArg _ ?_))
  funext k; fin_cases k <;> apply Fin.ext <;> simp

theorem chunk_cw1 (d : Fin 3) (j : Fin 1408) :
    View.ld (Val := Elt Ideal) (S := S2x3x1408) (e' := .f32) (iblk m c 9 t) (Rect.unit ![1, 0, 0] ![1, 3, 1408] inb_S2x3x1408_S1x3x1408_1_0_0) (ix3 0 d j)
      = (show FVec Ideal S3x2816 .f32 from m ((c : Thread nD τ).loc main_arg4)) (ix2 d ⟨1408 + j.val, by omega⟩) := by
  refine (chunk_cw_1 _ d j).trans ((read_cw m c t 1 d j).trans (congrArg _ ?_))
  funext k; fin_cases k <;> apply Fin.ext <;> simp

theorem chunk_wd0 (d : Fin 1408) (j : Fin 1024) :
    View.ld (Val := Elt Ideal) (S := S2x1408x1024) (e' := .bf16) (iblk m c 10 t) (Rect.unit ![0, 0, 0] ![1, 1408, 1024] inb_S2x1408x1024_S1x1408x1024_0_0_0) (ix3 0 d j)
      = (show FVec Ideal S2816x1024 .f32 from m ((c : Thread nD τ).loc main_arg5)) (ix2 ⟨d.val, by omega⟩ j) := by
  refine (chunk_dn_0 _ d j).trans ((read_wd m c t 0 d j).trans (congrArg _ ?_))
  funext k; fin_cases k <;> apply Fin.ext <;> simp

theorem chunk_wd1 (d : Fin 1408) (j : Fin 1024) :
    View.ld (Val := Elt Ideal) (S := S2x1408x1024) (e' := .bf16) (iblk m c 10 t) (Rect.unit ![1, 0, 0] ![1, 1408, 1024] inb_S2x1408x1024_S1x1408x1024_1_0_0) (ix3 0 d j)
      = (show FVec Ideal S2816x1024 .f32 from m ((c : Thread nD τ).loc main_arg5)) (ix2 ⟨1408 + d.val, by omega⟩ j) := by
  refine (chunk_dn_1 _ d j).trans ((read_wd m c t 1 d j).trans (congrArg _ ?_))
  funext k; fin_cases k <;> apply Fin.ext <;> simp

end Reads

/-- The final array is the plain program's result. -/
theorem final (c : Dev nD) :
    (dats m 0 c).arrAt 12 cfg0.N = Cert.Ffn.result (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  refine (dats m 0 c).arrAt_eq_of_covers 12 _ (by decide +kernel) fun t _ y => ?_
  blk_simp
  rw [after0_12]
  unfold outsAt0
  frame_out
  rw [Cert.Ffn.read_own]
  rw [Cert.Ffn.read_rows]
  rw [Cert.Ffn.read_shift_15, Cert.Ffn.read_shift_16, Cert.Ffn.read_shift_17]
  rw [Cert.Ffn.read_shift_15, Cert.Ffn.read_shift_16, Cert.Ffn.read_shift_17]
  obtain ⟨u, r, d, hy⟩ : ∃ (u : Fin 1) (r : Fin 512) (d : Fin 1024), y = ix3 u r d := ⟨y 0, y 1, y 2, by funext k; fin_cases k <;> rfl⟩
  subst hy
  obtain ⟨b, hb⟩ : ∃ b : Fin 16, ((grid0.coords t) 0).val = b.val := ⟨(grid0.coords t) 0, rfl⟩
  have hn : ((grid0.coords t) 1).val < 4 := ((grid0.coords t) 1).isLt
  refine (Cert.Ffn.block_eq (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) ((grid0.coords t) 1).val hn b _ _ _ _ _ _ _ _ _ _ _ _ _
      _ _ _ (read_x m c t b hb) ?_ ?_ ?_ ?_ ?_ ?_ ?_ ?_ ?_ ?_ (read_gate m c t b hb) (read_fg m c t) u r d).trans ?_
  · exact fun r h15 h528 d => Cert.Ffn.rows_at (grid0.coords t) _ _ _ b _ _ _ _ _ _ (read_x m c t b hb) (fun h => read_prev m c t b hb h)
      (fun h => read_next m c t b hb h) (read_g m c t) (read_shift m c t b hb) (read_scale m c t b hb) r h15 h528 d
  · intro r d
    rw [Cert.Ffn.own_at, Cert.Ffn.modulated_at]
    rw [funext (read_x m c t b hb r), funext (read_g m c t), funext (read_shift m c t b hb), funext (read_scale m c t b hb)]
  · exact fun d j => chunk_wa0 m c t d j
  · exact fun d j => chunk_wa1 m c t d j
  · exact fun d j => chunk_wb0 m c t d j
  · exact fun d j => chunk_wb1 m c t d j
  · exact fun d j => chunk_cw0 m c t d j
  · exact fun d j => chunk_cw1 m c t d j
  · exact fun d j => chunk_wd0 m c t d j
  · exact fun d j => chunk_wd1 m c t d j
  · refine congrArg (Cert.Ffn.result _ _ _ _ _ _ _) ?_
    blk_ext [idx t]

end Cert.Kernel2Ideal.Hand

end
-- ==== Proof.Ffn.Claim.lean ====
/-
The feed-forward part: both programs, run from agreeing arguments, end with the same result.
-/
module

public import proofs.«01_k».proof.Defs
public import proofs.«01_k».proof.Proof.Ffn.Value
public import proofs.«01_k».proof.Proof.Ffn.Reference
public import proofs.«01_k».proof.Proof.Gen.Reference2Ideal.Run

@[expose] public section

noncomputable section

namespace Cert.Proof

open Idealize.ShloMosaic Idealize.SL.Sem

theorem ffn_equal : Cert.algebraic_Kernel2Ideal_Reference2Ideal := by
  pair_intro
  · run_from Cert.Kernel2Ideal.Gen.run_main m g
  · run_from Cert.Reference2Ideal.Value.run m' g'
    obtain ⟨h0, h1, h2, h3, h4, h5, h6⟩ := hagree c
    have h := Cert.Kernel2Ideal.Hand.final m c
    rw [← h0, ← h1, ← h2, ← h3, ← h4, ← h5, ← h6] at h
    rw [h]
    exact Cert.Ffn.result_eq m' c

end Cert.Proof

end
-- ==== Proof.Inp.Spec.lean ====
/-
The input projection, spelled out on plain numbers: the turn of a head's lanes by the token's angles.
-/
module

public import proofs.«01_k».proof.Proof.Ffn.Spec

@[expose] public section

noncomputable section

namespace Cert.Inp

open Idealize.ShloMosaic

/-- Sixteen lanes, the two halves turned against each other by eight angles. -/
def turn16 (u : Fin 16 → EReal) (a : Fin 8 → EReal) (l : Fin 16) : EReal :=
  if h : l.val < 8 then
    u l * Ideal.cos (a ⟨l.val, h⟩) - u ⟨8 + l.val, by omega⟩ * Ideal.sin (a ⟨l.val, h⟩)
  else
    u l * Ideal.cos (a ⟨l.val - 8, by omega⟩) + u ⟨l.val - 8, by omega⟩ * Ideal.sin (a ⟨l.val - 8, by omega⟩)

/-- Thirty-two lanes: sixteen turned by the row's angles, sixteen by the column's. -/
def turn32 (u : Fin 32 → EReal) (ar ac : Fin 8 → EReal) (l : Fin 32) : EReal :=
  if h : l.val < 16 then turn16 (fun k => u ⟨k.val, by omega⟩) ar ⟨l.val, h⟩
  else turn16 (fun k => u ⟨16 + k.val, by omega⟩) ac ⟨l.val - 16, by omega⟩

/-- A group of 256 lanes: each of its eight maps of thirty-two lanes turned. -/
def turn256 (u : Fin 256 → EReal) (ar ac : Fin 8 → EReal) (l : Fin 256) : EReal :=
  turn32 (fun k => u ⟨32 * (l.val / 32) + k.val, by omega⟩) ar ac ⟨l.val % 32, by omega⟩

/-- The whole row of 2304 lanes: the two groups after the first 1536 lanes are turned. -/
def turned (z : Fin 2304 → EReal) (ar ac : Fin 8 → EReal) (l : Fin 2304) : EReal :=
  if l.val < 1536 then z l
  else if h : l.val < 1792 then turn256 (fun k => z ⟨1536 + k.val, by omega⟩) ar ac ⟨l.val - 1536, by omega⟩
  else if h : l.val < 2048 then turn256 (fun k => z ⟨1792 + k.val, by omega⟩) ar ac ⟨l.val - 1792, by omega⟩
  else z l

/-- The j-th frequency. -/
def freq (j : Fin 8) : EReal :=
  Ideal.pow (Ideal.ofBits .f32 0x461C4000#32) (Ideal.div (-(Ideal.ofBits .f32 0x00000000#32 + Ideal.ofBits .f32 0x40000000#32 * (((j.val : ℤ) : ℝ) : EReal))) (Ideal.ofBits .f32 0x41800000#32))

/-- The angle of a position along one axis at the j-th frequency. -/
def angle (p : ℕ) (j : Fin 8) : EReal := (((p : ℤ) : ℝ) : EReal) * freq j

end Cert.Inp

end
-- ==== Proof.Inp.Rows.lean ====
/-
The pieces the input projection's kernel writes, read at one place.
-/
module

public import proofs.«01_k».proof.Defs
public import proofs.«01_k».proof.Proof.Inp.Spec
public import proofs.«01_k».proof.Proof.Gen.Kernel3Ideal.Value
public import Idealize.ShloMosaic.Lib.Pipeline.ValueKit
public import Idealize.ShloMosaic.Lib.Claim

@[expose] public section

set_option maxRecDepth 16384

noncomputable section

namespace Cert.Inp

open Cert.Kernel3Ideal Cert.Kernel3Ideal.Gen
open Idealize.ShloMosaic Idealize.ShloMosaic.TcCoe

/-- The projected row of a token, from the block's rows. -/
theorem rows_at (x : FVec Ideal S1x512x1024 .f32) (g : FVec Ideal S1x1024 .f32) (sc sh : FVec Ideal S1x1x1024 .f32)
    (w : FVec Ideal S1024x2304 .bf16) (r : Fin 512) (l : Fin 2304) :
    k0_pay2 (F := Ideal) x g sc sh w (ix2 r l)
      = Cert.Ffn.proj (Cert.Ffn.modu (fun k => x (ix3 0 r k)) (fun k => g (ix2 0 k)) (fun k => sc (ix3 0 0 k)) (fun k => sh (ix3 0 0 k)))
          (fun d l => w (ix2 d l)) l := by
  pointwise [k0_pay2, Cert.Ffn.proj, Cert.Ffn.modu, Cert.Ffn.nrm]

/-- The projected row, when the block's rows are those of the arrays. -/
theorem rows_eq (X : FVec Ideal S1x512x1024 .f32) (G : FVec Ideal S1x1024 .f32) (SC SH : FVec Ideal S1x1x1024 .f32)
    (W : FVec Ideal S1024x2304 .bf16) (x g sc sh : Fin 1024 → EReal) (w : Fin 1024 → Fin 2304 → EReal) (r : Fin 512)
    (hX : ∀ k, X (ix3 0 r k) = x k) (hG : ∀ k, G (ix2 0 k) = g k) (hSC : ∀ k, SC (ix3 0 0 k) = sc k) (hSH : ∀ k, SH (ix3 0 0 k) = sh k)
    (hW : ∀ d l, W (ix2 d l) = w d l) (l : Fin 2304) :
    k0_pay2 (F := Ideal) X G SC SH W (ix2 r l) = Cert.Ffn.proj (Cert.Ffn.modu x g sc sh) w l := by
  rw [rows_at, funext hX, funext hG, funext hSC, funext hSH, show (fun d l => W (ix2 d l)) = w from funext fun d => funext (hW d)]

/-- The first lanes are not turned. -/
theorem turned_first (z : Fin 2304 → EReal) (ar ac : Fin 8 → EReal) (l : Fin 1536) :
    turned z ar ac ⟨l.val, by omega⟩ = z ⟨l.val, by omega⟩ := if_pos l.isLt

theorem turned_second (z : Fin 2304 → EReal) (ar ac : Fin 8 → EReal) (l : Fin 256) :
    turned z ar ac ⟨1536 + l.val, by omega⟩ = turn256 (fun k => z ⟨1536 + k.val, by omega⟩) ar ac l := by
  unfold turned
  rw [if_neg (by show ¬ 1536 + l.val < 1536; omega), dif_pos (show 1536 + l.val < 1792 by omega)]
  exact congrArg (turn256 _ ar ac) (Fin.ext (by show 1536 + l.val - 1536 = l.val; omega))

theorem turned_third (z : Fin 2304 → EReal) (ar ac : Fin 8 → EReal) (l : Fin 256) :
    turned z ar ac ⟨1792 + l.val, by omega⟩ = turn256 (fun k => z ⟨1792 + k.val, by omega⟩) ar ac l := by
  unfold turned
  rw [if_neg (by show ¬ 1792 + l.val < 1536; omega), dif_neg (show ¬ 1792 + l.val < 1792 by omega), dif_pos (show 1792 + l.val < 2048 by omega)]
  exact congrArg (turn256 _ ar ac) (Fin.ext (by show 1792 + l.val - 1792 = l.val; omega))

theorem turned_last (z : Fin 2304 → EReal) (ar ac : Fin 8 → EReal) (l : Fin 256) :
    turned z ar ac ⟨2048 + l.val, by omega⟩ = z ⟨2048 + l.val, by omega⟩ := by
  unfold turned
  rw [if_neg (by show ¬ 2048 + l.val < 1536; omega), dif_neg (show ¬ 2048 + l.val < 1792 by omega), dif_neg (show ¬ 2048 + l.val < 2048 by omega)]

theorem first_at (x : FVec Ideal S1x512x1024 .f32) (g : FVec Ideal S1x1024 .f32) (sc sh : FVec Ideal S1x1x1024 .f32)
    (w : FVec Ideal S1024x2304 .bf16) (u : Fin 1) (r : Fin 512) (l : Fin 1536) :
    k0_pay3 (F := Ideal) x g sc sh w (ix3 u r l) = k0_pay2 (F := Ideal) x g sc sh w (ix2 r ⟨l.val, by omega⟩) := by
  unfold k0_pay3
  generalize k0_pay2 (F := Ideal) x g sc sh w = z
  pointwise

theorem last_at (z : FVec Ideal S512x2304 .f32) (u : Fin 1) (r : Fin 512) (l : Fin 256) :
    k0_pay1 (F := Ideal) (k0_pay7 z) (ix3 u r l) = z (ix2 r ⟨2048 + l.val, by omega⟩) := by
  pointwise [k0_pay1, k0_pay7]

/-- A turned lane, from the lane itself, its right neighbour by eight and its left neighbour by eight. -/
theorem turn_lanes (f : Fin 256 → EReal) (ar ac : Fin 8 → EReal) (l : Fin 256) (A : EReal)
    (hA : A = if l.val / 16 % 2 = 0 then ar ⟨l.val % 8, by omega⟩ else ac ⟨l.val % 8, by omega⟩) :
    f l * Ideal.cos A + f ⟨(l.val + 256 - 248) % 256, by omega⟩ * (if l.val / 8 % 2 = 0 then -Ideal.sin A else 0)
        + f ⟨(l.val + 256 - 8) % 256, by omega⟩ * (if l.val / 8 % 2 = 0 then 0 else Ideal.sin A)
      = turn256 f ar ac l := by
  unfold turn256 turn32 turn16
  have place : ∀ (i j : Fin 256), i.val = j.val → f i = f j := fun i j h => congrArg f (Fin.ext h)
  have place8 : ∀ (g : Fin 8 → EReal) (i j : Fin 8), i.val = j.val → g i = g j := fun g i j h => congrArg g (Fin.ext h)
  by_cases h1 : l.val % 32 < 16
  · rw [dif_pos h1]
    rw [if_pos (by omega)] at hA
    by_cases h2 : l.val % 32 < 8
    · rw [dif_pos h2, if_pos (by omega), if_pos (by omega), hA, mul_neg, mul_zero, add_zero, ← sub_eq_add_neg]
      rw [place l ⟨32 * (l.val / 32) + l.val % 32, by omega⟩ (by show l.val = 32 * (l.val / 32) + l.val % 32; omega),
        place ⟨(l.val + 256 - 248) % 256, by omega⟩ ⟨32 * (l.val / 32) + (8 + l.val % 32), by omega⟩
          (by show (l.val + 256 - 248) % 256 = 32 * (l.val / 32) + (8 + l.val % 32); omega),
        place8 ar ⟨l.val % 8, by omega⟩ ⟨l.val % 32, h2⟩ (by show l.val % 8 = l.val % 32; omega)]
    · rw [dif_neg h2, if_neg (by omega), if_neg (by omega), hA, mul_zero, add_zero]
      rw [place l ⟨32 * (l.val / 32) + l.val % 32, by omega⟩ (by show l.val = 32 * (l.val / 32) + l.val % 32; omega),
        place ⟨(l.val + 256 - 8) % 256, by omega⟩ ⟨32 * (l.val / 32) + (l.val % 32 - 8), by omega⟩
          (by show (l.val + 256 - 8) % 256 = 32 * (l.val / 32) + (l.val % 32 - 8); omega),
        place8 ar ⟨l.val % 8, by omega⟩ ⟨l.val % 32 - 8, by omega⟩ (by show l.val % 8 = l.val % 32 - 8; omega)]
  · rw [dif_neg h1]
    rw [if_neg (by omega)] at hA
    by_cases h2 : l.val % 32 - 16 < 8
    · rw [dif_pos h2, if_pos (by omega), if_pos (by omega), hA, mul_neg, mul_zero, add_zero, ← sub_eq_add_neg]
      rw [place l ⟨32 * (l.val / 32) + (16 + (l.val % 32 - 16)), by omega⟩ (by show l.val = 32 * (l.val / 32) + (16 + (l.val % 32 - 16)); omega),
        place ⟨(l.val + 256 - 248) % 256, by omega⟩ ⟨32 * (l.val / 32) + (16 + (8 + (l.val % 32 - 16))), by omega⟩
          (by show (l.val + 256 - 248) % 256 = 32 * (l.val / 32) + (16 + (8 + (l.val % 32 - 16))); omega),
        place8 ac ⟨l.val % 8, by omega⟩ ⟨l.val % 32 - 16, h2⟩ (by show l.val % 8 = l.val % 32 - 16; omega)]
    · rw [dif_neg h2, if_neg (by omega), if_neg (by omega), hA, mul_zero, add_zero]
      rw [place l ⟨32 * (l.val / 32) + (16 + (l.val % 32 - 16)), by omega⟩ (by show l.val = 32 * (l.val / 32) + (16 + (l.val % 32 - 16)); omega),
        place ⟨(l.val + 256 - 8) % 256, by omega⟩ ⟨32 * (l.val / 32) + (16 + (l.val % 32 - 16 - 8)), by omega⟩
          (by show (l.val + 256 - 8) % 256 = 32 * (l.val / 32) + (16 + (l.val % 32 - 16 - 8)); omega),
        place8 ac ⟨l.val % 8, by omega⟩ ⟨l.val % 32 - 16 - 8, by omega⟩ (by show l.val % 8 = l.val % 32 - 16 - 8; omega)]

/-- The first turned group, from the tables the block carries. -/
theorem second_at (x : FVec Ideal S1x512x1024 .f32) (g : FVec Ideal S1x1024 .f32) (sc sh : FVec Ideal S1x1x1024 .f32)
    (w : FVec Ideal S1024x2304 .bf16) (C A B : FVec Ideal S512x256 .f32) (a : Fin 512 → Fin 256 → EReal) (ar ac : Fin 512 → Fin 8 → EReal)
    (ha : ∀ r l, a r l = if l.val / 16 % 2 = 0 then ar r ⟨l.val % 8, by omega⟩ else ac r ⟨l.val % 8, by omega⟩)
    (hC : ∀ r l, C (ix2 r l) = Ideal.cos (a r l)) (hA : ∀ r l, A (ix2 r l) = if l.val / 8 % 2 = 0 then -Ideal.sin (a r l) else 0)
    (hB : ∀ r l, B (ix2 r l) = if l.val / 8 % 2 = 0 then 0 else Ideal.sin (a r l)) (u : Fin 1) (r : Fin 512) (l : Fin 256) :
    k0_pay5 (F := Ideal) (k0_pay4 x g sc sh w) C A B (ix3 u r l)
      = turn256 (fun k => k0_pay2 (F := Ideal) x g sc sh w (ix2 r ⟨1536 + k.val, by omega⟩)) (ar r) (ac r) l := by
  unfold k0_pay4
  generalize k0_pay2 (F := Ideal) x g sc sh w = z
  pointwise [k0_pay5]
  rw [hC, hA, hB]
  exact turn_lanes (fun k => z (ix2 r ⟨1536 + k.val, by omega⟩)) (ar r) (ac r) l _ (ha r l)

/-- The second turned group. -/
theorem third_at (z : FVec Ideal S512x2304 .f32) (C A B : FVec Ideal S512x256 .f32) (a : Fin 512 → Fin 256 → EReal) (ar ac : Fin 512 → Fin 8 → EReal)
    (ha : ∀ r l, a r l = if l.val / 16 % 2 = 0 then ar r ⟨l.val % 8, by omega⟩ else ac r ⟨l.val % 8, by omega⟩)
    (hC : ∀ r l, C (ix2 r l) = Ideal.cos (a r l)) (hA : ∀ r l, A (ix2 r l) = if l.val / 8 % 2 = 0 then -Ideal.sin (a r l) else 0)
    (hB : ∀ r l, B (ix2 r l) = if l.val / 8 % 2 = 0 then 0 else Ideal.sin (a r l)) (u : Fin 1) (r : Fin 512) (l : Fin 256) :
    k0_pay6 (F := Ideal) z C A B (ix3 u r l)
      = turn256 (fun k => z (ix2 r ⟨1792 + k.val, by omega⟩)) (ar r) (ac r) l := by
  pointwise [k0_pay6]
  rw [hC, hA, hB]
  exact turn_lanes (fun k => z (ix2 r ⟨1792 + k.val, by omega⟩)) (ar r) (ac r) l _ (ha r l)

end Cert.Inp

end
-- ==== Proof.Inp.Reference.lean ====
/-
The plain input projection, cut into its steps, and each step read at one index.
-/
module

public import proofs.«01_k».proof.Proof.Inp.Spec
public import proofs.«01_k».proof.Proof.Gen.Reference3Ideal.Run
public import Idealize.ShloMosaic.Lib.Claim

@[expose] public section

set_option maxRecDepth 16384

noncomputable section

namespace Cert.Inp

open Cert.Reference3Ideal Cert.Reference3Ideal.Gen
open Idealize.ShloMosaic Idealize.ShloMosaic.TcCoe Idealize.SL.Sem

/-- The normalized input, scaled and shifted by the sample's parameters. -/
def modulated (x : FVec Ideal S16x2048x1024 .f32) (g : FVec Ideal S1024 .f32) (mod : FVec Ideal S24x6144 .f32) : FVec Ideal S16x2048x1024 .f32 :=
  addf (mulf (mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g))) (broadcastInDim S16x2048x1024 ![0, 1, 2] bcast_S16x1x1024_S16x2048x1024_0_1_2 (addf (broadcastInDim S16x1x1024 ![] bcast_S_S16x1x1024 (constant S_ .f32 0x3F800000#32)) (broadcastInDim S16x1x1024 ![0, 2] bcast_S16x1024_S16x1x1024_0_2 (extractStridedSlice S16x1024 ![0, 1024] (extractStridedSlice S16x6144 ![0, 0] mod slices_S24x6144_S16x6144_0_0) slices_S16x6144_S16x1024_0_1024))))) (broadcastInDim S16x2048x1024 ![0, 1, 2] bcast_S16x1x1024_S16x2048x1024_0_1_2 (broadcastInDim S16x1x1024 ![0, 2] bcast_S16x1024_S16x1x1024_0_2 (extractStridedSlice S16x1024 ![0, 0] (extractStridedSlice S16x6144 ![0, 0] mod slices_S24x6144_S16x6144_0_0) slices_S16x6144_S16x1024_0_0)))

/-- The projection to the 2304 lanes. -/
def projected (h : FVec Ideal S16x2048x1024 .f32) (w : FVec Ideal S1024x2304 .f32) : FVec Ideal S16x2048x2304 .f32 :=
  Host.dotGeneral dot_S16x2048x1024_S1024x2304_S16x2048x2304_2_0_01_1_n_n none h w

/-- The angles of the tokens' rows. -/
def rowAngles : FVec Ideal S2048x8 .f32 :=
  mulf (broadcastInDim S2048x8 ![0, 1] bcast_S2048x1_S2048x8_0_1 (broadcastInDim S2048x1 ![0] bcast_S2048_S2048x1_0 (shapeCast S2048 (broadcastInDim S32x64 ![0, 1] bcast_S32x1_S32x64_0_1 (broadcastInDim S32x1 ![0] bcast_S32_S32x1_0 (sitofp .f32 (iotaInDim S32 32 0)))) shapeCasts_S32x64_S2048))) (broadcastInDim S2048x8 ![0, 1] bcast_S1x8_S2048x8_0_1 (broadcastInDim S1x8 ![1] bcast_S8_S1x8_1 (Host.powf (broadcastInDim S8 ![] bcast_S_S8 (constant S_ .f32 0x461C4000#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32))))))

/-- The angles of the tokens' columns. -/
def colAngles : FVec Ideal S2048x8 .f32 :=
  mulf (broadcastInDim S2048x8 ![0, 1] bcast_S2048x1_S2048x8_0_1 (broadcastInDim S2048x1 ![0] bcast_S2048_S2048x1_0 (shapeCast S2048 (broadcastInDim S32x64 ![0, 1] bcast_S1x64_S32x64_0_1 (broadcastInDim S1x64 ![1] bcast_S64_S1x64_1 (sitofp .f32 (iotaInDim S64 32 0)))) shapeCasts_S32x64_S2048))) (broadcastInDim S2048x8 ![0, 1] bcast_S1x8_S2048x8_0_1 (broadcastInDim S1x8 ![1] bcast_S8_S1x8_1 (Host.powf (broadcastInDim S8 ![] bcast_S_S8 (constant S_ .f32 0x461C4000#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32))))))

/-- Sixteen lanes of every map turned by one axis' angles. -/
def turnHalves (u : FVec Ideal S16x2048x4x2x16 .f32) (a : FVec Ideal S2048x8 .f32) : FVec Ideal S16x2048x4x2x16 .f32 :=
  concatenate S16x2048x4x2x16 4 [⟨S16x2048x4x2x8, (subf (mulf (extractStridedSlice S16x2048x4x2x8 ![0, 0, 0, 0, 0] u slices_S16x2048x4x2x16_S16x2048x4x2x8_0_0_0_0_0) (broadcastInDim S16x2048x4x2x8 ![0, 1, 2, 3, 4] bcast_S1x2048x1x1x8_S16x2048x4x2x8_0_1_2_3_4 (broadcastInDim S1x2048x1x1x8 ![1, 4] bcast_S2048x8_S1x2048x1x1x8_1_4 (Host.cos a)))) (mulf (extractStridedSlice S16x2048x4x2x8 ![0, 0, 0, 0, 8] u slices_S16x2048x4x2x16_S16x2048x4x2x8_0_0_0_0_8) (broadcastInDim S16x2048x4x2x8 ![0, 1, 2, 3, 4] bcast_S1x2048x1x1x8_S16x2048x4x2x8_0_1_2_3_4 (broadcastInDim S1x2048x1x1x8 ![1, 4] bcast_S2048x8_S1x2048x1x1x8_1_4 (Host.sin a)))))⟩, ⟨S16x2048x4x2x8, (addf (mulf (extractStridedSlice S16x2048x4x2x8 ![0, 0, 0, 0, 8] u slices_S16x2048x4x2x16_S16x2048x4x2x8_0_0_0_0_8) (broadcastInDim S16x2048x4x2x8 ![0, 1, 2, 3, 4] bcast_S1x2048x1x1x8_S16x2048x4x2x8_0_1_2_3_4 (broadcastInDim S1x2048x1x1x8 ![1, 4] bcast_S2048x8_S1x2048x1x1x8_1_4 (Host.cos a)))) (mulf (extractStridedSlice S16x2048x4x2x8 ![0, 0, 0, 0, 0] u slices_S16x2048x4x2x16_S16x2048x4x2x8_0_0_0_0_0) (broadcastInDim S16x2048x4x2x8 ![0, 1, 2, 3, 4] bcast_S1x2048x1x1x8_S16x2048x4x2x8_0_1_2_3_4 (broadcastInDim S1x2048x1x1x8 ![1, 4] bcast_S2048x8_S1x2048x1x1x8_1_4 (Host.sin a)))))⟩] concatenates_S16x2048x4x2x8_S16x2048x4x2x8_S16x2048x4x2x16_d4

/-- Every map of thirty-two lanes turned. -/
def turnMaps (u : FVec Ideal S16x2048x4x2x32 .f32) (ar ac : FVec Ideal S2048x8 .f32) : FVec Ideal S16x2048x4x2x32 .f32 :=
  concatenate S16x2048x4x2x32 4 [⟨S16x2048x4x2x16, turnHalves (extractStridedSlice S16x2048x4x2x16 ![0, 0, 0, 0, 0] u slices_S16x2048x4x2x32_S16x2048x4x2x16_0_0_0_0_0) ar⟩, ⟨S16x2048x4x2x16, turnHalves (extractStridedSlice S16x2048x4x2x16 ![0, 0, 0, 0, 16] u slices_S16x2048x4x2x32_S16x2048x4x2x16_0_0_0_0_16) ac⟩] concatenates_S16x2048x4x2x16_S16x2048x4x2x16_S16x2048x4x2x32_d4

/-- A group of 256 lanes turned. -/
def turnGroup (u : FVec Ideal S16x2048x256 .f32) (ar ac : FVec Ideal S2048x8 .f32) : FVec Ideal S16x2048x256 .f32 :=
  shapeCast S16x2048x256 (turnMaps (shapeCast S16x2048x4x2x32 u shapeCasts_S16x2048x256_S16x2048x4x2x32) ar ac) shapeCasts_S16x2048x4x2x32_S16x2048x256

/-- The row with its two groups turned. -/
def joined (z : FVec Ideal S16x2048x2304 .f32) (ar ac : FVec Ideal S2048x8 .f32) : FVec Ideal S16x2048x2304 .bf16 :=
  truncf .bf16 (concatenate S16x2048x2304 2 [⟨S16x2048x1536, extractStridedSlice S16x2048x1536 ![0, 0, 0] z slices_S16x2048x2304_S16x2048x1536_0_0_0⟩, ⟨S16x2048x256, turnGroup (extractStridedSlice S16x2048x256 ![0, 0, 1536] z slices_S16x2048x2304_S16x2048x256_0_0_1536) ar ac⟩, ⟨S16x2048x256, turnGroup (extractStridedSlice S16x2048x256 ![0, 0, 1792] z slices_S16x2048x2304_S16x2048x256_0_0_1792) ar ac⟩, ⟨S16x2048x256, extractStridedSlice S16x2048x256 ![0, 0, 2048] z slices_S16x2048x2304_S16x2048x256_0_0_2048⟩] concatenates_S16x2048x1536_S16x2048x256_S16x2048x256_S16x2048x256_S16x2048x2304_d2) bitsLt_bf16_f32

/-- The plain program's result, from its four arguments. -/
def result (x : FVec Ideal S16x2048x1024 .f32) (g : FVec Ideal S1024 .f32) (mod : FVec Ideal S24x6144 .f32)
    (w : FVec Ideal S1024x2304 .f32) : FVec Ideal S16x2048x2304 .bf16 :=
  joined (projected (modulated x g mod) w) rowAngles colAngles

theorem result_eq (m : (ℓ : Loc nD τ sig) → Buf (Elt Ideal) ℓ) (c : Dev nD) :
    Value.res_main_v144 m c = result (m ((c.tc : Thread nD τ).loc main_arg0)) (m ((c.tc : Thread nD τ).loc main_arg1))
      (m ((c.tc : Thread nD τ).loc main_arg2)) (m ((c.tc : Thread nD τ).loc main_arg3)) := by
  unfold Value.res_main_v144 result joined turnGroup turnMaps turnHalves
  rfl

theorem projected_at (x : FVec Ideal S16x2048x1024 .f32) (g : FVec Ideal S1024 .f32) (mod : FVec Ideal S24x6144 .f32)
    (w : FVec Ideal S1024x2304 .f32) (b : Fin 16) (s : Fin 2048) (l : Fin 2304) :
    projected (modulated x g mod) w (ix3 b s l)
      = Cert.Ffn.proj (Cert.Ffn.modu (fun k => x (ix3 b s k)) (fun k => g (ix1 k))
          (fun k => mod (ix2 ⟨b.val, by omega⟩ ⟨1024 + k.val, by omega⟩))
          (fun k => mod (ix2 ⟨b.val, by omega⟩ ⟨k.val, by omega⟩))) (fun d l => w (ix2 d l)) l := by
  pointwise [projected, modulated, Cert.Ffn.proj, Cert.Ffn.modu, Cert.Ffn.nrm]

/-- A small count as a number. -/
theorem count_at (n : ℕ) (h : n < 2048) :
    (FloatOps.sitofp (F := Ideal) .f32 (BitVec.ofNat 32 n) : EReal) = ((((n : ℤ) : ℝ)) : EReal) := by
  show ((((BitVec.ofNat 32 n).toInt : ℤ) : ℝ) : EReal) = _
  rw [BitVec.toInt_eq_toNat_of_lt (by rw [BitVec.toNat_ofNat]; omega), BitVec.toNat_ofNat, Nat.mod_eq_of_lt (by omega)]

theorem rowAngles_at (s : Fin 2048) (j : Fin 8) : rowAngles (ix2 s j) = angle (s.val / 64) j := by
  pointwise [rowAngles, angle, freq]
  rw [count_at _ (by omega), count_at _ (by omega)]

theorem colAngles_at (s : Fin 2048) (j : Fin 8) : colAngles (ix2 s j) = angle (s.val % 64) j := by
  pointwise [colAngles, angle, freq]
  rw [count_at _ (by omega), count_at _ (by omega)]

theorem turnHalves_at (u : FVec Ideal S16x2048x4x2x16 .f32) (a : FVec Ideal S2048x8 .f32) (b : Fin 16) (s : Fin 2048)
    (h : Fin 4) (p : Fin 2) (l : Fin 16) :
    turnHalves u a (ix5 b s h p l) = turn16 (fun k => u (ix5 b s h p k)) (fun j => a (ix2 s j)) l := by
  pointwise [turnHalves, turn16]
  refine dite_congr rfl (fun _ => rfl) fun h8 => ?_
  rw [show (⟨8 + (l.val - 8), by omega⟩ : Fin 16) = l from Fin.ext (by show 8 + (l.val - 8) = l.val; omega)]

theorem turnMaps_at (u : FVec Ideal S16x2048x4x2x32 .f32) (ar ac : FVec Ideal S2048x8 .f32) (b : Fin 16) (s : Fin 2048)
    (h : Fin 4) (p : Fin 2) (l : Fin 32) :
    turnMaps u ar ac (ix5 b s h p l)
      = turn32 (fun k => u (ix5 b s h p k)) (fun j => ar (ix2 s j)) (fun j => ac (ix2 s j)) l := by
  pointwise [turnMaps, turn32]
  refine dite_congr rfl (fun _ => ?_) fun _ => ?_
  · rw [turnHalves_at]
    refine congrArg (fun f => turn16 f _ _) (funext fun k => ?_)
    pointwise
  · rw [turnHalves_at]
    refine congrArg (fun f => turn16 f _ _) (funext fun k => ?_)
    pointwise

theorem turnGroup_at (u : FVec Ideal S16x2048x256 .f32) (ar ac : FVec Ideal S2048x8 .f32) (b : Fin 16) (s : Fin 2048) (l : Fin 256) :
    turnGroup u ar ac (ix3 b s l)
      = turn256 (fun k => u (ix3 b s k)) (fun j => ar (ix2 s j)) (fun j => ac (ix2 s j)) l := by
  pointwise [turnGroup, turn256]
  rw [turnMaps_at]
  refine congrArg (fun f => turn32 f _ _ _) (funext fun k => ?_)
  pointwise
  refine congrArg u (congrArg (ix3 b s) (Fin.ext ?_))
  show l.val / 64 * 64 + l.val / 32 % 2 * 32 + k.val = 32 * (l.val / 32) + k.val
  omega

theorem joined_at (z : FVec Ideal S16x2048x2304 .f32) (ar ac : FVec Ideal S2048x8 .f32) (b : Fin 16) (s : Fin 2048) (l : Fin 2304) :
    joined z ar ac (ix3 b s l)
      = turned (fun k => z (ix3 b s k)) (fun j => ar (ix2 s j)) (fun j => ac (ix2 s j)) l := by
  pointwise [joined, turned]
  refine dite_congr rfl (fun _ => rfl) fun h1 => dite_congr (propext ⟨fun h => by omega, fun h => by omega⟩) (fun h2 => ?_) fun h2 =>
    dite_congr (propext ⟨fun h => by omega, fun h => by omega⟩) (fun h3 => ?_) fun h3 => ?_
  · rw [turnGroup_at]
    refine congrArg (fun f => turn256 f _ _ _) (funext fun k => ?_)
    pointwise
  · rw [turnGroup_at]
    rw [show (⟨l.val - 1536 - 256, by omega⟩ : Fin 256) = ⟨l.val - 1792, by omega⟩ from Fin.ext (by show _ - _ = _ - _; omega)]
    refine congrArg (fun f => turn256 f _ _ _) (funext fun k => ?_)
    pointwise
  · exact congrArg z (congrArg (ix3 b s) (Fin.ext (by show 2048 + (l.val - 1536 - 256 - 256) = l.val; omega)))

end Cert.Inp

end
-- ==== Proof.Inp.Tables.lean ====
/-
The tables the host prepares for the input projection: the cosines and the two signed sines of every token and lane.
-/
module

public import proofs.«01_k».proof.Defs
public import proofs.«01_k».proof.Proof.Inp.Spec
public import proofs.«01_k».proof.Proof.Inp.Reference
public import proofs.«01_k».proof.Proof.Gen.Kernel3Ideal.Value
public import Idealize.ShloMosaic.Lib.Pipeline.ValueKit
public import Idealize.ShloMosaic.Lib.StableHlo.ReadAt
public import Idealize.ShloMosaic.Lib.Claim

@[expose] public section

set_option maxRecDepth 16384

noncomputable section

namespace Cert.Inp

open Cert.Kernel3Ideal Cert.Kernel3Ideal.Gen Cert.Kernel3Ideal.Value
open Idealize.ShloMosaic Idealize.ShloMosaic.TcCoe Idealize.SL.Sem

/-- Which lanes turn by the row's angles. -/
theorem row_lane : ∀ l : Fin 256, lit0 l = if l.val / 16 % 2 = 0 then 1#1 else 0#1 := by decide +kernel

/-- Which frequency a lane has. -/
theorem lane_freq : ∀ l : Fin 256, lit1 l = BitVec.ofNat 32 (l.val % 8) := by decide +kernel

/-- The lanes of a first half. -/
theorem first_half : ∀ l : Fin 256, lit2 l = if l.val / 8 % 2 = 0 then 1#1 else 0#1 := by decide +kernel

/-- The lanes of a second half. -/
theorem second_half : ∀ l : Fin 256, lit3 l = if l.val / 8 % 2 = 0 then 0#1 else 1#1 := by decide +kernel

/-- Columns picked by a list of indices, at one place. -/
theorem columns_at (x : FVec Ideal S2048x8 .f32) (idx : IVec S256x1 32) (s : Fin 2048) (l : Fin 256) :
    Host.gather gather_S2048x8_S256x1_S2048x256_0_1_n_n_1_1_20481 x idx (ix2 s l)
      = x (ix2 s ⟨min (idx (ix2 l 0)).toInt.toNat 7, by omega⟩) := by
  unfold Host.gather
  congr 1
  funext a
  refine Fin.ext ?_
  show (gather_S2048x8_S256x1_S2048x256_0_1_n_n_1_1_20481).start (ix2 s l) idx a
      + (gather_S2048x8_S256x1_S2048x256_0_1_n_n_1_1_20481).batchCoord (ix2 s l) a
      + (gather_S2048x8_S256x1_S2048x256_0_1_n_n_1_1_20481).offCoord (ix2 s l) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil]
    have hs : (gather_S2048x8_S256x1_S2048x256_0_1_n_n_1_1_20481).start (ix2 s l) idx 0 = 0 := by
      unfold GatherDims.start
      exact dif_neg (fun h => absurd (List.mem_singleton.mp h) (by decide))
    rw [hs]
    unfold GatherDims.offCoord
    rw [dif_pos (by decide)]
    simp only [Nat.zero_add, Nat.add_zero]
    rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (gather_S2048x8_S256x1_S2048x256_0_1_n_n_1_1_20481).startIndexMap from List.mem_singleton.mpr rfl)]
    have hsi : (gather_S2048x8_S256x1_S2048x256_0_1_n_n_1_1_20481).siIdx (ix2 s l)
        ⟨List.idxOf (1 : Fin 2) (gather_S2048x8_S256x1_S2048x256_0_1_n_n_1_1_20481).startIndexMap,
          List.idxOf_lt_length_iff.2 (List.mem_singleton.mpr rfl)⟩ = ix2 l 0 := by
      funext b; refine Fin.ext ?_
      match b with
      | ⟨0, _⟩ => rfl
      | ⟨1, _⟩ => rfl
    rw [hsi]
    rfl

variable (m : (ℓ : Loc nD τ sig) → Buf (Elt Ideal) ℓ)

/-- The angle of a token at a lane. -/
def laneAngle (s : Fin 2048) (l : Fin 256) : EReal :=
  if l.val / 16 % 2 = 0 then angle (s.val / 64) ⟨l.val % 8, by omega⟩ else angle (s.val % 64) ⟨l.val % 8, by omega⟩

/-- The word of a token's row, as the host computes it: a signed division rounded down. -/
def rowWord (s : ℕ) : BitVec 32 :=
  Scalar.select
    (IntOp.andi
      (IntOp.cmpi .ne
        (if BitVec.ofNat 32 s = 0 then 0 else if (BitVec.ofNat 32 s).msb = true then -1 else 1)
        (if (64#32 : BitVec 32) = 0 then (0 : BitVec 32) else if BitVec.msb 64#32 = true then -1 else 1))
      (IntOp.cmpi .ne (IntOp.remsi ArithUnit.host (BitVec.ofNat 32 s) 64#32) 0#32))
    (IntOp.subi (IntOp.divsi ArithUnit.host (BitVec.ofNat 32 s) 64#32) 1#32)
    (IntOp.divsi ArithUnit.host (BitVec.ofNat 32 s) 64#32)

/-- The divisor the host takes the remainder by. -/
def divisor : BitVec 32 := Scalar.select (IntOp.cmpi .eq 64#32 0#32) (1#32) 64#32

/-- The word of a token's column, as the host computes it: the remainder of that division. -/
def colWord (s : ℕ) : BitVec 32 :=
  Scalar.select
    (IntOp.andi
      (IntOp.cmpi .ne
        (IntOp.cmpi .slt (IntOp.remsi ArithUnit.host (BitVec.ofNat 32 s) divisor) 0#32)
        (IntOp.cmpi .slt divisor 0#32))
      (IntOp.cmpi .ne (IntOp.remsi ArithUnit.host (BitVec.ofNat 32 s) divisor) 0#32))
    (IntOp.addi (IntOp.remsi ArithUnit.host (BitVec.ofNat 32 s) divisor) divisor)
    (IntOp.remsi ArithUnit.host (BitVec.ofNat 32 s) divisor)

theorem row_word : ∀ s : Fin 2048, rowWord s.val = BitVec.ofNat 32 (s.val / 64) := by decide +kernel

theorem col_word : ∀ s : Fin 2048, colWord s.val = BitVec.ofNat 32 (s.val % 64) := by decide +kernel

theorem pick_freq : ∀ l : Fin 256, BitVec.ofNat 32 (min (lit1 l).toInt.toNat 7) = BitVec.ofNat 32 (l.val % 8) := by decide +kernel

theorem place_at (l : Fin 256) : S256.rowMajor (ix1 l) = l := Fin.ext (Shape.rowMajor_val_one _)

/-- An angle from its word and its frequency's word. -/
def wordAngle (w f : BitVec 32) : EReal :=
  FloatOps.sitofp (F := Ideal) FTy.f32 w *
    Ideal.pow (Ideal.ofBits FTy.f32 1176256512#32)
      (Ideal.div (-(Ideal.ofBits FTy.f32 1073741824#32 * FloatOps.sitofp (F := Ideal) FTy.f32 f)) (Ideal.ofBits FTy.f32 1098907648#32))

theorem wordAngle_at (p : ℕ) (hp : p < 2048) (j : Fin 8) : wordAngle (BitVec.ofNat 32 p) (BitVec.ofNat 32 j.val) = angle p j := by
  unfold wordAngle angle freq
  rw [count_at _ hp, count_at _ (by omega)]
  pointwise

/-- The table of angles at one place. -/
theorem angle_at (s : Fin 2048) (l : Fin 256) :
    Scalar.select (lit0 (S256.rowMajor (ix1 l)))
      (wordAngle (rowWord s.val) (BitVec.ofNat 32 (min (lit1 (S256.rowMajor (ix1 l))).toInt.toNat 7)))
      (wordAngle (colWord s.val) (BitVec.ofNat 32 (min (lit1 (S256.rowMajor (ix1 l))).toInt.toNat 7))) = laneAngle s l := by
  rw [place_at, row_lane, pick_freq, row_word, col_word, wordAngle_at _ (by omega) ⟨l.val % 8, by omega⟩,
    wordAngle_at _ (by omega) ⟨l.val % 8, by omega⟩]
  unfold laneAngle
  by_cases h : l.val / 16 % 2 = 0
  · rw [if_pos h, if_pos h]; rfl
  · rw [if_neg h, if_neg h]; rfl

/-- The cosines. -/
theorem cos_at (c : Dev nD) (s : Fin 2048) (l : Fin 256) :
    (show FVec Ideal S2048x256 .f32 from V m c main_v39) (ix2 s l) = Ideal.cos (laneAngle s l) := by
  unfold V
  simp only [List.flatten_cons, List.flatten_nil, List.cons_append, List.nil_append, List.append_nil, hostOps0, hostOps0_1, hostOps0_2, hostOps0_3, hostOps0_4, hostOps0_5, hostOps0_6, hostOps0_7, hostOps0_8, hostOps0_9, hostOps0_10]
  after_reads_at
  rw [columns_at, columns_at]
  pointwise
  exact congrArg Ideal.cos (angle_at s l)

/-- The sines of the first halves, negated. -/
theorem sa_at (c : Dev nD) (s : Fin 2048) (l : Fin 256) :
    (show FVec Ideal S2048x256 .f32 from V m c main_v43) (ix2 s l)
      = if l.val / 8 % 2 = 0 then -Ideal.sin (laneAngle s l) else 0 := by
  unfold V
  simp only [List.flatten_cons, List.flatten_nil, List.cons_append, List.nil_append, List.append_nil, hostOps0, hostOps0_1, hostOps0_2, hostOps0_3, hostOps0_4, hostOps0_5, hostOps0_6, hostOps0_7, hostOps0_8, hostOps0_9, hostOps0_10]
  after_reads_at
  rw [columns_at, columns_at]
  pointwise
  refine (congrArg (fun z => Scalar.select (lit2 (S256.rowMajor (ix1 l))) z (Ideal.ofBits .f32 0#32)) (congrArg (fun z => -Ideal.sin z) (angle_at s l))).trans ?_
  rw [place_at, first_half]
  by_cases h : l.val / 8 % 2 = 0
  · rw [if_pos h, if_pos h]; rfl
  · rw [if_neg h, if_neg h]; exact Ideal.ofBits_zero_f32

/-- The sines of the second halves. -/
theorem sb_at (c : Dev nD) (s : Fin 2048) (l : Fin 256) :
    (show FVec Ideal S2048x256 .f32 from V m c main_v45) (ix2 s l)
      = if l.val / 8 % 2 = 0 then 0 else Ideal.sin (laneAngle s l) := by
  unfold V
  simp only [List.flatten_cons, List.flatten_nil, List.cons_append, List.nil_append, List.append_nil, hostOps0, hostOps0_1, hostOps0_2, hostOps0_3, hostOps0_4, hostOps0_5, hostOps0_6, hostOps0_7, hostOps0_8, hostOps0_9, hostOps0_10]
  after_reads_at
  rw [columns_at, columns_at]
  pointwise
  refine (congrArg (fun z => Scalar.select (lit3 (S256.rowMajor (ix1 l))) z (Ideal.ofBits .f32 0#32)) (congrArg Ideal.sin (angle_at s l))).trans ?_
  rw [place_at, second_half]
  by_cases h : l.val / 8 % 2 = 0
  · rw [if_pos h, if_pos h]; exact Ideal.ofBits_zero_f32
  · rw [if_neg h, if_neg h]; rfl

end Cert.Inp

end
-- ==== Proof.Inp.Value.lean ====
/-
The input projection: the value of the array the pipelined kernel leaves behind.

Each of the 64 grid points handles one block of 512 tokens of one sample.  It writes its block in four
pieces: the first 1536 lanes, the two groups of 256 lanes that are turned, and the last 256 lanes.
-/
module

public import proofs.«01_k».proof.Defs
public import proofs.«01_k».proof.Proof.Inp.Rows
public import proofs.«01_k».proof.Proof.Inp.Tables
public import proofs.«01_k».proof.Proof.Gen.Kernel3Ideal.Value
public import Idealize.ShloMosaic.Lib.Pipeline.ValueKit
public import Idealize.ShloMosaic.Lib.Claim

@[expose] public section

set_option maxRecDepth 16384

noncomputable section

namespace Cert.Kernel3Ideal.Hand

open Cert.Kernel3Ideal Cert.Kernel3Ideal.Gen Cert.Kernel3Ideal.Value
open Idealize.ShloMosaic Idealize.ShloMosaic.TcCoe Idealize.SL.Sem
open Idealize.ShloMosaic.Pipeline (Dat)

variable (m : (ℓ : Loc nD τ sig) → Buf (Elt Ideal) ℓ)

/-- Where each grid point's blocks lie: token blocks by the first coordinate, samples by the second. -/
theorem idx : ∀ t : Fin cfg0.N,
    win0_0.index t = ![((grid0.coords t) 1).val, ((grid0.coords t) 0).val, 0]
    ∧ win0_1.index t = ![0, 0]
    ∧ win0_2.index t = ![((grid0.coords t) 1).val, 0, 0]
    ∧ win0_3.index t = ![((grid0.coords t) 1).val, 0, 1]
    ∧ win0_4.index t = ![0, 0]
    ∧ win0_5.index t = ![((grid0.coords t) 0).val, 0]
    ∧ win0_6.index t = ![((grid0.coords t) 0).val, 0]
    ∧ win0_7.index t = ![((grid0.coords t) 0).val, 0]
    ∧ win0_8.index t = ![((grid0.coords t) 1).val, ((grid0.coords t) 0).val, 0] :=
  (by decide +kernel : ∀ t : Fin grid0.N, _)

/-- The gains, as the host prepares them. -/
theorem gains_at (c : Dev nD) (k : Fin 1024) :
    (show FVec Ideal S1x1024 .f32 from V m c main_v46) (ix2 0 k)
      = (show FVec Ideal S1024 .f32 from m ((c : Thread nD τ).loc main_arg1)) (ix1 k) := by
  unfold V
  simp only [List.flatten_cons, List.flatten_nil, List.cons_append, List.nil_append, List.append_nil, hostOps0, hostOps0_1, hostOps0_2, hostOps0_3, hostOps0_4, hostOps0_5, hostOps0_6, hostOps0_7, hostOps0_8, hostOps0_9, hostOps0_10]
  after_reads_at

/-- The samples' parameters, as the host prepares them. -/
theorem params_at (c : Dev nD) (b : Fin 24) (k : Fin 6144) :
    (show FVec Ideal S24x1x6144 .f32 from V m c main_v0) (ix3 b 0 k)
      = (show FVec Ideal S24x6144 .f32 from m ((c : Thread nD τ).loc main_arg2)) (ix2 b k) := by
  unfold V
  simp only [List.flatten_cons, List.flatten_nil, List.cons_append, List.nil_append, List.append_nil, hostOps0, hostOps0_1, hostOps0_2, hostOps0_3, hostOps0_4, hostOps0_5, hostOps0_6, hostOps0_7, hostOps0_8, hostOps0_9, hostOps0_10]
  after_reads_at

section Reads

variable (c : Dev nD) (t : Fin cfg0.N)

theorem read_x (b : Fin 16) (hb : ((grid0.coords t) 1).val = b.val) (r : Fin 512) (k : Fin 1024) :
    (show FVec Ideal S1x512x1024 .f32 from iblk m c 0 t) (ix3 0 r k)
      = (show FVec Ideal S16x2048x1024 .f32 from m ((c : Thread nD τ).loc main_arg0))
          (ix3 b ⟨512 * ((grid0.coords t) 0).val + r.val, by have : ((grid0.coords t) 0).val < 4 := ((grid0.coords t) 0).isLt; omega⟩ k) := by
  blk_ext [iblk, V, idx t]

theorem read_g (k : Fin 1024) :
    (show FVec Ideal S1x1024 .f32 from iblk m c 1 t) (ix2 0 k)
      = (show FVec Ideal S1024 .f32 from m ((c : Thread nD τ).loc main_arg1)) (ix1 k) := by
  rw [← gains_at m c]
  blk_ext [iblk, idx t]

theorem read_shift (b : Fin 16) (hb : ((grid0.coords t) 1).val = b.val) (k : Fin 1024) :
    (show FVec Ideal S1x1x1024 .f32 from iblk m c 2 t) (ix3 0 0 k)
      = (show FVec Ideal S24x6144 .f32 from m ((c : Thread nD τ).loc main_arg2)) (ix2 ⟨b.val, by omega⟩ ⟨k.val, by omega⟩) := by
  rw [← params_at m c]
  blk_ext [iblk, idx t]

theorem read_scale (b : Fin 16) (hb : ((grid0.coords t) 1).val = b.val) (k : Fin 1024) :
    (show FVec Ideal S1x1x1024 .f32 from iblk m c 3 t) (ix3 0 0 k)
      = (show FVec Ideal S24x6144 .f32 from m ((c : Thread nD τ).loc main_arg2)) (ix2 ⟨b.val, by omega⟩ ⟨1024 + k.val, by omega⟩) := by
  rw [← params_at m c]
  blk_ext [iblk, idx t]

theorem read_w (d : Fin 1024) (l : Fin 2304) :
    (show FVec Ideal S1024x2304 .bf16 from iblk m c 4 t) (ix2 d l)
      = (show FVec Ideal S1024x2304 .f32 from m ((c : Thread nD τ).loc main_arg3)) (ix2 d l) := by
  blk_point [iblk, V, idx t]

theorem read_cos (r : Fin 512) (l : Fin 256) :
    (show FVec Ideal S512x256 .f32 from iblk m c 5 t) (ix2 r l)
      = Ideal.cos (Cert.Inp.laneAngle ⟨512 * ((grid0.coords t) 0).val + r.val, by have : ((grid0.coords t) 0).val < 4 := ((grid0.coords t) 0).isLt; omega⟩ l) := by
  rw [← Cert.Inp.cos_at m c]
  blk_ext [iblk, idx t]

theorem read_sa (r : Fin 512) (l : Fin 256) :
    (show FVec Ideal S512x256 .f32 from iblk m c 6 t) (ix2 r l)
      = if l.val / 8 % 2 = 0 then -Ideal.sin (Cert.Inp.laneAngle ⟨512 * ((grid0.coords t) 0).val + r.val, by have : ((grid0.coords t) 0).val < 4 := ((grid0.coords t) 0).isLt; omega⟩ l) else 0 := by
  rw [← Cert.Inp.sa_at m c]
  blk_ext [iblk, idx t]

theorem read_sb (r : Fin 512) (l : Fin 256) :
    (show FVec Ideal S512x256 .f32 from iblk m c 7 t) (ix2 r l)
      = if l.val / 8 % 2 = 0 then 0 else Ideal.sin (Cert.Inp.laneAngle ⟨512 * ((grid0.coords t) 0).val + r.val, by have : ((grid0.coords t) 0).val < 4 := ((grid0.coords t) 0).isLt; omega⟩ l) := by
  rw [← Cert.Inp.sb_at m c]
  blk_ext [iblk, idx t]

/-- The plain program's projection, before the turn. -/
abbrev plain (c : Dev nD) : FVec Ideal S16x2048x2304 .f32 :=
  Cert.Inp.projected (Cert.Inp.modulated (m ((c : Thread nD τ).loc main_arg0)) (m ((c : Thread nD τ).loc main_arg1)) (m ((c : Thread nD τ).loc main_arg2))) (m ((c : Thread nD τ).loc main_arg3))

/-- The block's projected rows are the plain program's. -/
theorem row_eq (b : Fin 16) (hb : ((grid0.coords t) 1).val = b.val) (r : Fin 512) (l : Fin 2304) :
    k0_pay2 (F := Ideal) (iblk m c 0 t) (iblk m c 1 t) (iblk m c 3 t) (iblk m c 2 t) (iblk m c 4 t) (ix2 r l)
      = plain m c (ix3 b ⟨512 * ((grid0.coords t) 0).val + r.val, by have : ((grid0.coords t) 0).val < 4 := ((grid0.coords t) 0).isLt; omega⟩ l) := by
  refine Eq.trans ?_ (Cert.Inp.projected_at _ _ _ _ b _ l).symm
  exact Cert.Inp.rows_eq _ _ _ _ _ _ _ _ _ _ r (read_x m c t b hb r) (read_g m c t) (read_scale m c t b hb) (read_shift m c t b hb)
    (read_w m c t) l

/-- The plain program's result at one place. -/
theorem plain_at (b : Fin 16) (s : Fin 2048) (l : Fin 2304) :
    Cert.Inp.result (m ((c : Thread nD τ).loc main_arg0)) (m ((c : Thread nD τ).loc main_arg1)) (m ((c : Thread nD τ).loc main_arg2)) (m ((c : Thread nD τ).loc main_arg3)) (ix3 b s l)
      = Cert.Inp.turned (fun k => plain m c (ix3 b s k)) (Cert.Inp.angle (s.val / 64)) (Cert.Inp.angle (s.val % 64)) l := by
  refine (Cert.Inp.joined_at _ _ _ b s l).trans ?_
  rw [funext (Cert.Inp.rowAngles_at s), funext (Cert.Inp.colAngles_at s)]

/-- The last lanes the block writes. -/
theorem last_piece (b : Fin 16) (hb : ((grid0.coords t) 1).val = b.val) (u : Fin 1) (r : Fin 512) (l : Fin 256) :
    k0_pay1 (F := Ideal) (k0_pay7 (k0_pay2 (F := Ideal) (iblk m c 0 t) (iblk m c 1 t) (iblk m c 3 t) (iblk m c 2 t) (iblk m c 4 t))) (ix3 u r l)
      = Cert.Inp.result (m ((c : Thread nD τ).loc main_arg0)) (m ((c : Thread nD τ).loc main_arg1)) (m ((c : Thread nD τ).loc main_arg2)) (m ((c : Thread nD τ).loc main_arg3))
          (ix3 b ⟨512 * ((grid0.coords t) 0).val + r.val, by have : ((grid0.coords t) 0).val < 4 := ((grid0.coords t) 0).isLt; omega⟩ ⟨2048 + l.val, by omega⟩) := by
  have hn : ((grid0.coords t) 0).val < 4 := ((grid0.coords t) 0).isLt
  refine Eq.trans ?_ (plain_at m c b _ _).symm
  refine Eq.trans ?_ (Cert.Inp.turned_last _ _ _ l).symm
  exact (Cert.Inp.last_at _ u r l).trans (row_eq m c t b hb r _)

/-- The second turned group the block writes. -/
theorem third_piece (b : Fin 16) (hb : ((grid0.coords t) 1).val = b.val) (u : Fin 1) (r : Fin 512) (l : Fin 256) :
    k0_pay6 (F := Ideal) (k0_pay2 (F := Ideal) (iblk m c 0 t) (iblk m c 1 t) (iblk m c 3 t) (iblk m c 2 t) (iblk m c 4 t)) (iblk m c 5 t) (iblk m c 6 t) (iblk m c 7 t) (ix3 u r l)
      = Cert.Inp.result (m ((c : Thread nD τ).loc main_arg0)) (m ((c : Thread nD τ).loc main_arg1)) (m ((c : Thread nD τ).loc main_arg2)) (m ((c : Thread nD τ).loc main_arg3))
          (ix3 b ⟨512 * ((grid0.coords t) 0).val + r.val, by have : ((grid0.coords t) 0).val < 4 := ((grid0.coords t) 0).isLt; omega⟩ ⟨1792 + l.val, by omega⟩) := by
  have hn : ((grid0.coords t) 0).val < 4 := ((grid0.coords t) 0).isLt
  refine Eq.trans ?_ (plain_at m c b _ _).symm
  refine Eq.trans ?_ (Cert.Inp.turned_third _ _ _ l).symm
  refine (Cert.Inp.third_at _ _ _ _ (fun r l => Cert.Inp.laneAngle ⟨512 * ((grid0.coords t) 0).val + r.val, by omega⟩ l)
    (fun r => Cert.Inp.angle ((512 * ((grid0.coords t) 0).val + r.val) / 64)) (fun r => Cert.Inp.angle ((512 * ((grid0.coords t) 0).val + r.val) % 64))
    (fun r l => rfl) (read_cos m c t) (read_sa m c t) (read_sb m c t) u r l).trans ?_
  exact congrArg (fun f => Cert.Inp.turn256 f _ _ l) (funext fun k => row_eq m c t b hb r _)

/-- The first turned group the block writes. -/
theorem second_piece (b : Fin 16) (hb : ((grid0.coords t) 1).val = b.val) (u : Fin 1) (r : Fin 512) (l : Fin 256) :
    k0_pay5 (F := Ideal) (k0_pay4 (iblk m c 0 t) (iblk m c 1 t) (iblk m c 3 t) (iblk m c 2 t) (iblk m c 4 t)) (iblk m c 5 t) (iblk m c 6 t) (iblk m c 7 t) (ix3 u r l)
      = Cert.Inp.result (m ((c : Thread nD τ).loc main_arg0)) (m ((c : Thread nD τ).loc main_arg1)) (m ((c : Thread nD τ).loc main_arg2)) (m ((c : Thread nD τ).loc main_arg3))
          (ix3 b ⟨512 * ((grid0.coords t) 0).val + r.val, by have : ((grid0.coords t) 0).val < 4 := ((grid0.coords t) 0).isLt; omega⟩ ⟨1536 + l.val, by omega⟩) := by
  have hn : ((grid0.coords t) 0).val < 4 := ((grid0.coords t) 0).isLt
  refine Eq.trans ?_ (plain_at m c b _ _).symm
  refine Eq.trans ?_ (Cert.Inp.turned_second _ _ _ l).symm
  refine (Cert.Inp.second_at _ _ _ _ _ _ _ _ (fun r l => Cert.Inp.laneAngle ⟨512 * ((grid0.coords t) 0).val + r.val, by omega⟩ l)
    (fun r => Cert.Inp.angle ((512 * ((grid0.coords t) 0).val + r.val) / 64)) (fun r => Cert.Inp.angle ((512 * ((grid0.coords t) 0).val + r.val) % 64))
    (fun r l => rfl) (read_cos m c t) (read_sa m c t) (read_sb m c t) u r l).trans ?_
  exact congrArg (fun f => Cert.Inp.turn256 f _ _ l) (funext fun k => row_eq m c t b hb r _)

/-- The first lanes the block writes. -/
theorem first_piece (b : Fin 16) (hb : ((grid0.coords t) 1).val = b.val) (u : Fin 1) (r : Fin 512) (l : Fin 1536) :
    k0_pay3 (F := Ideal) (iblk m c 0 t) (iblk m c 1 t) (iblk m c 3 t) (iblk m c 2 t) (iblk m c 4 t) (ix3 u r l)
      = Cert.Inp.result (m ((c : Thread nD τ).loc main_arg0)) (m ((c : Thread nD τ).loc main_arg1)) (m ((c : Thread nD τ).loc main_arg2)) (m ((c : Thread nD τ).loc main_arg3))
          (ix3 b ⟨512 * ((grid0.coords t) 0).val + r.val, by have : ((grid0.coords t) 0).val < 4 := ((grid0.coords t) 0).isLt; omega⟩ ⟨l.val, by omega⟩) := by
  have hn : ((grid0.coords t) 0).val < 4 := ((grid0.coords t) 0).isLt
  refine Eq.trans ?_ (plain_at m c b _ _).symm
  refine Eq.trans ?_ (Cert.Inp.turned_first _ _ _ l).symm
  exact (Cert.Inp.first_at _ _ _ _ _ u r l).trans (row_eq m c t b hb r _)

end Reads

set_option maxHeartbeats 1600000 in
/-- The final array is the plain program's result. -/
theorem final (c : Dev nD) :
    (dats m 0 c).arrAt 8 cfg0.N = Cert.Inp.result (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  obtain ⟨b, hb⟩ : ∃ b : Fin 16, ((grid0.coords t) 1).val = b.val := ⟨(grid0.coords t) 1, rfl⟩
  have hn : ((grid0.coords t) 0).val < 4 := ((grid0.coords t) 0).isLt
  blk_simp
  rw [after0_8]
  unfold outsAt0
  frame_out
  canon_tiles z h using View.cover_of_tiledBy (s := S1x512x2304) _ ![1, 512, 256] (by sl_kernel_rfl) _
  case piece0 =>
    obtain ⟨u, r, l, hz⟩ : ∃ (u : Fin 1) (r : Fin 512) (l : Fin 256), z = ix3 u r l := ⟨z 0, z 1, z 2, by funext k; fin_cases k <;> rfl⟩
    subst hz
    have e1 : (y 1).val = r.val := h1
    have e2 : (y 2).val = 2048 + l.val := h2
    refine (Hand.last_piece m c t b hb u r l).trans (congrArg (Cert.Inp.result _ _ _ _) ?_)
    blk_ext [idx t]
  case piece1 =>
    obtain ⟨u, r, l, hz⟩ : ∃ (u : Fin 1) (r : Fin 512) (l : Fin 256), z = ix3 u r l := ⟨z 0, z 1, z 2, by funext k; fin_cases k <;> rfl⟩
    subst hz
    have e1 : (y 1).val = r.val := h1
    have e2 : (y 2).val = 1792 + l.val := h2
    refine (Hand.third_piece m c t b hb u r l).trans (congrArg (Cert.Inp.result _ _ _ _) ?_)
    blk_ext [idx t]
  case piece2 =>
    obtain ⟨u, r, l, hz⟩ : ∃ (u : Fin 1) (r : Fin 512) (l : Fin 256), z = ix3 u r l := ⟨z 0, z 1, z 2, by funext k; fin_cases k <;> rfl⟩
    subst hz
    have e1 : (y 1).val = r.val := h1
    have e2 : (y 2).val = 1536 + l.val := h2
    refine (Hand.second_piece m c t b hb u r l).trans (congrArg (Cert.Inp.result _ _ _ _) ?_)
    blk_ext [idx t]
  case piece3 =>
    obtain ⟨u, r, l, hz⟩ : ∃ (u : Fin 1) (r : Fin 512) (l : Fin 1536), z = ix3 u r l := ⟨z 0, z 1, z 2, by funext k; fin_cases k <;> rfl⟩
    subst hz
    have e1 : (y 1).val = r.val := h1
    have e2 : (y 2).val = l.val := h2
    refine (Hand.first_piece m c t b hb u r l).trans (congrArg (Cert.Inp.result _ _ _ _) ?_)
    blk_ext [idx t]

end Cert.Kernel3Ideal.Hand

end
-- ==== Proof.Inp.Claim.lean ====
/-
The input projection: both programs, run from agreeing arguments, end with the same result.
-/
module

public import proofs.«01_k».proof.Defs
public import proofs.«01_k».proof.Proof.Inp.Value
public import proofs.«01_k».proof.Proof.Inp.Reference
public import proofs.«01_k».proof.Proof.Gen.Reference3Ideal.Run
public import Idealize.ShloMosaic.Lib.StableHlo.ReadAt

@[expose] public section

noncomputable section

namespace Cert.Proof

open Idealize.ShloMosaic Idealize.SL.Sem

set_option maxHeartbeats 1600000 in
theorem in_proj_equal : Cert.algebraic_Kernel3Ideal_Reference3Ideal := by
  pair_intro
  · run_from Cert.Kernel3Ideal.Gen.run_main m g
    all_goals
      simp only [List.flatten_cons, List.flatten_nil, List.cons_append, List.nil_append, List.append_nil,
        Cert.Kernel3Ideal.Gen.hostOps0, Cert.Kernel3Ideal.Gen.hostOps0_1, Cert.Kernel3Ideal.Gen.hostOps0_2, Cert.Kernel3Ideal.Gen.hostOps0_3, Cert.Kernel3Ideal.Gen.hostOps0_4, Cert.Kernel3Ideal.Gen.hostOps0_5, Cert.Kernel3Ideal.Gen.hostOps0_6, Cert.Kernel3Ideal.Gen.hostOps0_7, Cert.Kernel3Ideal.Gen.hostOps0_8, Cert.Kernel3Ideal.Gen.hostOps0_9, Cert.Kernel3Ideal.Gen.hostOps0_10]
      after_reads_simp
  · run_from Cert.Reference3Ideal.Value.run m' g'
    obtain ⟨h0, h1, h2, h3⟩ := hagree c
    have h := Cert.Kernel3Ideal.Hand.final m c
    rw [← h0, ← h1, ← h2, ← h3] at h
    rw [h]
    exact Cert.Inp.result_eq m' c

end Cert.Proof

end
-- ==== Proof.Att.Spec.lean ====
/-
The attention in scalar formulas over the extended reals: a query row, the key rows and the value rows of 256 lanes,
eight maps of 32 lanes, four heads of 64 lanes with two maps each.
-/
module

public import Idealize.ShloMosaic.Lib.Pipeline.ValueKit

@[expose] public section

noncomputable section

namespace Cert.Att

open Idealize.ShloMosaic

/-- The scale of the scores. -/
def scale : EReal := Ideal.ofBits .f32 0x3E3504F3#32

/-- The score of one key under map `n`. -/
def score (q : Fin 256 → EReal) (K : Fin 2304 → Fin 256 → EReal) (n : Fin 8) (j : Fin 2304) : EReal :=
  (∑ d : Fin 32, q ⟨32 * n.val + d.val, by omega⟩ * K j ⟨32 * n.val + d.val, by omega⟩) * scale

/-- The greatest score. -/
def top (s : Fin 2304 → EReal) : EReal := Finset.univ.fold max (Ideal.ofBits .f32 0xFF800000#32) s

/-- The exponential of a score, the greatest one taken off. -/
def expo (s : Fin 2304 → EReal) (j : Fin 2304) : EReal := Ideal.exp (s j - top s)

/-- The sum of the exponentials. -/
def total (s : Fin 2304 → EReal) : EReal := ∑ j, expo s j

/-- The difference of a head's two softmaxes. -/
def mix (s0 s1 : Fin 2304 → EReal) (lam : EReal) (j : Fin 2304) : EReal :=
  Ideal.div (expo s0 j) (total s0) - lam * Ideal.div (expo s1 j) (total s1)

/-- The mixed values at one lane, by the lane's own head. -/
def attend (q : Fin 256 → EReal) (K V : Fin 2304 → Fin 256 → EReal) (lam : EReal) (l : Fin 256) : EReal :=
  ∑ j, V j l * mix (score q K ⟨2 * (l.val / 64), by omega⟩) (score q K ⟨2 * (l.val / 64) + 1, by omega⟩) lam j

/-- The weight of the second map, from the four learned rows. -/
def balance (q1 k1 q2 k2 : Fin 32 → EReal) : EReal :=
  Ideal.exp (∑ d, q1 d * k1 d) - Ideal.exp (∑ d, q2 d * k2 d) + Ideal.ofBits .f32 0x3EB60549#32

/-- A head's lanes divided by the root of their mean square, with gain and final factor. -/
def norm (o : Fin 256 → EReal) (g : Fin 64 → EReal) (l : Fin 256) : EReal :=
  o l * Ideal.rsqrt (Ideal.div (∑ d : Fin 64, o ⟨64 * (l.val / 64) + d.val, by omega⟩ * o ⟨64 * (l.val / 64) + d.val, by omega⟩) (Ideal.ofBits .f32 0x42800000#32)
      + Ideal.ofBits .f32 0x358637BD#32) * g ⟨l.val % 64, by omega⟩ * Ideal.ofBits .f32 0x3F24FD5C#32

end Cert.Att

end
-- ==== Proof.Att.Finite.lean ====
/-
Values that are real numbers: what keeps them real, and what holds of them that does not hold of infinite ones.
-/
module

public import proofs.«01_k».proof.Proof.Att.Spec
public import Idealize.ShloMosaic.Lib.Pipeline.ValueKit

@[expose] public section

noncomputable section

namespace Cert.Att

open Idealize.ShloMosaic

/-- A value that is a real number. -/
def Finite (x : EReal) : Prop := ∃ r : ℝ, x = r

theorem Finite.add {x y : EReal} (hx : Finite x) (hy : Finite y) : Finite (x + y) := by
  obtain ⟨a, rfl⟩ := hx
  obtain ⟨b, rfl⟩ := hy
  exact ⟨a + b, (EReal.coe_add a b).symm⟩

theorem Finite.sub {x y : EReal} (hx : Finite x) (hy : Finite y) : Finite (x - y) := by
  obtain ⟨a, rfl⟩ := hx
  obtain ⟨b, rfl⟩ := hy
  exact ⟨a - b, (EReal.coe_sub a b).symm⟩

theorem Finite.mul {x y : EReal} (hx : Finite x) (hy : Finite y) : Finite (x * y) := by
  obtain ⟨a, rfl⟩ := hx
  obtain ⟨b, rfl⟩ := hy
  exact ⟨a * b, (EReal.coe_mul a b).symm⟩

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem Finite.sum {ι : Type} {s : Finset ι} {f : ι → EReal} (h : ∀ i, Finite (f i)) : Finite (∑ i ∈ s, f i) := by
  choose r hr using h
  exact ⟨∑ i ∈ s, r i, by rw [coe_sum]; exact Finset.sum_congr rfl fun i _ => hr i⟩

theorem Finite.exp {x : EReal} (hx : Finite x) : ∃ r : ℝ, 0 < r ∧ Ideal.exp x = r := by
  obtain ⟨a, rfl⟩ := hx
  exact ⟨Real.exp a, Real.exp_pos a, rfl⟩

theorem Finite.div {x : EReal} (hx : Finite x) {r : ℝ} (hr : r ≠ 0) : Finite (Ideal.div x r) := by
  rw [Ideal.div_coe hr]
  exact hx.mul ⟨_, rfl⟩

/-- The pattern the greatest score starts from is below everything. -/
theorem lowest : Ideal.ofBits .f32 0xFF800000#32 = ⊥ := by
  simp [Ideal.ofBits, Ideal.ieee]

/-- The pattern of the infinite value. -/
theorem highest : Ideal.ofBits .f32 0x7F800000#32 = ⊤ := by
  simp [Ideal.ofBits, Ideal.ieee]

theorem sixtyFourth : Ideal.ofBits .f32 0x3C800000#32 = ((1 / 64 : ℝ) : EReal) := by
  simp [Ideal.ofBits, Ideal.ieee, -EReal.coe_mul]; norm_num

theorem sixtyFour : Ideal.ofBits .f32 0x42800000#32 = ((64 : ℝ) : EReal) := by
  simp [Ideal.ofBits, Ideal.ieee, -EReal.coe_mul]; norm_num

theorem scale_finite : Finite scale := by
  unfold scale Ideal.ofBits Ideal.ieee
  dsimp only
  rw [if_neg (by decide), if_neg (by decide)]
  exact ⟨_, rfl⟩

theorem offset_finite : Finite (Ideal.ofBits .f32 0x3EB60549#32) := by
  unfold Ideal.ofBits Ideal.ieee
  dsimp only
  rw [if_neg (by decide), if_neg (by decide)]
  exact ⟨_, rfl⟩

/-- The greatest of finitely many real scores is one of them. -/
theorem top_finite {s : Fin 2304 → EReal} (h : ∀ j, Finite (s j)) : Finite (top s) := by
  have e : top s = Finset.univ.sup s := by
    unfold top
    rw [lowest]
    rfl
  obtain ⟨j, _, hj⟩ := Finset.exists_mem_eq_sup Finset.univ ⟨0, Finset.mem_univ 0⟩ s
  rw [e, hj]
  exact h j

theorem expo_pos {s : Fin 2304 → EReal} (h : ∀ j, Finite (s j)) (j : Fin 2304) : ∃ r : ℝ, 0 < r ∧ expo s j = r :=
  ((h j).sub (top_finite h)).exp

theorem expo_finite {s : Fin 2304 → EReal} (h : ∀ j, Finite (s j)) (j : Fin 2304) : Finite (expo s j) :=
  let ⟨r, _, e⟩ := expo_pos h j
  ⟨r, e⟩

/-- The sum of the exponentials is a positive real number. -/
theorem total_pos {s : Fin 2304 → EReal} (h : ∀ j, Finite (s j)) : ∃ r : ℝ, 0 < r ∧ total s = r := by
  choose r hr hs using expo_pos h
  refine ⟨∑ j, r j, Finset.sum_pos (fun j _ => hr j) ⟨0, Finset.mem_univ 0⟩, ?_⟩
  rw [coe_sum]
  exact Finset.sum_congr rfl fun j _ => hs j

theorem score_finite {q : Fin 256 → EReal} {K : Fin 2304 → Fin 256 → EReal} (hq : ∀ k, Finite (q k)) (hK : ∀ j k, Finite (K j k))
    (n : Fin 8) (j : Fin 2304) : Finite (score q K n j) :=
  (Finite.sum fun d => (hq _).mul (hK j _)).mul scale_finite

theorem mix_finite {s0 s1 : Fin 2304 → EReal} (h0 : ∀ j, Finite (s0 j)) (h1 : ∀ j, Finite (s1 j)) {lam : EReal} (hl : Finite lam)
    (j : Fin 2304) : Finite (mix s0 s1 lam j) := by
  obtain ⟨a, ha, e⟩ := total_pos h0
  obtain ⟨b, hb, f⟩ := total_pos h1
  unfold mix
  rw [e, f]
  exact ((expo_finite h0 j).div ha.ne').sub (hl.mul ((expo_finite h1 j).div hb.ne'))

theorem attend_finite {q : Fin 256 → EReal} {K V : Fin 2304 → Fin 256 → EReal} {lam : EReal} (hq : ∀ k, Finite (q k))
    (hK : ∀ j k, Finite (K j k)) (hV : ∀ j k, Finite (V j k)) (hl : Finite lam) (l : Fin 256) : Finite (attend q K V lam l) :=
  Finite.sum fun j => (hV j l).mul (mix_finite (score_finite hq hK _) (score_finite hq hK _) hl j)

theorem balance_finite {q1 k1 q2 k2 : Fin 32 → EReal} (h1 : ∀ d, Finite (q1 d)) (h2 : ∀ d, Finite (k1 d)) (h3 : ∀ d, Finite (q2 d))
    (h4 : ∀ d, Finite (k2 d)) : Finite (balance q1 k1 q2 k2) := by
  obtain ⟨a, _, e⟩ := (Finite.sum (s := Finset.univ) fun d => (h1 d).mul (h2 d)).exp
  obtain ⟨b, _, f⟩ := (Finite.sum (s := Finset.univ) fun d => (h3 d).mul (h4 d)).exp
  unfold balance
  rw [e, f]
  exact (Finite.sub ⟨a, rfl⟩ ⟨b, rfl⟩).add offset_finite

end Cert.Att

end
-- ==== Proof.Att.Rows.lean ====
/-
The attention kernel's vectors, read at one place: the masked scores of each map, the mixed values of each head, the
choice of a lane's own head, and the norm.
-/
module

public import proofs.«01_k».proof.Defs
public import proofs.«01_k».proof.Proof.Att.Spec
public import proofs.«01_k».proof.Proof.Gen.KernelIdeal.Value
public import Idealize.ShloMosaic.Lib.Pipeline.ValueKit
public import Idealize.ShloMosaic.Lib.Claim

@[expose] public section

set_option maxRecDepth 16384

noncomputable section

namespace Cert.Att

open Cert.KernelIdeal Cert.KernelIdeal.Gen
open Idealize.ShloMosaic Idealize.ShloMosaic.TcCoe

/-- A score as the kernel takes it: the products summed over all lanes, those of other maps set to zero. -/
def masked (w : Fin 256 → BitVec 32) (q : Fin 256 → EReal) (K : Fin 2304 → Fin 256 → EReal) (n : BitVec 32) (j : Fin 2304) : EReal :=
  (∑ x, Scalar.select (IntOp.cmpi .eq (w x) n) (q x * K j x) 0) * scale

/-- The difference of two softmaxes, each taken by the inverse of its sum. -/
def kmix (s0 s1 : Fin 2304 → EReal) (lam : EReal) (j : Fin 2304) : EReal :=
  expo s0 j * Ideal.div 1 (total s0) - expo s1 j * Ideal.div lam (total s1)

/-- The kernel's norm: the mean square is taken by a product with a table, in two parts. -/
def knorm (o : Fin 256 → EReal) (bd : Fin 256 → EReal) (g : EReal) (l : Fin 256) : EReal :=
  o l * Ideal.rsqrt ((∑ x, o x * o x * bd x) + (∑ x, (o x * o x - o x * o x) * bd x) + Ideal.ofBits .f32 0x358637BD#32) * g
    * Ideal.ofBits .f32 0x3F24FD5C#32

section Payloads

variable (q : FVec Ideal S256x256 .bf16) (K V : FVec Ideal S2304x256 .bf16) (lam : FVec Ideal S1x1 .f32) (w v : IVec S1x256 32)
  (r l : Fin 256) (j : Fin 2304)

/-- The masked scores of map `n` for one row of queries. -/
abbrev ms (n : BitVec 32) : Fin 2304 → EReal :=
  masked (fun x => w (ix2 0 x)) (fun x => q (ix2 r x)) (fun j x => K (ix2 j x)) n

theorem lane_map : k0_pay6 (ix2 0 l) = BitVec.ofNat 32 (l.val / 32) := by
  pointwise [k0_pay6]
  revert l
  decide +kernel

theorem lane_head : k0_pay7 (ix2 0 l) = BitVec.ofNat 32 (l.val / 64) := by
  pointwise [k0_pay7]
  revert l
  decide +kernel

theorem lambda_at (a : FVec Ideal S4x32 .f32) :
    k0_pay5 (F := Ideal) a (ix2 0 0) = balance (fun d => a (ix2 0 d)) (fun d => a (ix2 1 d)) (fun d => a (ix2 2 d)) (fun d => a (ix2 3 d)) := by
  pointwise [k0_pay5, balance]

theorem query_at (x : FVec Ideal S1x256x256 .bf16) (k : Fin 256) : k0_pay2 (F := Ideal) x (ix2 r k) = x (ix3 0 r k) := by
  pointwise [k0_pay2]

theorem key_at (a : FVec Ideal S1x256x256 .bf16) (b : FVec Ideal S1x2048x256 .bf16) (k : Fin 256) :
    k0_pay3 (F := Ideal) a b (ix2 j k) = if h : j.val < 256 then a (ix3 0 ⟨j.val, h⟩ k) else b (ix3 0 ⟨j.val - 256, by omega⟩ k) := by
  pointwise [k0_pay3]

theorem value_at (a : FVec Ideal S1x256x256 .bf16) (b : FVec Ideal S1x2048x256 .bf16) (k : Fin 256) :
    k0_pay4 (F := Ideal) a b (ix2 j k) = if h : j.val < 256 then a (ix3 0 ⟨j.val, h⟩ k) else b (ix3 0 ⟨j.val - 256, by omega⟩ k) := by
  pointwise [k0_pay4]

theorem first_at : k0_pay9 (F := Ideal) q K V lam w (ix2 r l)
    = ∑ j, kmix (ms q K w r 0#32) (ms q K w r 1#32) (lam (ix2 0 0)) j * V (ix2 j l) := by
  pointwise [k0_pay9, kmix, total, expo, top, ms, masked, scale]

theorem second_at : k0_pay12 (F := Ideal) q K V lam w (ix2 r l)
    = ∑ j, kmix (ms q K w r 2#32) (ms q K w r 3#32) (lam (ix2 0 0)) j * V (ix2 j l) := by
  pointwise [k0_pay12, kmix, total, expo, top, ms, masked, scale]

theorem third_at : k0_pay14 (F := Ideal) q K lam w (ix2 r j)
    = kmix (ms q K w r 4#32) (ms q K w r 5#32) (lam (ix2 0 0)) j := by
  pointwise [k0_pay14, kmix, total, expo, top, ms, masked, scale]

theorem fourth_at : k0_pay17 (F := Ideal) q K w (ix2 r j)
    = expo (ms q K w r 6#32) j * Ideal.div 1 (total (ms q K w r 6#32)) := by
  pointwise [k0_pay17, kmix, total, expo, top, ms, masked, scale]

theorem last_at : k0_pay16 (F := Ideal) q K w (ix2 r j) = expo (ms q K w r 7#32) j := by
  pointwise [k0_pay16, kmix, total, expo, top, ms, masked, scale]

theorem share_at : k0_pay18 (F := Ideal) q K lam w (ix2 r 0) = Ideal.div (lam (ix2 0 0)) (total (ms q K w r 7#32)) := by
  pointwise [k0_pay18, k0_pay16, kmix, total, expo, top, ms, masked, scale]

theorem choose_first (o x : FVec Ideal S256x256 .f32) :
    k0_pay11 (F := Ideal) o x (k0_pay10 v) (ix2 r l) = Scalar.select (IntOp.cmpi .eq (v (ix2 0 l)) 0#32) (x (ix2 r l)) (o (ix2 r l)) := by
  pointwise [k0_pay11, k0_pay10]

theorem choose_second (o x : FVec Ideal S256x256 .f32) :
    k0_pay13 (F := Ideal) v o x (ix2 r l) = Scalar.select (IntOp.cmpi .eq (v (ix2 0 l)) 1#32) (x (ix2 r l)) (o (ix2 r l)) := by
  pointwise [k0_pay13]

theorem choose_third (o : FVec Ideal S256x256 .f32) (a : FVec Ideal S256x2304 .f32) :
    k0_pay15 (F := Ideal) V v o a (ix2 r l)
      = Scalar.select (IntOp.cmpi .eq (v (ix2 0 l)) 2#32) (∑ j, a (ix2 r j) * V (ix2 j l)) (o (ix2 r l)) := by
  pointwise [k0_pay15]

theorem normed_row (o : FVec Ideal S256x256 .f32) (e1 e0 : FVec Ideal S256x2304 .f32) (x : FVec Ideal S256x1 .f32)
    (bd : FVec Ideal S256x256 .bf16) (g : FVec Ideal S1x256 .f32) :
    k0_pay1 (F := Ideal) V v o e1 e0 x bd g (ix3 0 r l)
      = knorm (fun l => Scalar.select (IntOp.cmpi .eq (v (ix2 0 l)) 3#32) (∑ j, (e0 (ix2 r j) - e1 (ix2 r j) * x (ix2 r 0)) * V (ix2 j l)) (o (ix2 r l)))
          (fun x => bd (ix2 x l)) (g (ix2 0 l)) l := by
  pointwise [k0_pay1, knorm]

end Payloads

end Cert.Att

end
-- ==== Proof.Att.Core.lean ====
/-
The kernel's way of taking the attention is the plain one, where the scores, the values and the weight are real numbers.
-/
module

public import proofs.«01_k».proof.Proof.Att.Finite
public import proofs.«01_k».proof.Proof.Att.Rows

@[expose] public section

set_option maxRecDepth 16384

noncomputable section

namespace Cert.Att

open Cert.KernelIdeal Cert.KernelIdeal.Gen
open Idealize.ShloMosaic Idealize.ShloMosaic.TcCoe

/-- A selection by the number of a small group of lanes. -/
theorem pick {a b : ℕ} (ha : a < 8) (hb : b < 8) (x y : EReal) :
    Scalar.select (IntOp.cmpi .eq (BitVec.ofNat 32 a) (BitVec.ofNat 32 b)) x y = if a = b then x else y := by
  have key : ∀ a b : Fin 8, IntOp.cmpi .eq (BitVec.ofNat 32 a.val) (BitVec.ofNat 32 b.val) = if a.val = b.val then 1#1 else 0#1 := by
    decide +kernel
  rw [key ⟨a, ha⟩ ⟨b, hb⟩]
  by_cases h : a = b
  · rw [if_pos h, if_pos h]; rfl
  · rw [if_neg h, if_neg h]; rfl

/-- The products of other maps being zero, the sum over all lanes is that over the map's own lanes. -/
theorem masked_eq (q : Fin 256 → EReal) (K : Fin 2304 → Fin 256 → EReal) (n : Fin 8) :
    masked (fun x => BitVec.ofNat 32 (x.val / 32)) q K (BitVec.ofNat 32 n.val) = score q K n := by
  funext j
  unfold masked score
  congr 1
  rw [show (∑ x : Fin 256, Scalar.select (IntOp.cmpi .eq (BitVec.ofNat 32 (x.val / 32)) (BitVec.ofNat 32 n.val)) (q x * K j x) 0)
      = ∑ m : Fin 8, ∑ d : Fin 32, Scalar.select (IntOp.cmpi .eq (BitVec.ofNat 32 ((m.val * 32 + d.val) / 32)) (BitVec.ofNat 32 n.val))
          (q ⟨m.val * 32 + d.val, by omega⟩ * K j ⟨m.val * 32 + d.val, by omega⟩) 0 from
    Fin.sum_univ_tiles 8 32 rfl (fun x : Fin 256 => Scalar.select (IntOp.cmpi .eq (BitVec.ofNat 32 (x.val / 32)) (BitVec.ofNat 32 n.val)) (q x * K j x) 0)]
  rw [Finset.sum_eq_single n]
  · refine Finset.sum_congr rfl fun d _ => ?_
    rw [show (n.val * 32 + d.val) / 32 = n.val by omega, pick n.isLt n.isLt, if_pos rfl]
    have e : (⟨n.val * 32 + d.val, by omega⟩ : Fin 256) = ⟨32 * n.val + d.val, by omega⟩ := Fin.ext (by show n.val * 32 + d.val = 32 * n.val + d.val; omega)
    rw [e]
  · intro m _ hm
    refine Finset.sum_eq_zero fun d _ => ?_
    rw [show (m.val * 32 + d.val) / 32 = m.val by omega, pick m.isLt n.isLt, if_neg fun h => hm (Fin.ext h)]
  · intro h
    exact absurd (Finset.mem_univ n) h

/-- Multiplying by the inverse of a sum is dividing by it. -/
theorem kmix_eq {s0 s1 : Fin 2304 → EReal} (h0 : ∀ j, Finite (s0 j)) (h1 : ∀ j, Finite (s1 j)) (lam : EReal) (j : Fin 2304) :
    kmix s0 s1 lam j = mix s0 s1 lam j := by
  obtain ⟨a, ha, e⟩ := total_pos h0
  obtain ⟨b, hb, f⟩ := total_pos h1
  unfold kmix mix
  rw [e, f, Ideal.div_coe ha.ne', Ideal.div_coe ha.ne', Ideal.div_coe hb.ne', Ideal.div_coe hb.ne', one_mul, mul_left_comm]

/-- A head's mean square by the table: each lane of the head counts one part in sixty-four, the others nothing. -/
theorem knorm_eq {o : Fin 256 → EReal} (ho : ∀ l, Finite (o l)) (bd : Fin 256 → EReal) (g : Fin 64 → EReal) (l : Fin 256)
    (hbd : ∀ x : Fin 256, bd x = if x.val / 64 = l.val / 64 then ((1 / 64 : ℝ) : EReal) else 0) :
    knorm o bd (g ⟨l.val % 64, by omega⟩) l = norm o g l := by
  have hz : (∑ x, (o x * o x - o x * o x) * bd x) = 0 := by
    refine Finset.sum_eq_zero fun x _ => ?_
    obtain ⟨r, hr⟩ := (ho x).mul (ho x)
    rw [hr, ← EReal.coe_sub, sub_self, EReal.coe_zero, zero_mul]
  have hs : (∑ x, o x * o x * bd x)
      = Ideal.div (∑ d : Fin 64, o ⟨64 * (l.val / 64) + d.val, by omega⟩ * o ⟨64 * (l.val / 64) + d.val, by omega⟩) (Ideal.ofBits .f32 0x42800000#32) := by
    rw [sixtyFour, Ideal.div_coe (by norm_num : (64 : ℝ) ≠ 0)]
    choose r hr using fun x => (ho x).mul (ho x)
    rw [show (∑ x : Fin 256, o x * o x * bd x) = ∑ m : Fin 4, ∑ d : Fin 64, o ⟨m.val * 64 + d.val, by omega⟩ * o ⟨m.val * 64 + d.val, by omega⟩ * bd ⟨m.val * 64 + d.val, by omega⟩ from
      Fin.sum_univ_tiles 4 64 rfl (fun x : Fin 256 => o x * o x * bd x)]
    rw [Finset.sum_eq_single (⟨l.val / 64, by omega⟩ : Fin 4)]
    · have e : ∀ d : Fin 64, (⟨l.val / 64 * 64 + d.val, by omega⟩ : Fin 256) = ⟨64 * (l.val / 64) + d.val, by omega⟩ := fun d =>
        Fin.ext (by show l.val / 64 * 64 + d.val = 64 * (l.val / 64) + d.val; omega)
      have e1 : (∑ d : Fin 64, o ⟨l.val / 64 * 64 + d.val, by omega⟩ * o ⟨l.val / 64 * 64 + d.val, by omega⟩ * bd ⟨l.val / 64 * 64 + d.val, by omega⟩)
          = ∑ d : Fin 64, ((r ⟨64 * (l.val / 64) + d.val, by omega⟩ * (1 / 64) : ℝ) : EReal) := by
        refine Finset.sum_congr rfl fun d _ => ?_
        rw [e d, hr, hbd, if_pos (show (64 * (l.val / 64) + d.val) / 64 = l.val / 64 by omega), EReal.coe_mul]
      refine e1.trans ?_
      rw [← coe_sum, ← Finset.sum_mul, EReal.coe_mul, coe_sum]
      exact congrArg (· * _) (Finset.sum_congr rfl fun d _ => (hr _).symm)
    · intro m _ hm
      refine Finset.sum_eq_zero fun d _ => ?_
      have hne : ¬ (m.val * 64 + d.val) / 64 = l.val / 64 := fun h => hm (Fin.ext (by show m.val = l.val / 64; omega))
      rw [hbd, if_neg hne, mul_zero]
    · intro h
      exact absurd (Finset.mem_univ _) h
  unfold knorm norm
  rw [hz, hs, add_zero]

end Cert.Att

end
-- ==== Proof.Att.Block.lean ====
/-
One block the attention kernel writes, at one place: the norm of the mixed values of the row.
-/
module

public import proofs.«01_k».proof.Proof.Att.Core

@[expose] public section

set_option maxRecDepth 16384

noncomputable section

namespace Cert.Att

open Cert.KernelIdeal Cert.KernelIdeal.Gen
open Idealize.ShloMosaic Idealize.ShloMosaic.TcCoe

section Row

variable (q : FVec Ideal S256x256 .bf16) (K V : FVec Ideal S2304x256 .bf16) (lam : FVec Ideal S1x1 .f32) (r : Fin 256)

/-- The masked scores of map `n` are its scores. -/
theorem ms_eq (n : Fin 8) : ms q K k0_pay6 r (BitVec.ofNat 32 n.val) = score (fun x => q (ix2 r x)) (fun j x => K (ix2 j x)) n := by
  unfold ms
  rw [show (fun x : Fin 256 => k0_pay6 (ix2 0 x)) = fun x : Fin 256 => BitVec.ofNat 32 (x.val / 32) from funext lane_map]
  exact masked_eq _ _ n

/-- The values mixed by a head's two maps, at a lane of the head. -/
theorem head_sum (hq : ∀ x, Finite (q (ix2 r x))) (hK : ∀ j x, Finite (K (ix2 j x))) (l : Fin 256) (n0 n1 : Fin 8)
    (h0 : n0.val = 2 * (l.val / 64)) (h1 : n1.val = 2 * (l.val / 64) + 1) :
    (∑ j, kmix (ms q K k0_pay6 r (BitVec.ofNat 32 n0.val)) (ms q K k0_pay6 r (BitVec.ofNat 32 n1.val)) (lam (ix2 0 0)) j * V (ix2 j l))
      = attend (fun x => q (ix2 r x)) (fun j x => K (ix2 j x)) (fun j x => V (ix2 j x)) (lam (ix2 0 0)) l := by
  have e0 : n0 = ⟨2 * (l.val / 64), by omega⟩ := Fin.ext h0
  have e1 : n1 = ⟨2 * (l.val / 64) + 1, by omega⟩ := Fin.ext h1
  rw [ms_eq, ms_eq, e0, e1]
  refine Finset.sum_congr rfl fun j _ => ?_
  rw [kmix_eq (score_finite hq hK _) (score_finite hq hK _), mul_comm]

/-- Every lane takes the mixed values of its own head. -/
theorem chosen (hq : ∀ x, Finite (q (ix2 r x))) (hK : ∀ j x, Finite (K (ix2 j x))) (o : FVec Ideal S256x256 .f32) (l : Fin 256) :
    Scalar.select (IntOp.cmpi .eq (k0_pay7 (ix2 0 l)) 3#32)
        (∑ j, (k0_pay17 (F := Ideal) q K k0_pay6 (ix2 r j) - k0_pay16 (F := Ideal) q K k0_pay6 (ix2 r j) * k0_pay18 (F := Ideal) q K lam k0_pay6 (ix2 r 0)) * V (ix2 j l))
        (k0_pay15 (F := Ideal) V k0_pay7
          (k0_pay13 (F := Ideal) k0_pay7 (k0_pay11 (F := Ideal) o (k0_pay9 (F := Ideal) q K V lam k0_pay6) (k0_pay10 k0_pay7)) (k0_pay12 (F := Ideal) q K V lam k0_pay6))
          (k0_pay14 (F := Ideal) q K lam k0_pay6) (ix2 r l))
      = attend (fun x => q (ix2 r x)) (fun j x => K (ix2 j x)) (fun j x => V (ix2 j x)) (lam (ix2 0 0)) l := by
  rw [choose_third, choose_second, choose_first, first_at, second_at, lane_head]
  rw [show (∑ j, (k0_pay17 (F := Ideal) q K k0_pay6 (ix2 r j) - k0_pay16 (F := Ideal) q K k0_pay6 (ix2 r j) * k0_pay18 (F := Ideal) q K lam k0_pay6 (ix2 r 0)) * V (ix2 j l))
      = ∑ j, kmix (ms q K k0_pay6 r 6#32) (ms q K k0_pay6 r 7#32) (lam (ix2 0 0)) j * V (ix2 j l) from
    Finset.sum_congr rfl fun j _ => by rw [fourth_at, last_at, share_at]; rfl]
  rw [show (∑ j, k0_pay14 (F := Ideal) q K lam k0_pay6 (ix2 r j) * V (ix2 j l))
      = ∑ j, kmix (ms q K k0_pay6 r 4#32) (ms q K k0_pay6 r 5#32) (lam (ix2 0 0)) j * V (ix2 j l) from
    Finset.sum_congr rfl fun j _ => by rw [third_at]]
  have hl : l.val / 64 < 4 := by omega
  rw [pick (by omega : l.val / 64 < 8) (by omega : 3 < 8), pick (by omega : l.val / 64 < 8) (by omega : 2 < 8),
    pick (by omega : l.val / 64 < 8) (by omega : 1 < 8), pick (by omega : l.val / 64 < 8) (by omega : 0 < 8)]
  by_cases h3 : l.val / 64 = 3
  · rw [if_pos h3]
    exact head_sum q K V lam r hq hK l 6 7 (by show 6 = _; omega) (by show 7 = _; omega)
  rw [if_neg h3]
  by_cases h2 : l.val / 64 = 2
  · rw [if_pos h2]
    exact head_sum q K V lam r hq hK l 4 5 (by show 4 = _; omega) (by show 5 = _; omega)
  rw [if_neg h2]
  by_cases h1 : l.val / 64 = 1
  · rw [if_pos h1]
    exact head_sum q K V lam r hq hK l 2 3 (by show 2 = _; omega) (by show 3 = _; omega)
  rw [if_neg h1, if_pos (by omega)]
  exact head_sum q K V lam r hq hK l 0 1 (by show 0 = _; omega) (by show 1 = _; omega)

/-- One block, at one place. -/
theorem block_at (hq : ∀ x, Finite (q (ix2 r x))) (hK : ∀ j x, Finite (K (ix2 j x))) (hV : ∀ j x, Finite (V (ix2 j x)))
    (hlam : Finite (lam (ix2 0 0))) (o : FVec Ideal S256x256 .f32) (bd : FVec Ideal S256x256 .bf16) (g : FVec Ideal S1x256 .f32) (g64 : Fin 64 → EReal)
    (l : Fin 256) (hbd : ∀ x : Fin 256, bd (ix2 x l) = if x.val / 64 = l.val / 64 then ((1 / 64 : ℝ) : EReal) else 0)
    (hg : g (ix2 0 l) = g64 ⟨l.val % 64, by omega⟩) :
    k0_pay1 (F := Ideal) V k0_pay7
        (k0_pay15 (F := Ideal) V k0_pay7
          (k0_pay13 (F := Ideal) k0_pay7 (k0_pay11 (F := Ideal) o (k0_pay9 (F := Ideal) q K V lam k0_pay6) (k0_pay10 k0_pay7)) (k0_pay12 (F := Ideal) q K V lam k0_pay6))
          (k0_pay14 (F := Ideal) q K lam k0_pay6))
        (k0_pay16 (F := Ideal) q K k0_pay6) (k0_pay17 (F := Ideal) q K k0_pay6) (k0_pay18 (F := Ideal) q K lam k0_pay6) bd g (ix3 0 r l)
      = norm (attend (fun x => q (ix2 r x)) (fun j x => K (ix2 j x)) (fun j x => V (ix2 j x)) (lam (ix2 0 0))) g64 l := by
  rw [normed_row, funext (chosen q K V lam r hq hK o), hg]
  exact knorm_eq (attend_finite hq hK hV hlam) (fun x => bd (ix2 x l)) g64 l hbd

end Row

end Cert.Att

end
-- ==== Proof.Att.HeadZero.lean ====
/-
The table that averages over a head's lanes, as stored: rows 0 to 63.
-/
module

public import proofs.«01_k».proof.Proof.Gen.KernelIdeal.Skeleton

@[expose] public section

set_option maxRecDepth 100000

namespace Cert.Att

open Cert.KernelIdeal

theorem rows0 : ∀ r : Fin 16, ∀ l : Fin 256,
    lit0 (Fin.mk (256 * (0 + r.val) + l.val) (by omega)) = if l.val / 64 = 0 then 0x3c800000#32 else 0#32 := by decide +kernel

theorem rows16 : ∀ r : Fin 16, ∀ l : Fin 256,
    lit0 (Fin.mk (256 * (16 + r.val) + l.val) (by omega)) = if l.val / 64 = 0 then 0x3c800000#32 else 0#32 := by decide +kernel

theorem rows32 : ∀ r : Fin 16, ∀ l : Fin 256,
    lit0 (Fin.mk (256 * (32 + r.val) + l.val) (by omega)) = if l.val / 64 = 0 then 0x3c800000#32 else 0#32 := by decide +kernel

theorem rows48 : ∀ r : Fin 16, ∀ l : Fin 256,
    lit0 (Fin.mk (256 * (48 + r.val) + l.val) (by omega)) = if l.val / 64 = 0 then 0x3c800000#32 else 0#32 := by decide +kernel

/-- The rows of head 0. -/
theorem headZero (k l : Fin 256) (hk : k.val / 64 = 0) :
    lit0 (Fin.mk (256 * k.val + l.val) (by omega)) = if l.val / 64 = 0 then 0x3c800000#32 else 0#32 := by
  by_cases h0 : k.val < 16
  · have e : (⟨256 * k.val + l.val, by omega⟩ : Fin 65536) = ⟨256 * (0 + (⟨k.val - 0, by omega⟩ : Fin 16).val) + l.val, by show 256 * (0 + (k.val - 0)) + l.val < 65536; omega⟩ :=
      Fin.ext (by show 256 * k.val + l.val = 256 * (0 + (k.val - 0)) + l.val; omega)
    rw [e]
    exact rows0 ⟨k.val - 0, by omega⟩ l
  by_cases h1 : k.val < 32
  · have e : (⟨256 * k.val + l.val, by omega⟩ : Fin 65536) = ⟨256 * (16 + (⟨k.val - 16, by omega⟩ : Fin 16).val) + l.val, by show 256 * (16 + (k.val - 16)) + l.val < 65536; omega⟩ :=
      Fin.ext (by show 256 * k.val + l.val = 256 * (16 + (k.val - 16)) + l.val; omega)
    rw [e]
    exact rows16 ⟨k.val - 16, by omega⟩ l
  by_cases h2 : k.val < 48
  · have e : (⟨256 * k.val + l.val, by omega⟩ : Fin 65536) = ⟨256 * (32 + (⟨k.val - 32, by omega⟩ : Fin 16).val) + l.val, by show 256 * (32 + (k.val - 32)) + l.val < 65536; omega⟩ :=
      Fin.ext (by show 256 * k.val + l.val = 256 * (32 + (k.val - 32)) + l.val; omega)
    rw [e]
    exact rows32 ⟨k.val - 32, by omega⟩ l
  have e : (⟨256 * k.val + l.val, by omega⟩ : Fin 65536) = ⟨256 * (48 + (⟨k.val - 48, by omega⟩ : Fin 16).val) + l.val, by show 256 * (48 + (k.val - 48)) + l.val < 65536; omega⟩ :=
      Fin.ext (by show 256 * k.val + l.val = 256 * (48 + (k.val - 48)) + l.val; omega)
  rw [e]
  exact rows48 ⟨k.val - 48, by omega⟩ l

end Cert.Att
-- ==== Proof.Att.HeadOne.lean ====
/-
The table that averages over a head's lanes, as stored: rows 64 to 127.
-/
module

public import proofs.«01_k».proof.Proof.Gen.KernelIdeal.Skeleton

@[expose] public section

set_option maxRecDepth 100000

namespace Cert.Att

open Cert.KernelIdeal

theorem rows64 : ∀ r : Fin 16, ∀ l : Fin 256,
    lit0 (Fin.mk (256 * (64 + r.val) + l.val) (by omega)) = if l.val / 64 = 1 then 0x3c800000#32 else 0#32 := by decide +kernel

theorem rows80 : ∀ r : Fin 16, ∀ l : Fin 256,
    lit0 (Fin.mk (256 * (80 + r.val) + l.val) (by omega)) = if l.val / 64 = 1 then 0x3c800000#32 else 0#32 := by decide +kernel

theorem rows96 : ∀ r : Fin 16, ∀ l : Fin 256,
    lit0 (Fin.mk (256 * (96 + r.val) + l.val) (by omega)) = if l.val / 64 = 1 then 0x3c800000#32 else 0#32 := by decide +kernel

theorem rows112 : ∀ r : Fin 16, ∀ l : Fin 256,
    lit0 (Fin.mk (256 * (112 + r.val) + l.val) (by omega)) = if l.val / 64 = 1 then 0x3c800000#32 else 0#32 := by decide +kernel

/-- The rows of head 1. -/
theorem headOne (k l : Fin 256) (hk : k.val / 64 = 1) :
    lit0 (Fin.mk (256 * k.val + l.val) (by omega)) = if l.val / 64 = 1 then 0x3c800000#32 else 0#32 := by
  by_cases h0 : k.val < 80
  · have e : (⟨256 * k.val + l.val, by omega⟩ : Fin 65536) = ⟨256 * (64 + (⟨k.val - 64, by omega⟩ : Fin 16).val) + l.val, by show 256 * (64 + (k.val - 64)) + l.val < 65536; omega⟩ :=
      Fin.ext (by show 256 * k.val + l.val = 256 * (64 + (k.val - 64)) + l.val; omega)
    rw [e]
    exact rows64 ⟨k.val - 64, by omega⟩ l
  by_cases h1 : k.val < 96
  · have e : (⟨256 * k.val + l.val, by omega⟩ : Fin 65536) = ⟨256 * (80 + (⟨k.val - 80, by omega⟩ : Fin 16).val) + l.val, by show 256 * (80 + (k.val - 80)) + l.val < 65536; omega⟩ :=
      Fin.ext (by show 256 * k.val + l.val = 256 * (80 + (k.val - 80)) + l.val; omega)
    rw [e]
    exact rows80 ⟨k.val - 80, by omega⟩ l
  by_cases h2 : k.val < 112
  · have e : (⟨256 * k.val + l.val, by omega⟩ : Fin 65536) = ⟨256 * (96 + (⟨k.val - 96, by omega⟩ : Fin 16).val) + l.val, by show 256 * (96 + (k.val - 96)) + l.val < 65536; omega⟩ :=
      Fin.ext (by show 256 * k.val + l.val = 256 * (96 + (k.val - 96)) + l.val; omega)
    rw [e]
    exact rows96 ⟨k.val - 96, by omega⟩ l
  have e : (⟨256 * k.val + l.val, by omega⟩ : Fin 65536) = ⟨256 * (112 + (⟨k.val - 112, by omega⟩ : Fin 16).val) + l.val, by show 256 * (112 + (k.val - 112)) + l.val < 65536; omega⟩ :=
      Fin.ext (by show 256 * k.val + l.val = 256 * (112 + (k.val - 112)) + l.val; omega)
  rw [e]
  exact rows112 ⟨k.val - 112, by omega⟩ l

end Cert.Att
-- ==== Proof.Att.HeadTwo.lean ====
/-
The table that averages over a head's lanes, as stored: rows 128 to 191.
-/
module

public import proofs.«01_k».proof.Proof.Gen.KernelIdeal.Skeleton

@[expose] public section

set_option maxRecDepth 100000

namespace Cert.Att

open Cert.KernelIdeal

theorem rows128 : ∀ r : Fin 16, ∀ l : Fin 256,
    lit0 (Fin.mk (256 * (128 + r.val) + l.val) (by omega)) = if l.val / 64 = 2 then 0x3c800000#32 else 0#32 := by decide +kernel

theorem rows144 : ∀ r : Fin 16, ∀ l : Fin 256,
    lit0 (Fin.mk (256 * (144 + r.val) + l.val) (by omega)) = if l.val / 64 = 2 then 0x3c800000#32 else 0#32 := by decide +kernel

theorem rows160 : ∀ r : Fin 16, ∀ l : Fin 256,
    lit0 (Fin.mk (256 * (160 + r.val) + l.val) (by omega)) = if l.val / 64 = 2 then 0x3c800000#32 else 0#32 := by decide +kernel

theorem rows176 : ∀ r : Fin 16, ∀ l : Fin 256,
    lit0 (Fin.mk (256 * (176 + r.val) + l.val) (by omega)) = if l.val / 64 = 2 then 0x3c800000#32 else 0#32 := by decide +kernel

/-- The rows of head 2. -/
theorem headTwo (k l : Fin 256) (hk : k.val / 64 = 2) :
    lit0 (Fin.mk (256 * k.val + l.val) (by omega)) = if l.val / 64 = 2 then 0x3c800000#32 else 0#32 := by
  by_cases h0 : k.val < 144
  · have e : (⟨256 * k.val + l.val, by omega⟩ : Fin 65536) = ⟨256 * (128 + (⟨k.val - 128, by omega⟩ : Fin 16).val) + l.val, by show 256 * (128 + (k.val - 128)) + l.val < 65536; omega⟩ :=
      Fin.ext (by show 256 * k.val + l.val = 256 * (128 + (k.val - 128)) + l.val; omega)
    rw [e]
    exact rows128 ⟨k.val - 128, by omega⟩ l
  by_cases h1 : k.val < 160
  · have e : (⟨256 * k.val + l.val, by omega⟩ : Fin 65536) = ⟨256 * (144 + (⟨k.val - 144, by omega⟩ : Fin 16).val) + l.val, by show 256 * (144 + (k.val - 144)) + l.val < 65536; omega⟩ :=
      Fin.ext (by show 256 * k.val + l.val = 256 * (144 + (k.val - 144)) + l.val; omega)
    rw [e]
    exact rows144 ⟨k.val - 144, by omega⟩ l
  by_cases h2 : k.val < 176
  · have e : (⟨256 * k.val + l.val, by omega⟩ : Fin 65536) = ⟨256 * (160 + (⟨k.val - 160, by omega⟩ : Fin 16).val) + l.val, by show 256 * (160 + (k.val - 160)) + l.val < 65536; omega⟩ :=
      Fin.ext (by show 256 * k.val + l.val = 256 * (160 + (k.val - 160)) + l.val; omega)
    rw [e]
    exact rows160 ⟨k.val - 160, by omega⟩ l
  have e : (⟨256 * k.val + l.val, by omega⟩ : Fin 65536) = ⟨256 * (176 + (⟨k.val - 176, by omega⟩ : Fin 16).val) + l.val, by show 256 * (176 + (k.val - 176)) + l.val < 65536; omega⟩ :=
      Fin.ext (by show 256 * k.val + l.val = 256 * (176 + (k.val - 176)) + l.val; omega)
  rw [e]
  exact rows176 ⟨k.val - 176, by omega⟩ l

end Cert.Att
-- ==== Proof.Att.HeadThree.lean ====
/-
The table that averages over a head's lanes, as stored: rows 192 to 255.
-/
module

public import proofs.«01_k».proof.Proof.Gen.KernelIdeal.Skeleton

@[expose] public section

set_option maxRecDepth 100000

namespace Cert.Att

open Cert.KernelIdeal

theorem rows192 : ∀ r : Fin 16, ∀ l : Fin 256,
    lit0 (Fin.mk (256 * (192 + r.val) + l.val) (by omega)) = if l.val / 64 = 3 then 0x3c800000#32 else 0#32 := by decide +kernel

theorem rows208 : ∀ r : Fin 16, ∀ l : Fin 256,
    lit0 (Fin.mk (256 * (208 + r.val) + l.val) (by omega)) = if l.val / 64 = 3 then 0x3c800000#32 else 0#32 := by decide +kernel

theorem rows224 : ∀ r : Fin 16, ∀ l : Fin 256,
    lit0 (Fin.mk (256 * (224 + r.val) + l.val) (by omega)) = if l.val / 64 = 3 then 0x3c800000#32 else 0#32 := by decide +kernel

theorem rows240 : ∀ r : Fin 16, ∀ l : Fin 256,
    lit0 (Fin.mk (256 * (240 + r.val) + l.val) (by omega)) = if l.val / 64 = 3 then 0x3c800000#32 else 0#32 := by decide +kernel

/-- The rows of head 3. -/
theorem headThree (k l : Fin 256) (hk : k.val / 64 = 3) :
    lit0 (Fin.mk (256 * k.val + l.val) (by omega)) = if l.val / 64 = 3 then 0x3c800000#32 else 0#32 := by
  by_cases h0 : k.val < 208
  · have e : (⟨256 * k.val + l.val, by omega⟩ : Fin 65536) = ⟨256 * (192 + (⟨k.val - 192, by omega⟩ : Fin 16).val) + l.val, by show 256 * (192 + (k.val - 192)) + l.val < 65536; omega⟩ :=
      Fin.ext (by show 256 * k.val + l.val = 256 * (192 + (k.val - 192)) + l.val; omega)
    rw [e]
    exact rows192 ⟨k.val - 192, by omega⟩ l
  by_cases h1 : k.val < 224
  · have e : (⟨256 * k.val + l.val, by omega⟩ : Fin 65536) = ⟨256 * (208 + (⟨k.val - 208, by omega⟩ : Fin 16).val) + l.val, by show 256 * (208 + (k.val - 208)) + l.val < 65536; omega⟩ :=
      Fin.ext (by show 256 * k.val + l.val = 256 * (208 + (k.val - 208)) + l.val; omega)
    rw [e]
    exact rows208 ⟨k.val - 208, by omega⟩ l
  by_cases h2 : k.val < 240
  · have e : (⟨256 * k.val + l.val, by omega⟩ : Fin 65536) = ⟨256 * (224 + (⟨k.val - 224, by omega⟩ : Fin 16).val) + l.val, by show 256 * (224 + (k.val - 224)) + l.val < 65536; omega⟩ :=
      Fin.ext (by show 256 * k.val + l.val = 256 * (224 + (k.val - 224)) + l.val; omega)
    rw [e]
    exact rows224 ⟨k.val - 224, by omega⟩ l
  have e : (⟨256 * k.val + l.val, by omega⟩ : Fin 65536) = ⟨256 * (240 + (⟨k.val - 240, by omega⟩ : Fin 16).val) + l.val, by show 256 * (240 + (k.val - 240)) + l.val < 65536; omega⟩ :=
      Fin.ext (by show 256 * k.val + l.val = 256 * (240 + (k.val - 240)) + l.val; omega)
  rw [e]
  exact rows240 ⟨k.val - 240, by omega⟩ l

end Cert.Att
-- ==== Proof.Att.Table.lean ====
/-
The three arrays the attention's host prepares: the table that averages over a head's lanes, the four learned rows
put together, and the gain of 64 lanes repeated for the four heads.
-/
module

public import proofs.«01_k».proof.Proof.Att.HeadZero
public import proofs.«01_k».proof.Proof.Att.HeadOne
public import proofs.«01_k».proof.Proof.Att.HeadTwo
public import proofs.«01_k».proof.Proof.Att.HeadThree
public import proofs.«01_k».proof.Proof.Att.Finite
public import proofs.«01_k».proof.Proof.Gen.KernelIdeal.Value
public import Idealize.ShloMosaic.Lib.Pipeline.ValueKit
public import Idealize.ShloMosaic.Lib.StableHlo.ReadAt

@[expose] public section

set_option maxRecDepth 16384

noncomputable section

namespace Cert.Att

open Cert.KernelIdeal Cert.KernelIdeal.Gen Cert.KernelIdeal.Value
open Idealize.ShloMosaic Idealize.ShloMosaic.TcCoe Idealize.SL.Sem

/-- The stored table: a 64th where row and lane are of the same head, zero elsewhere. -/
theorem stored (k l : Fin 256) :
    lit0 (Fin.mk (256 * k.val + l.val) (by omega)) = if k.val / 64 = l.val / 64 then 0x3c800000#32 else 0#32 := by
  have hk : k.val / 64 = 0 ∨ k.val / 64 = 1 ∨ k.val / 64 = 2 ∨ k.val / 64 = 3 := by omega
  rcases hk with h | h | h | h
  · rw [headZero k l h, h]; exact if_congr eq_comm rfl rfl
  · rw [headOne k l h, h]; exact if_congr eq_comm rfl rfl
  · rw [headTwo k l h, h]; exact if_congr eq_comm rfl rfl
  · rw [headThree k l h, h]; exact if_congr eq_comm rfl rfl

variable (m : (ℓ : Loc nD τ sig) → Buf (Elt Ideal) ℓ) (c : Dev nD)

/-- A place of the table in its list. -/
theorem table_place (k l : Fin 256) : lit0 (S256x256.rowMajor (ix2 k l)) = if k.val / 64 = l.val / 64 then 0x3c800000#32 else 0#32 := by
  rw [← stored k l]
  refine congrArg lit0 (Fin.ext ?_)
  rw [Shape.rowMajor_val_two]
  show _ = 256 * k.val + l.val
  have e0 : ((ix2 k l : S256x256.Idx) 0).val = k.val := rfl
  have e1 : ((ix2 k l : S256x256.Idx) 1).val = l.val := rfl
  simp only [e0, e1]
  show k.val * 256 + l.val = _
  omega

/-- The averaging table. -/
theorem table_at (k l : Fin 256) :
    (show FVec Ideal S256x256 .bf16 from V m c main_v0) (ix2 k l) = if k.val / 64 = l.val / 64 then ((1 / 64 : ℝ) : EReal) else 0 := by
  unfold V
  simp only [List.flatten_cons, List.flatten_nil, List.cons_append, List.nil_append, List.append_nil, hostOps0]
  after_reads_at
  refine (congrArg (Ideal.ofBits .f32) (table_place k l)).trans ?_
  by_cases h : k.val / 64 = l.val / 64
  · rw [if_pos h, if_pos h]; exact sixtyFourth
  · rw [if_neg h, if_neg h]; exact Ideal.ofBits_zero_f32

theorem row0_at (d : Fin 32) :
    (show FVec Ideal S4x32 .f32 from V m c main_v5) (ix2 0 d) = (show FVec Ideal S32 .f32 from m ((c : Thread nD τ).loc main_arg2)) (ix1 d) := by
  unfold V
  simp only [List.flatten_cons, List.flatten_nil, List.cons_append, List.nil_append, List.append_nil, hostOps0]
  after_reads_at
  erw [StableHlo.unary_result']
  pointwise
  after_reads_simp

theorem row1_at (d : Fin 32) :
    (show FVec Ideal S4x32 .f32 from V m c main_v5) (ix2 1 d) = (show FVec Ideal S32 .f32 from m ((c : Thread nD τ).loc main_arg3)) (ix1 d) := by
  unfold V
  simp only [List.flatten_cons, List.flatten_nil, List.cons_append, List.nil_append, List.append_nil, hostOps0]
  after_reads_at
  erw [StableHlo.unary_result']
  pointwise
  after_reads_simp

theorem row2_at (d : Fin 32) :
    (show FVec Ideal S4x32 .f32 from V m c main_v5) (ix2 2 d) = (show FVec Ideal S32 .f32 from m ((c : Thread nD τ).loc main_arg4)) (ix1 d) := by
  unfold V
  simp only [List.flatten_cons, List.flatten_nil, List.cons_append, List.nil_append, List.append_nil, hostOps0]
  after_reads_at
  erw [StableHlo.unary_result']
  pointwise
  after_reads_simp

theorem row3_at (d : Fin 32) :
    (show FVec Ideal S4x32 .f32 from V m c main_v5) (ix2 3 d) = (show FVec Ideal S32 .f32 from m ((c : Thread nD τ).loc main_arg5)) (ix1 d) := by
  unfold V
  simp only [List.flatten_cons, List.flatten_nil, List.cons_append, List.nil_append, List.append_nil, hostOps0]
  after_reads_at
  erw [StableHlo.unary_result']
  pointwise
  after_reads_simp

/-- The repeated gain. -/
theorem gain_at (l : Fin 256) :
    (show FVec Ideal S1x256 .f32 from V m c main_v9) (ix2 0 l)
      = (show FVec Ideal S64 .f32 from m ((c : Thread nD τ).loc main_arg6)) (ix1 ⟨l.val % 64, by omega⟩) := by
  unfold V
  simp only [List.flatten_cons, List.flatten_nil, List.cons_append, List.nil_append, List.append_nil, hostOps0]
  after_reads_at

end Cert.Att

end
-- ==== Proof.Att.Reference.lean ====
/-
The plain attention, cut into its steps, and each step read at one index.
-/
module

public import proofs.«01_k».proof.Proof.Att.Finite
public import proofs.«01_k».proof.Proof.Gen.ReferenceIdeal.Run
public import Idealize.ShloMosaic.Lib.Claim

@[expose] public section

set_option maxRecDepth 16384

noncomputable section

namespace Cert.Att

open Cert.ReferenceIdeal Cert.ReferenceIdeal.Gen
open Idealize.ShloMosaic Idealize.ShloMosaic.TcCoe Idealize.SL.Sem

/-- The queries of every map. -/
def queries (z : FVec Ideal S16x2048x2304 .f32) : FVec Ideal S16x2048x4x2x32 .f32 :=
  shapeCast S16x2048x4x2x32 (extractStridedSlice S16x2048x256 ![0, 0, 1536] z slices_S16x2048x2304_S16x2048x256_0_0_1536) shapeCasts_S16x2048x256_S16x2048x4x2x32

/-- The keys of every map, those of the context first. -/
def keys (z : FVec Ideal S16x2048x2304 .f32) (zc : FVec Ideal S16x256x2304 .f32) : FVec Ideal S16x2304x4x2x32 .f32 :=
  concatenate S16x2304x4x2x32 1 [⟨S16x256x4x2x32, (shapeCast S16x256x4x2x32 (extractStridedSlice S16x256x256 ![0, 0, 1792] zc slices_S16x256x2304_S16x256x256_0_0_1792) shapeCasts_S16x256x256_S16x256x4x2x32)⟩, ⟨S16x2048x4x2x32, (shapeCast S16x2048x4x2x32 (extractStridedSlice S16x2048x256 ![0, 0, 1792] z slices_S16x2048x2304_S16x2048x256_0_0_1792) shapeCasts_S16x2048x256_S16x2048x4x2x32)⟩] concatenates_S16x256x4x2x32_S16x2048x4x2x32_S16x2304x4x2x32_d1

/-- The values of every head, those of the context first. -/
def values (z : FVec Ideal S16x2048x2304 .f32) (zc : FVec Ideal S16x256x2304 .f32) : FVec Ideal S16x2304x4x64 .f32 :=
  concatenate S16x2304x4x64 1 [⟨S16x256x4x64, (shapeCast S16x256x4x64 (extractStridedSlice S16x256x256 ![0, 0, 2048] zc slices_S16x256x2304_S16x256x256_0_0_2048) shapeCasts_S16x256x256_S16x256x4x64)⟩, ⟨S16x2048x4x64, (shapeCast S16x2048x4x64 (extractStridedSlice S16x2048x256 ![0, 0, 2048] z slices_S16x2048x2304_S16x2048x256_0_0_2048) shapeCasts_S16x2048x256_S16x2048x4x64)⟩] concatenates_S16x256x4x64_S16x2048x4x64_S16x2304x4x64_d1

/-- The scaled scores. -/
def scores (Q : FVec Ideal S16x2048x4x2x32 .f32) (K : FVec Ideal S16x2304x4x2x32 .f32) : FVec Ideal S16x4x2x2048x2304 .f32 :=
  mulf (Host.dotGeneral dot_S16x2048x4x2x32_S16x2304x4x2x32_S16x4x2x2048x2304_4_4_1_1_023_023 none Q K) (broadcastInDim S16x4x2x2048x2304 ![] bcast_S_S16x4x2x2048x2304 (constant S_ .f32 0x3E3504F3#32))

/-- The greatest score of every query. -/
def peaks (S : FVec Ideal S16x4x2x2048x2304 .f32) : FVec Ideal S16x4x2x2048 .f32 :=
  Host.reduce FloatOps.maximumf S (constant S_ .f32 0xFF800000#32) reducesTo_S16x4x2x2048x2304_S16x4x2x2048_d4 h_S_

/-- The exponentials, a row's peak taken off. -/
def exponentials (S : FVec Ideal S16x4x2x2048x2304 .f32) (M : FVec Ideal S16x4x2x2048 .f32) : FVec Ideal S16x4x2x2048x2304 .f32 :=
  Host.exp (subf S (broadcastInDim S16x4x2x2048x2304 ![0, 1, 2, 3, 4] bcast_S16x4x2x2048x1_S16x4x2x2048x2304_0_1_2_3_4 (broadcastInDim S16x4x2x2048x1 ![0, 1, 2, 3] bcast_S16x4x2x2048_S16x4x2x2048x1_0_1_2_3 (maximumf (broadcastInDim S16x4x2x2048 ![] bcast_S_S16x4x2x2048 (constant S_ .f32 0xFF800000#32)) M))))

/-- The exponentials divided by their sum. -/
def softmax (E : FVec Ideal S16x4x2x2048x2304 .f32) : FVec Ideal S16x4x2x2048x2304 .f32 :=
  Host.divf E (broadcastInDim S16x4x2x2048x2304 ![0, 1, 2, 3, 4] bcast_S16x4x2x2048x1_S16x4x2x2048x2304_0_1_2_3_4 (broadcastInDim S16x4x2x2048x1 ![0, 1, 2, 3] bcast_S16x4x2x2048_S16x4x2x2048x1_0_1_2_3 (Host.reduceAdd E (constant S_ .f32 0x00000000#32) reducesTo_S16x4x2x2048x2304_S16x4x2x2048_d4 h_S_)))

/-- The weight of the second map. -/
def weight (q1 k1 q2 k2 : FVec Ideal S32 .f32) : FVec Ideal S_ .f32 :=
  addf (subf (Host.exp (Host.reduceAdd (mulf q1 k1) (constant S_ .f32 0x00000000#32) reducesTo_S32_S_d0 h_S_)) (Host.exp (Host.reduceAdd (mulf q2 k2) (constant S_ .f32 0x00000000#32) reducesTo_S32_S_d0 h_S_))) (constant S_ .f32 0x3EB60549#32)

/-- The first softmax less the weighted second one. -/
def mixed (P : FVec Ideal S16x4x2x2048x2304 .f32) (LAM : FVec Ideal S_ .f32) : FVec Ideal S16x4x2048x2304 .f32 :=
  subf (shapeCast S16x4x2048x2304 (extractStridedSlice S16x4x1x2048x2304 ![0, 0, 0, 0, 0] P slices_S16x4x2x2048x2304_S16x4x1x2048x2304_0_0_0_0_0) shapeCasts_S16x4x1x2048x2304_S16x4x2048x2304) (mulf (broadcastInDim S16x4x2048x2304 ![] bcast_S_S16x4x2048x2304 LAM) (shapeCast S16x4x2048x2304 (extractStridedSlice S16x4x1x2048x2304 ![0, 0, 1, 0, 0] P slices_S16x4x2x2048x2304_S16x4x1x2048x2304_0_0_1_0_0) shapeCasts_S16x4x1x2048x2304_S16x4x2048x2304))

/-- The values mixed. -/
def attended (V : FVec Ideal S16x2304x4x64 .f32) (A : FVec Ideal S16x4x2048x2304 .f32) : FVec Ideal S16x2048x4x64 .f32 :=
  transpose S16x2048x4x64 [0, 3, 1, 2] (Host.dotGeneral dot_S16x2304x4x64_S16x4x2048x2304_S16x4x64x2048_1_3_3_2_02_01 none V A) transposes_S16x4x64x2048_S16x2048x4x64_0_3_1_2

/-- Every head normalized, with its gain and the final factor. -/
def normed (O : FVec Ideal S16x2048x4x64 .f32) (g : FVec Ideal S64 .f32) : FVec Ideal S16x2048x256 .bf16 :=
  truncf .bf16 (shapeCast S16x2048x256 (mulf (mulf (mulf O (broadcastInDim S16x2048x4x64 ![0, 1, 2, 3] bcast_S16x2048x4x1_S16x2048x4x64_0_1_2_3 (Host.rsqrt (addf (Host.divf (broadcastInDim S16x2048x4x1 ![0, 1, 2] bcast_S16x2048x4_S16x2048x4x1_0_1_2 (Host.reduceAdd (mulf O O) (constant S_ .f32 0x00000000#32) reducesTo_S16x2048x4x64_S16x2048x4_d3 h_S_)) (broadcastInDim S16x2048x4x1 ![] bcast_S_S16x2048x4x1 (constant S_ .f32 0x42800000#32))) (broadcastInDim S16x2048x4x1 ![] bcast_S_S16x2048x4x1 (constant S_ .f32 0x358637BD#32)))))) (broadcastInDim S16x2048x4x64 ![0, 1, 2, 3] bcast_S1x1x1x64_S16x2048x4x64_0_1_2_3 (broadcastInDim S1x1x1x64 ![3] bcast_S64_S1x1x1x64_3 g))) (broadcastInDim S16x2048x4x64 ![] bcast_S_S16x2048x4x64 (constant S_ .f32 0x3F24FD5C#32))) shapeCasts_S16x2048x4x64_S16x2048x256) bitsLt_bf16_f32

/-- The plain program's result, from its seven arguments. -/
def result (z : FVec Ideal S16x2048x2304 .bf16) (zc : FVec Ideal S16x256x2304 .bf16) (q1 k1 q2 k2 : FVec Ideal S32 .f32) (g : FVec Ideal S64 .f32) : FVec Ideal S16x2048x256 .bf16 :=
  let S := scores (queries (extf .f32 z bitsLt_bf16_f32)) (keys (extf .f32 z bitsLt_bf16_f32) (extf .f32 zc bitsLt_bf16_f32))
  normed (attended (values (extf .f32 z bitsLt_bf16_f32) (extf .f32 zc bitsLt_bf16_f32))
    (mixed (softmax (exponentials S (peaks S)))
      (weight q1 k1 q2 k2))) g

theorem result_eq (m : (ℓ : Loc nD τ sig) → Buf (Elt Ideal) ℓ) (c : Dev nD) :
    Value.res_main_v61 m c = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Value.res_main_v61 result normed attended mixed softmax exponentials peaks
  rfl

/-- The key rows of a sample, those of the context first. -/
def keyRow (z : FVec Ideal S16x2048x2304 .f32) (zc : FVec Ideal S16x256x2304 .f32) (b : Fin 16) (j : Fin 2304) (k : Fin 256) : EReal :=
  if h : j.val < 256 then zc (ix3 b ⟨j.val, h⟩ ⟨1792 + k.val, by omega⟩) else z (ix3 b ⟨j.val - 256, by omega⟩ ⟨1792 + k.val, by omega⟩)

/-- The value rows of a sample, those of the context first. -/
def valueRow (z : FVec Ideal S16x2048x2304 .f32) (zc : FVec Ideal S16x256x2304 .f32) (b : Fin 16) (j : Fin 2304) (k : Fin 256) : EReal :=
  if h : j.val < 256 then zc (ix3 b ⟨j.val, h⟩ ⟨2048 + k.val, by omega⟩) else z (ix3 b ⟨j.val - 256, by omega⟩ ⟨2048 + k.val, by omega⟩)

theorem queries_at (z : FVec Ideal S16x2048x2304 .f32) (b : Fin 16) (s : Fin 2048) (h : Fin 4) (p : Fin 2) (d : Fin 32) :
    queries z (ix5 b s h p d) = z (ix3 b s ⟨1536 + (h.val * 64 + p.val * 32 + d.val), by omega⟩) := by
  pointwise [queries]

theorem keys_at (z : FVec Ideal S16x2048x2304 .f32) (zc : FVec Ideal S16x256x2304 .f32) (b : Fin 16) (j : Fin 2304) (h : Fin 4) (p : Fin 2) (d : Fin 32) :
    keys z zc (ix5 b j h p d) = keyRow z zc b j ⟨h.val * 64 + p.val * 32 + d.val, by omega⟩ := by
  pointwise [keys, keyRow]

theorem values_at (z : FVec Ideal S16x2048x2304 .f32) (zc : FVec Ideal S16x256x2304 .f32) (b : Fin 16) (j : Fin 2304) (h : Fin 4) (d : Fin 64) :
    values z zc (ix4 b j h d) = valueRow z zc b j ⟨h.val * 64 + d.val, by omega⟩ := by
  pointwise [values, valueRow]

theorem scores_at (Q : FVec Ideal S16x2048x4x2x32 .f32) (K : FVec Ideal S16x2304x4x2x32 .f32) (b : Fin 16) (h : Fin 4) (p : Fin 2) (s : Fin 2048) (j : Fin 2304) :
    scores Q K (ix5 b h p s j) = (∑ d : Fin 32, Q (ix5 b s h p d) * K (ix5 b j h p d)) * scale := by
  pointwise [scores, scale]

theorem peaks_at (S : FVec Ideal S16x4x2x2048x2304 .f32) (b : Fin 16) (h : Fin 4) (p : Fin 2) (s : Fin 2048) :
    peaks S (ix4 b h p s) = Finset.univ.fold max (Ideal.ofBits .f32 0xFF800000#32) (fun j => S (ix5 b h p s j)) := by
  pointwise [peaks]

theorem exponentials_at (S : FVec Ideal S16x4x2x2048x2304 .f32) (M : FVec Ideal S16x4x2x2048 .f32) (b : Fin 16) (h : Fin 4) (p : Fin 2) (s : Fin 2048) (j : Fin 2304) :
    exponentials S M (ix5 b h p s j) = Ideal.exp (S (ix5 b h p s j) - max (Ideal.ofBits .f32 0xFF800000#32) (M (ix4 b h p s))) := by
  pointwise [exponentials]

theorem softmax_at (E : FVec Ideal S16x4x2x2048x2304 .f32) (b : Fin 16) (h : Fin 4) (p : Fin 2) (s : Fin 2048) (j : Fin 2304) :
    softmax E (ix5 b h p s j) = Ideal.div (E (ix5 b h p s j)) (∑ k, E (ix5 b h p s k)) := by
  pointwise [softmax]

theorem weight_at (q1 k1 q2 k2 : FVec Ideal S32 .f32) :
    weight q1 k1 q2 k2 ix0 = balance (fun d => q1 (ix1 d)) (fun d => k1 (ix1 d)) (fun d => q2 (ix1 d)) (fun d => k2 (ix1 d)) := by
  pointwise [weight, balance]

theorem mixed_at (P : FVec Ideal S16x4x2x2048x2304 .f32) (LAM : FVec Ideal S_ .f32) (b : Fin 16) (h : Fin 4) (s : Fin 2048) (j : Fin 2304) :
    mixed P LAM (ix4 b h s j) = P (ix5 b h 0 s j) - LAM ix0 * P (ix5 b h 1 s j) := by
  pointwise [mixed]

theorem attended_at (V : FVec Ideal S16x2304x4x64 .f32) (A : FVec Ideal S16x4x2048x2304 .f32) (b : Fin 16) (s : Fin 2048) (h : Fin 4) (d : Fin 64) :
    attended V A (ix4 b s h d) = ∑ j, V (ix4 b j h d) * A (ix4 b h s j) := by
  pointwise [attended]

theorem normed_at (O : FVec Ideal S16x2048x4x64 .f32) (g : FVec Ideal S64 .f32) (b : Fin 16) (s : Fin 2048) (l : Fin 256) :
    normed O g (ix3 b s l) = O (ix4 b s ⟨l.val / 64, by omega⟩ ⟨l.val % 64, by omega⟩) * Ideal.rsqrt (Ideal.div (∑ d : Fin 64, O (ix4 b s ⟨l.val / 64, by omega⟩ d) * O (ix4 b s ⟨l.val / 64, by omega⟩ d)) (Ideal.ofBits .f32 0x42800000#32)
      + Ideal.ofBits .f32 0x358637BD#32) * g (ix1 ⟨l.val % 64, by omega⟩) * Ideal.ofBits .f32 0x3F24FD5C#32 := by
  pointwise [normed]

section Whole

variable (z : FVec Ideal S16x2048x2304 .f32) (zc : FVec Ideal S16x256x2304 .f32) (b : Fin 16) (s : Fin 2048)

/-- The query row of a token. -/
def queryRow (k : Fin 256) : EReal := z (ix3 b s ⟨1536 + k.val, by omega⟩)

theorem score_eq (h : Fin 4) (p : Fin 2) (j : Fin 2304) :
    scores (queries z) (keys z zc) (ix5 b h p s j) = score (queryRow z b s) (keyRow z zc b) ⟨2 * h.val + p.val, by omega⟩ j := by
  rw [scores_at]
  unfold score
  congr 1
  refine Finset.sum_congr rfl fun d _ => ?_
  rw [queries_at, keys_at]
  have e : (⟨h.val * 64 + p.val * 32 + d.val, by omega⟩ : Fin 256) = ⟨32 * (2 * h.val + p.val) + d.val, by omega⟩ :=
    Fin.ext (by show h.val * 64 + p.val * 32 + d.val = 32 * (2 * h.val + p.val) + d.val; omega)
  exact congrArg (fun i : Fin 256 => queryRow z b s i * keyRow z zc b j i) e

theorem expo_eq (h : Fin 4) (p : Fin 2) (j : Fin 2304) :
    exponentials (scores (queries z) (keys z zc)) (peaks (scores (queries z) (keys z zc))) (ix5 b h p s j)
      = expo (score (queryRow z b s) (keyRow z zc b) ⟨2 * h.val + p.val, by omega⟩) j := by
  rw [exponentials_at, peaks_at, score_eq, funext (score_eq z zc b s h p)]
  unfold expo top
  rw [lowest, max_eq_right bot_le]

theorem softmax_eq (h : Fin 4) (p : Fin 2) (j : Fin 2304) :
    softmax (exponentials (scores (queries z) (keys z zc)) (peaks (scores (queries z) (keys z zc)))) (ix5 b h p s j)
      = Ideal.div (expo (score (queryRow z b s) (keyRow z zc b) ⟨2 * h.val + p.val, by omega⟩) j)
          (total (score (queryRow z b s) (keyRow z zc b) ⟨2 * h.val + p.val, by omega⟩)) := by
  rw [softmax_at, expo_eq, funext (expo_eq z zc b s h p)]
  rfl

theorem attended_eq (LAM : FVec Ideal S_ .f32) (h : Fin 4) (d : Fin 64) :
    attended (values z zc) (mixed (softmax (exponentials (scores (queries z) (keys z zc)) (peaks (scores (queries z) (keys z zc))))) LAM) (ix4 b s h d)
      = attend (queryRow z b s) (keyRow z zc b) (valueRow z zc b) (LAM ix0) ⟨64 * h.val + d.val, by omega⟩ := by
  rw [attended_at]
  unfold attend
  refine Finset.sum_congr rfl fun j _ => ?_
  rw [values_at, mixed_at, softmax_eq, softmax_eq]
  have e0 : (⟨h.val * 64 + d.val, by omega⟩ : Fin 256) = ⟨64 * h.val + d.val, by omega⟩ := Fin.ext (by show h.val * 64 + d.val = 64 * h.val + d.val; omega)
  have e1 : (⟨2 * h.val + (0 : Fin 2).val, by omega⟩ : Fin 8) = ⟨2 * ((64 * h.val + d.val) / 64), by omega⟩ :=
    Fin.ext (by show 2 * h.val + 0 = 2 * ((64 * h.val + d.val) / 64); omega)
  have e2 : (⟨2 * h.val + (1 : Fin 2).val, by have : (1 : Fin 2).val = 1 := rfl; omega⟩ : Fin 8) = ⟨2 * ((64 * h.val + d.val) / 64) + 1, by omega⟩ :=
    Fin.ext (by show 2 * h.val + 1 = 2 * ((64 * h.val + d.val) / 64) + 1; omega)
  rw [e0, e1, e2]
  rfl

end Whole

/-- The plain program's result at one place. -/
theorem result_at (z : FVec Ideal S16x2048x2304 .bf16) (zc : FVec Ideal S16x256x2304 .bf16) (q1 k1 q2 k2 : FVec Ideal S32 .f32) (g : FVec Ideal S64 .f32)
    (b : Fin 16) (s : Fin 2048) (l : Fin 256) :
    result z zc q1 k1 q2 k2 g (ix3 b s l)
      = norm (attend (queryRow (show FVec Ideal S16x2048x2304 .f32 from z) b s)
          (keyRow (show FVec Ideal S16x2048x2304 .f32 from z) (show FVec Ideal S16x256x2304 .f32 from zc) b)
          (valueRow (show FVec Ideal S16x2048x2304 .f32 from z) (show FVec Ideal S16x256x2304 .f32 from zc) b)
          (balance (fun d => q1 (ix1 d)) (fun d => k1 (ix1 d)) (fun d => q2 (ix1 d)) (fun d => k2 (ix1 d)))) (fun d => g (ix1 d)) l := by
  unfold result
  rw [show extf .f32 z bitsLt_bf16_f32 = (show FVec Ideal S16x2048x2304 .f32 from z) from rfl,
    show extf .f32 zc bitsLt_bf16_f32 = (show FVec Ideal S16x256x2304 .f32 from zc) from rfl]
  generalize (show FVec Ideal S16x2048x2304 .f32 from z) = z
  generalize (show FVec Ideal S16x256x2304 .f32 from zc) = zc
  rw [normed_at, attended_eq, weight_at]
  unfold norm
  have e : (⟨64 * (l.val / 64) + l.val % 64, by omega⟩ : Fin 256) = l := Fin.ext (by show 64 * (l.val / 64) + l.val % 64 = l.val; omega)
  rw [e]
  congr 5
  refine congrArg (fun f => Ideal.div f _) (Finset.sum_congr rfl fun d _ => ?_)
  rw [attended_eq, weight_at]

end Cert.Att

end
-- ==== Proof.Att.Value.lean ====
/-
The attention: the value of the array the pipelined kernel leaves behind.

Each of the 128 grid points handles one block of 256 queries of one sample, against all keys and values of the sample.
-/
module

public import proofs.«01_k».proof.Defs
public import proofs.«01_k».proof.Proof.Att.Block
public import proofs.«01_k».proof.Proof.Att.Table
public import proofs.«01_k».proof.Proof.Att.Reference
public import proofs.«01_k».proof.Proof.Gen.KernelIdeal.Value
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen Cert.KernelIdeal.Value
open Idealize.ShloMosaic Idealize.ShloMosaic.TcCoe Idealize.SL.Sem
open Idealize.ShloMosaic.Pipeline (Dat)

variable (m : (ℓ : Loc nD τ sig) → Buf (Elt Ideal) ℓ)

/-- Where each grid point's blocks lie: samples by the first coordinate, blocks of queries by the second. -/
theorem idx : ∀ t : Fin cfg0.N,
    win0_0.index t = ![((grid0.coords t) 0).val, ((grid0.coords t) 1).val, 6]
    ∧ win0_1.index t = ![((grid0.coords t) 0).val, 0, 7]
    ∧ win0_2.index t = ![((grid0.coords t) 0).val, 0, 8]
    ∧ win0_3.index t = ![((grid0.coords t) 0).val, 0, 7]
    ∧ win0_4.index t = ![((grid0.coords t) 0).val, 0, 8]
    ∧ win0_5.index t = ![0, 0]
    ∧ win0_6.index t = ![0, 0]
    ∧ win0_7.index t = ![0, 0]
    ∧ win0_8.index t = ![((grid0.coords t) 0).val, ((grid0.coords t) 1).val, 0] :=
  (by decide +kernel : ∀ t : Fin grid0.N, _)

/-- The tokens' projections. -/
abbrev tokens (c : Dev nD) : FVec Ideal S16x2048x2304 .f32 := m ((c : Thread nD τ).loc main_arg0)

/-- The context's projections. -/
abbrev context (c : Dev nD) : FVec Ideal S16x256x2304 .f32 := m ((c : Thread nD τ).loc main_arg1)

section Reads

variable (c : Dev nD) (t : Fin cfg0.N)

theorem read_q (b : Fin 16) (hb : ((grid0.coords t) 0).val = b.val) (r k : Fin 256) :
    (show FVec Ideal S1x256x256 .bf16 from iblk m c 0 t) (ix3 0 r k)
      = tokens m c (ix3 b ⟨256 * ((grid0.coords t) 1).val + r.val, by have : ((grid0.coords t) 1).val < 8 := ((grid0.coords t) 1).isLt; omega⟩ ⟨1536 + k.val, by omega⟩) := by
  blk_ext [iblk, V, idx t]

theorem read_kc (b : Fin 16) (hb : ((grid0.coords t) 0).val = b.val) (j k : Fin 256) :
    (show FVec Ideal S1x256x256 .bf16 from iblk m c 1 t) (ix3 0 j k) = context m c (ix3 b j ⟨1792 + k.val, by omega⟩) := by
  blk_ext [iblk, V, idx t]

theorem read_vc (b : Fin 16) (hb : ((grid0.coords t) 0).val = b.val) (j k : Fin 256) :
    (show FVec Ideal S1x256x256 .bf16 from iblk m c 2 t) (ix3 0 j k) = context m c (ix3 b j ⟨2048 + k.val, by omega⟩) := by
  blk_ext [iblk, V, idx t]

theorem read_k (b : Fin 16) (hb : ((grid0.coords t) 0).val = b.val) (j : Fin 2048) (k : Fin 256) :
    (show FVec Ideal S1x2048x256 .bf16 from iblk m c 3 t) (ix3 0 j k) = tokens m c (ix3 b j ⟨1792 + k.val, by omega⟩) := by
  blk_ext [iblk, V, idx t]

theorem read_v (b : Fin 16) (hb : ((grid0.coords t) 0).val = b.val) (j : Fin 2048) (k : Fin 256) :
    (show FVec Ideal S1x2048x256 .bf16 from iblk m c 4 t) (ix3 0 j k) = tokens m c (ix3 b j ⟨2048 + k.val, by omega⟩) := by
  blk_ext [iblk, V, idx t]

theorem read_rows (p : Fin 4) (d : Fin 32) :
    (show FVec Ideal S4x32 .f32 from iblk m c 5 t) (ix2 p d) = (show FVec Ideal S4x32 .f32 from V m c main_v5) (ix2 p d) := by
  blk_ext [iblk, idx t]

theorem read_gain (l : Fin 256) :
    (show FVec Ideal S1x256 .f32 from iblk m c 6 t) (ix2 0 l) = (show FVec Ideal S1x256 .f32 from V m c main_v9) (ix2 0 l) := by
  blk_ext [iblk, idx t]

theorem read_table (k l : Fin 256) :
    (show FVec Ideal S256x256 .bf16 from iblk m c 7 t) (ix2 k l) = (show FVec Ideal S256x256 .bf16 from V m c main_v0) (ix2 k l) := by
  blk_ext [iblk, idx t]

theorem keys_eq (b : Fin 16) (hb : ((grid0.coords t) 0).val = b.val) (j : Fin 2304) (k : Fin 256) :
    k0_pay3 (F := Ideal) (iblk m c 1 t) (iblk m c 3 t) (ix2 j k) = Cert.Att.keyRow (tokens m c) (context m c) b j k := by
  refine (Cert.Att.key_at j _ _ k).trans ?_
  unfold Cert.Att.keyRow
  by_cases h : j.val < 256
  · rw [dif_pos h, dif_pos h]; exact read_kc m c t b hb _ _
  · rw [dif_neg h, dif_neg h]; exact read_k m c t b hb _ _

theorem values_eq (b : Fin 16) (hb : ((grid0.coords t) 0).val = b.val) (j : Fin 2304) (k : Fin 256) :
    k0_pay4 (F := Ideal) (iblk m c 2 t) (iblk m c 4 t) (ix2 j k) = Cert.Att.valueRow (tokens m c) (context m c) b j k := by
  refine (Cert.Att.value_at j _ _ k).trans ?_
  unfold Cert.Att.valueRow
  by_cases h : j.val < 256
  · rw [dif_pos h, dif_pos h]; exact read_vc m c t b hb _ _
  · rw [dif_neg h, dif_neg h]; exact read_v m c t b hb _ _

theorem queries_eq (b : Fin 16) (hb : ((grid0.coords t) 0).val = b.val) (r k : Fin 256) :
    k0_pay2 (F := Ideal) (iblk m c 0 t) (ix2 r k)
      = Cert.Att.queryRow (tokens m c) b ⟨256 * ((grid0.coords t) 1).val + r.val, by have : ((grid0.coords t) 1).val < 8 := ((grid0.coords t) 1).isLt; omega⟩ k :=
  (Cert.Att.query_at r _ k).trans (read_q m c t b hb r k)

/-- The second map's weight, from the four learned rows. -/
abbrev weight (c : Dev nD) : EReal :=
  Cert.Att.balance (fun d => (show FVec Ideal S32 .f32 from m ((c : Thread nD τ).loc main_arg2)) (ix1 d))
    (fun d => (show FVec Ideal S32 .f32 from m ((c : Thread nD τ).loc main_arg3)) (ix1 d))
    (fun d => (show FVec Ideal S32 .f32 from m ((c : Thread nD τ).loc main_arg4)) (ix1 d))
    (fun d => (show FVec Ideal S32 .f32 from m ((c : Thread nD τ).loc main_arg5)) (ix1 d))

theorem weight_eq : k0_pay5 (F := Ideal) (iblk m c 5 t) (ix2 0 0) = weight m c := by
  refine (Cert.Att.lambda_at _).trans ?_
  unfold weight
  rw [← funext (Cert.Att.row0_at m c), ← funext (Cert.Att.row1_at m c), ← funext (Cert.Att.row2_at m c), ← funext (Cert.Att.row3_at m c),
    ← funext (read_rows m c t 0), ← funext (read_rows m c t 1), ← funext (read_rows m c t 2), ← funext (read_rows m c t 3)]

end Reads

/-- Every element of the arguments, the gain's aside, is a real number. -/
def AllReal (c : Dev nD) : Prop :=
  (∀ i, Cert.Att.Finite (tokens m c i)) ∧ (∀ i, Cert.Att.Finite (context m c i))
    ∧ (∀ i, Cert.Att.Finite ((show FVec Ideal S32 .f32 from m ((c : Thread nD τ).loc main_arg2)) i))
    ∧ (∀ i, Cert.Att.Finite ((show FVec Ideal S32 .f32 from m ((c : Thread nD τ).loc main_arg3)) i))
    ∧ (∀ i, Cert.Att.Finite ((show FVec Ideal S32 .f32 from m ((c : Thread nD τ).loc main_arg4)) i))
    ∧ (∀ i, Cert.Att.Finite ((show FVec Ideal S32 .f32 from m ((c : Thread nD τ).loc main_arg5)) i))

/-- The block a grid point writes, at one place. -/
theorem block_eq (c : Dev nD) (hm : AllReal m c) (t : Fin cfg0.N) (b : Fin 16) (hb : ((grid0.coords t) 0).val = b.val) (o : FVec Ideal S256x256 .f32) (r l : Fin 256) :
    k0_pay1 (F := Ideal) (k0_pay4 (F := Ideal) (iblk m c 2 t) (iblk m c 4 t)) k0_pay7
        (k0_pay15 (F := Ideal) (k0_pay4 (F := Ideal) (iblk m c 2 t) (iblk m c 4 t)) k0_pay7
          (k0_pay13 (F := Ideal) k0_pay7
            (k0_pay11 (F := Ideal) o
              (k0_pay9 (F := Ideal) (k0_pay2 (F := Ideal) (iblk m c 0 t)) (k0_pay3 (F := Ideal) (iblk m c 1 t) (iblk m c 3 t)) (k0_pay4 (F := Ideal) (iblk m c 2 t) (iblk m c 4 t)) (k0_pay5 (F := Ideal) (iblk m c 5 t)) k0_pay6)
              (k0_pay10 k0_pay7))
            (k0_pay12 (F := Ideal) (k0_pay2 (F := Ideal) (iblk m c 0 t)) (k0_pay3 (F := Ideal) (iblk m c 1 t) (iblk m c 3 t)) (k0_pay4 (F := Ideal) (iblk m c 2 t) (iblk m c 4 t)) (k0_pay5 (F := Ideal) (iblk m c 5 t)) k0_pay6))
          (k0_pay14 (F := Ideal) (k0_pay2 (F := Ideal) (iblk m c 0 t)) (k0_pay3 (F := Ideal) (iblk m c 1 t) (iblk m c 3 t)) (k0_pay5 (F := Ideal) (iblk m c 5 t)) k0_pay6))
        (k0_pay16 (F := Ideal) (k0_pay2 (F := Ideal) (iblk m c 0 t)) (k0_pay3 (F := Ideal) (iblk m c 1 t) (iblk m c 3 t)) k0_pay6)
        (k0_pay17 (F := Ideal) (k0_pay2 (F := Ideal) (iblk m c 0 t)) (k0_pay3 (F := Ideal) (iblk m c 1 t) (iblk m c 3 t)) k0_pay6)
        (k0_pay18 (F := Ideal) (k0_pay2 (F := Ideal) (iblk m c 0 t)) (k0_pay3 (F := Ideal) (iblk m c 1 t) (iblk m c 3 t)) (k0_pay5 (F := Ideal) (iblk m c 5 t)) k0_pay6)
        (iblk m c 7 t) (iblk m c 6 t) (ix3 0 r l)
      = Cert.Att.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
          (ix3 b ⟨256 * ((grid0.coords t) 1).val + r.val, by have : ((grid0.coords t) 1).val < 8 := ((grid0.coords t) 1).isLt; omega⟩ l) := by
  obtain ⟨f0, f1, f2, f3, f4, f5⟩ := hm
  refine Eq.trans ?_ (Cert.Att.result_at _ _ _ _ _ _ _ b _ l).symm
  refine (Cert.Att.block_at _ _ _ _ r ?_ ?_ ?_ ?_ o _ _ (fun d => (show FVec Ideal S64 .f32 from m ((c : Thread nD τ).loc main_arg6)) (ix1 d)) l ?_ ?_).trans ?_
  · intro x; rw [queries_eq m c t b hb]; exact f0 _
  · intro j x; rw [keys_eq m c t b hb]; unfold Cert.Att.keyRow; split
    · exact f1 _
    · exact f0 _
  · intro j x; rw [values_eq m c t b hb]; unfold Cert.Att.valueRow; split
    · exact f1 _
    · exact f0 _
  · rw [weight_eq]
    exact Cert.Att.balance_finite (fun d => f2 _) (fun d => f3 _) (fun d => f4 _) (fun d => f5 _)
  · intro x; exact (read_table m c t x l).trans (Cert.Att.table_at m c x l)
  · exact (read_gain m c t l).trans (Cert.Att.gain_at m c l)
  · rw [funext (queries_eq m c t b hb r), funext fun j => funext (keys_eq m c t b hb j), funext fun j => funext (values_eq m c t b hb j), weight_eq]

set_option maxHeartbeats 1600000 in
/-- The final array is the plain program's result. -/
theorem final (c : Dev nD) (hm : AllReal m c) :
    (dats m 0 c).arrAt 8 cfg0.N = Cert.Att.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  obtain ⟨b, hb⟩ : ∃ b : Fin 16, ((grid0.coords t) 0).val = b.val := ⟨(grid0.coords t) 0, rfl⟩
  have hn : ((grid0.coords t) 1).val < 8 := ((grid0.coords t) 1).isLt
  blk_simp
  rw [after0_8]
  unfold_out out0_8
  frame_out
  obtain ⟨u, r, l, hy⟩ : ∃ (u : Fin 1) (r l : Fin 256), y = ix3 u r l := ⟨y 0, y 1, y 2, by funext k; fin_cases k <;> rfl⟩
  subst hy
  have hu : u = 0 := Fin.ext (by omega)
  subst hu
  refine (block_eq m c hm t b hb _ r l).trans (congrArg (Cert.Att.result _ _ _ _ _ _ _) ?_)
  blk_ext [idx t]

end Cert.KernelIdeal.Hand

end
-- ==== Proof.Att.Pre.lean ====
/-
What the precondition says of each argument: every element is a real number.
-/
module

public import proofs.«01_k».proof.Defs
public import proofs.«01_k».proof.Proof.Att.Finite
public import proofs.«01_k».proof.Proof.Gen.Pre_finite
public import Idealize.ShloMosaic.Lib.Pipeline.ValueKit
public import Idealize.ShloMosaic.Lib.ReduceAll
public import Idealize.ShloMosaic.Lib.Claim

@[expose] public section

set_option maxRecDepth 16384

noncomputable section

namespace Cert.Att

open Cert.Pre_finite
open Idealize.ShloMosaic

/-- A value whose absolute value is below the infinite one is a real number. -/
theorem finite_of_abs_lt {x : EReal} (h : Ideal.cmp .olt (max x (-x)) (Ideal.ofBits .f32 0x7F800000#32) = 1#1) : Finite x := by
  rw [highest] at h
  have h' : max x (-x) < ⊤ := by
    by_contra hn
    simp [Ideal.cmp, hn] at h
  induction x using EReal.rec with
  | bot => simp at h'
  | coe r => exact ⟨r, rfl⟩
  | top => simp at h'

theorem both {x y : BitVec 1} : IntOp.andi x y = 1#1 → x = 1#1 ∧ y = 1#1 := by
  revert x y
  decide

theorem all_finite (z : FVec Ideal S16x2048x2304 .bf16) (zc : FVec Ideal S16x256x2304 .bf16) (q1 k1 q2 k2 : FVec Ideal S32 .f32) (g : FVec Ideal S64 .f32)
    (h : fn (F := Ideal) z zc q1 k1 q2 k2 g = fun _ => 1#1) :
    (∀ i, Finite (z i)) ∧ (∀ i, Finite (zc i)) ∧ (∀ i, Finite (q1 i)) ∧ (∀ i, Finite (k1 i)) ∧ (∀ i, Finite (q2 i)) ∧ (∀ i, Finite (k2 i)) := by
  have h0 := congrFun h ix0
  dsimp only [fn, fn_part1] at h0
  obtain ⟨h1, a5⟩ := both h0
  obtain ⟨h2, a4⟩ := both h1
  obtain ⟨h3, a3⟩ := both h2
  obtain ⟨h4, a2⟩ := both h3
  obtain ⟨a0, a1⟩ := both h4
  refine ⟨fun i => ?_, fun i => ?_, fun i => ?_, fun i => ?_, fun i => ?_, fun i => ?_⟩
  · exact finite_of_abs_lt (Host.reduce_andi_all _ _ _ _ _ a0 i)
  · exact finite_of_abs_lt (Host.reduce_andi_all _ _ _ _ _ a1 i)
  · exact finite_of_abs_lt (Host.reduce_andi_all _ _ _ _ _ a2 i)
  · exact finite_of_abs_lt (Host.reduce_andi_all _ _ _ _ _ a3 i)
  · exact finite_of_abs_lt (Host.reduce_andi_all _ _ _ _ _ a4 i)
  · exact finite_of_abs_lt (Host.reduce_andi_all _ _ _ _ _ a5 i)

end Cert.Att

end
-- ==== Proof.Att.Claim.lean ====
/-
The attention: both programs, run from agreeing finite arguments, end with the same result.
-/
module

public import proofs.«01_k».proof.Defs
public import proofs.«01_k».proof.Proof.Att.Value
public import proofs.«01_k».proof.Proof.Att.Pre
public import proofs.«01_k».proof.Proof.Gen.ReferenceIdeal.Run
public import Idealize.ShloMosaic.Lib.StableHlo.ReadAt

@[expose] public section

noncomputable section

namespace Cert.Proof

open Idealize.ShloMosaic Idealize.SL.Sem

set_option maxHeartbeats 1600000 in
theorem attention_equal : Cert.algebraic_KernelIdeal_ReferenceIdeal_pre_finite := by
  pair_intro
  · run_from Cert.KernelIdeal.Gen.run_main m g
    all_goals
      simp only [List.flatten_cons, List.flatten_nil, List.cons_append, List.nil_append, List.append_nil, Cert.KernelIdeal.Gen.hostOps0]
      after_reads_simp
  · run_from Cert.ReferenceIdeal.Value.run m' g'
    obtain ⟨h0, h1, h2, h3, h4, h5, h6⟩ := hagree c
    have h := Cert.KernelIdeal.Hand.final m c (Cert.Att.all_finite _ _ _ _ _ _ _ (hpre c))
    rw [← h0, ← h1, ← h2, ← h3, ← h4, ← h5, ← h6] at h
    rw [h]
    exact Cert.Att.result_eq m' c

end Cert.Proof

end
-- ==== Proof.FfnOne.Core.lean ====
/-
The first layer's feed-forward part: one block against the plain program.

The call is the last layer's without the norm that follows, so its plain program stops at the residual sum
and its payloads are the last layer's payloads except for the one that is stored.
-/
module

public import proofs.«01_k».proof.Proof.Ffn.Core
public import proofs.«01_k».proof.Proof.Gen.Reference5Ideal.Run
public import proofs.«01_k».proof.Proof.Gen.Kernel5Ideal.Skeleton

@[expose] public section

set_option maxRecDepth 16384

noncomputable section

namespace Cert.FfnOne

open Cert.Ffn
open Idealize.ShloMosaic Idealize.ShloMosaic.TcCoe Idealize.SL.Sem

/-- The plain program's result, from its six arguments. -/
def result (x : FVec Ideal Cert.Reference5Ideal.S16x2048x1024 .f32) (g : FVec Ideal Cert.Reference5Ideal.S1024 .f32)
    (mod : FVec Ideal Cert.Reference5Ideal.S24x6144 .f32) (wUp : FVec Ideal Cert.Reference5Ideal.S1024x5632 .f32)
    (cw : FVec Ideal Cert.Reference5Ideal.S3x2816 .f32) (wDown : FVec Ideal Cert.Reference5Ideal.S2816x1024 .f32) :
    FVec Ideal Cert.Reference5Ideal.S16x2048x1024 .f32 :=
  let up := raised (modulated x g mod) wUp
  added x mod (activated (convolved (ended up) cw) up) wDown

section Plain

open Cert.Reference5Ideal Cert.Reference5Ideal.Gen

theorem result_eq (m : (ℓ : Loc nD τ sig) → Buf (Elt Ideal) ℓ) (c : Dev nD) :
    Value.res_main_v61 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := by
  unfold Value.res_main_v61 result
  rfl

end Plain

open Cert.Kernel5Ideal Cert.Kernel5Ideal.Gen

section Same

variable (i : grid0.Coords) (p : BitVec 1) (g : FVec Ideal S1x1024 .f32) (sh sc : FVec Ideal S1x1x1024 .f32)
  (g' sh' sc' : FVec Ideal S1x1024 .f32) (x : FVec Ideal S1x16x1024 .f32) (X : FVec Ideal S1x512x1024 .f32)
  (X' : FVec Ideal S512x1024 .f32) (e e' : FVec Ideal S16x1024 .f32) (H : FVec Ideal S544x1024 .bf16)
  (H1 : FVec Ideal S512x1024 .bf16) (w : FVec Ideal S1x1024x1408 .bf16) (w' : FVec Ideal S1024x1408 .bf16) (cw : FVec Ideal S1x3x1408 .f32)
  (a0 a1 a2 v z : FVec Ideal S512x1408 .f32) (wd : FVec Ideal S1x1408x1024 .bf16)

theorem same2 : k0_pay2 (F := Ideal) g = Cert.Kernel2Ideal.Gen.k0_pay2 g := rfl
theorem same3 : k0_pay3 (F := Ideal) sh = Cert.Kernel2Ideal.Gen.k0_pay3 sh := rfl
theorem same4 : k0_pay4 (F := Ideal) sc = Cert.Kernel2Ideal.Gen.k0_pay4 sc := rfl
theorem same5 : k0_pay5 (F := Ideal) X = Cert.Kernel2Ideal.Gen.k0_pay5 X := rfl
theorem same6 : k0_pay6 (F := Ideal) i g sh sc x = Cert.Kernel2Ideal.Gen.k0_pay6 i g sh sc x := rfl
theorem same7 : k0_pay7 (F := Ideal) g' sh' sc' X' = Cert.Kernel2Ideal.Gen.k0_pay7 g' sh' sc' X' := rfl
theorem same8 : k0_pay8 (F := Ideal) g' sh' sc' x = Cert.Kernel2Ideal.Gen.k0_pay8 g' sh' sc' x := rfl
theorem same9 : k0_pay9 (F := Ideal) = Cert.Kernel2Ideal.Gen.k0_pay9 := rfl
theorem same10 : k0_pay10 (F := Ideal) p e e' = Cert.Kernel2Ideal.Gen.k0_pay10 p e e' := rfl
theorem same11 : k0_pay11 (F := Ideal) = Cert.Kernel2Ideal.Gen.k0_pay11 := rfl
theorem same12 : k0_pay12 (F := Ideal) H w = Cert.Kernel2Ideal.Gen.k0_pay12 H w := rfl
theorem same13 : k0_pay13 (F := Ideal) cw a0 a1 a2 = Cert.Kernel2Ideal.Gen.k0_pay13 cw a0 a1 a2 := rfl
theorem same14 : k0_pay14 (F := Ideal) w = Cert.Kernel2Ideal.Gen.k0_pay14 w := rfl
theorem same15 : k0_pay15 (F := Ideal) X' v H1 w' z wd = Cert.Kernel2Ideal.Gen.k0_pay15 X' v H1 w' z wd := rfl
theorem same16 : k0_pay16 (F := Ideal) H w = Cert.Kernel2Ideal.Gen.k0_pay16 H w := rfl
theorem same17 : k0_pay17 (F := Ideal) cw a0 a1 a2 = Cert.Kernel2Ideal.Gen.k0_pay17 cw a0 a1 a2 := rfl

end Same

/-- The block that is stored, from the first chunk's part. -/
theorem stored_at (x : FVec Ideal S1x512x1024 .f32) (p : FVec Ideal S512x1024 .f32) (v : FVec Ideal S512x1408 .f32)
    (h : FVec Ideal S512x1024 .bf16) (wb : FVec Ideal S1x1024x1408 .bf16) (wd : FVec Ideal S1x1408x1024 .bf16)
    (gt : FVec Ideal S1x1x1024 .f32) (u : Fin 1) (r : Fin 512) (d : Fin 1024) :
    k0_pay1 (F := Ideal) (Cert.Kernel2Ideal.Gen.k0_pay5 x) p v h wb wd gt (ix3 u r d)
      = x (ix3 0 r d) + gt (ix3 0 0 d) * (p (ix2 r d)
          + ∑ j : Fin 1408, gated (v (ix2 r j)) (proj (fun k => h (ix2 r k)) (fun d j => wb (ix3 0 d j)) j) * wd (ix3 0 j d)) := by
  pointwise [k0_pay1, Cert.Kernel2Ideal.Gen.k0_pay5, gated, proj]

variable (x : FVec Ideal S16x2048x1024 .f32) (g : FVec Ideal S1024 .f32) (mod : FVec Ideal S24x6144 .f32)
  (wUp : FVec Ideal S1024x5632 .f32) (cw : FVec Ideal S3x2816 .f32) (wDown : FVec Ideal S2816x1024 .f32)

/-- A stored block of the kernel is the plain program's result there. -/
theorem block_eq (n : ℕ) (hn : n < 4) (b : Fin 16) (H : FVec Ideal S544x1024 .bf16) (H1 : FVec Ideal S512x1024 .bf16)
    (X : FVec Ideal S1x512x1024 .f32) (wa0 wa1 wb0 wb1 : FVec Ideal S1x1024x1408 .bf16) (cw0 cw1 : FVec Ideal S1x3x1408 .f32)
    (wd0 wd1 : FVec Ideal S1x1408x1024 .bf16) (gt : FVec Ideal S1x1x1024 .f32)
    (h15 : 15 ≤ 32) (h16 : 16 ≤ 32) (h17 : 17 ≤ 32)
    (hX : ∀ (r : Fin 512) (k : Fin 1024), X (ix3 0 r k) = x (ix3 b ⟨512 * n + r.val, by omega⟩ k))
    (hH : ∀ (r : Fin 544), 15 ≤ r.val → r.val ≤ 528 → ∀ d : Fin 1024,
      H (ix2 r d) = withEnds (fun s k => modulated x g mod (ix3 b s k)) (512 * n + r.val - 15) d)
    (hH1 : ∀ (r : Fin 512) (d : Fin 1024), H1 (ix2 r d) = modulated x g mod (ix3 b ⟨512 * n + r.val, by omega⟩ d))
    (hwa0 : ∀ (d : Fin 1024) (j : Fin 1408), wa0 (ix3 0 d j) = wUp (ix2 d ⟨j.val, by omega⟩))
    (hwa1 : ∀ (d : Fin 1024) (j : Fin 1408), wa1 (ix3 0 d j) = wUp (ix2 d ⟨1408 + j.val, by omega⟩))
    (hwb0 : ∀ (d : Fin 1024) (j : Fin 1408), wb0 (ix3 0 d j) = wUp (ix2 d ⟨2816 + j.val, by omega⟩))
    (hwb1 : ∀ (d : Fin 1024) (j : Fin 1408), wb1 (ix3 0 d j) = wUp (ix2 d ⟨2816 + (1408 + j.val), by omega⟩))
    (hcw0 : ∀ (k : Fin 3) (j : Fin 1408), cw0 (ix3 0 k j) = cw (ix2 k ⟨j.val, by omega⟩))
    (hcw1 : ∀ (k : Fin 3) (j : Fin 1408), cw1 (ix3 0 k j) = cw (ix2 k ⟨1408 + j.val, by omega⟩))
    (hwd0 : ∀ (j : Fin 1408) (d : Fin 1024), wd0 (ix3 0 j d) = wDown (ix2 ⟨j.val, by omega⟩ d))
    (hwd1 : ∀ (j : Fin 1408) (d : Fin 1024), wd1 (ix3 0 j d) = wDown (ix2 ⟨1408 + j.val, by omega⟩ d))
    (hgt : ∀ k : Fin 1024, gt (ix3 0 0 k) = mod (ix2 ⟨b.val, by omega⟩ ⟨5120 + k.val, by omega⟩))
    (u : Fin 1) (r : Fin 512) (d : Fin 1024) :
    k0_pay1 (F := Ideal) (Cert.Kernel2Ideal.Gen.k0_pay5 X)
        (Cert.Kernel2Ideal.Gen.k0_pay15 Cert.Kernel2Ideal.Gen.k0_pay11 (Cert.Kernel2Ideal.Gen.k0_pay13 cw0 (shifted 15 h15 (Cert.Kernel2Ideal.Gen.k0_pay12 H wa0)) (shifted 16 h16 (Cert.Kernel2Ideal.Gen.k0_pay12 H wa0)) (shifted 17 h17 (Cert.Kernel2Ideal.Gen.k0_pay12 H wa0)))
          H1 (Cert.Kernel2Ideal.Gen.k0_pay14 wb0) (constant S512x1408 .f32 0x00000000#32) wd0)
        (Cert.Kernel2Ideal.Gen.k0_pay17 cw1 (shifted 15 h15 (Cert.Kernel2Ideal.Gen.k0_pay16 H wa1)) (shifted 16 h16 (Cert.Kernel2Ideal.Gen.k0_pay16 H wa1)) (shifted 17 h17 (Cert.Kernel2Ideal.Gen.k0_pay16 H wa1)))
        H1 wb1 wd1 gt (ix3 u r d)
      = result x g mod wUp cw wDown (ix3 b ⟨512 * n + r.val, by omega⟩ d) := by
  rw [stored_at]
  show _ = added x mod _ wDown _
  rw [added_at, hX, hgt, hidden_sum x g mod wUp cw wDown n hn b H H1 wa0 wa1 wb0 wb1 cw0 cw1 wd0 wd1 h15 h16 h17 hH hH1 hwa0 hwa1 hwb0 hwb1
    hcw0 hcw1 hwd0 hwd1 r d]

end Cert.FfnOne

end
-- ==== Proof.FfnOne.Value.lean ====
/-
The first layer's feed-forward part: the value of the array the pipelined kernel leaves behind.

Each of the 64 grid points handles one block of 512 tokens of one sample.  It normalizes the block's rows
and the 16 rows on either side, projects them in two chunks of 1408 hidden lanes, convolves over three
tokens, gates, projects back, and adds the residual.
-/
module

public import proofs.«01_k».proof.Defs
public import proofs.«01_k».proof.Proof.FfnOne.Core
public import proofs.«01_k».proof.Proof.Ffn.Value
public import proofs.«01_k».proof.Proof.Gen.Kernel5Ideal.Value
public import Idealize.ShloMosaic.Lib.Pipeline.ValueKit
public import Idealize.ShloMosaic.Lib.Claim

@[expose] public section

set_option maxRecDepth 16384

noncomputable section

namespace Cert.Kernel5Ideal.Hand

open Cert.Kernel5Ideal Cert.Kernel5Ideal.Gen Cert.Kernel5Ideal.Value
open Idealize.ShloMosaic Idealize.ShloMosaic.TcCoe Idealize.SL.Sem
open Idealize.ShloMosaic.Pipeline (Dat)

variable (m : (ℓ : Loc nD τ sig) → Buf (Elt Ideal) ℓ)

/-- Where each grid point's blocks lie: samples by the first coordinate, token blocks by the second. -/
theorem idx : ∀ t : Fin cfg0.N,
    win0_0.index t = ![((grid0.coords t) 0).val, ((grid0.coords t) 1).val, 0]
    ∧ win0_1.index t = ![((grid0.coords t) 0).val, ((grid0.coords t) 1).val * 32 - 1, 0]
    ∧ win0_2.index t = ![((grid0.coords t) 0).val, if ((grid0.coords t) 1).val < 3 then ((grid0.coords t) 1).val * 32 + 32 else 127, 0]
    ∧ win0_3.index t = ![0, 0]
    ∧ win0_4.index t = ![((grid0.coords t) 0).val, 0, 3]
    ∧ win0_5.index t = ![((grid0.coords t) 0).val, 0, 4]
    ∧ win0_6.index t = ![((grid0.coords t) 0).val, 0, 5]
    ∧ win0_7.index t = ![0, 0, 0]
    ∧ win0_8.index t = ![0, 0, 0]
    ∧ win0_9.index t = ![0, 0, 0]
    ∧ win0_10.index t = ![0, 0, 0]
    ∧ win0_11.index t = ![((grid0.coords t) 0).val, ((grid0.coords t) 1).val, 0] :=
  (by decide +kernel : ∀ t : Fin grid0.N, _)

section Reads

variable (c : Dev nD) (t : Fin cfg0.N)

theorem read_x (b : Fin 16) (hb : ((grid0.coords t) 0).val = b.val) (r : Fin 512) (k : Fin 1024) :
    (show FVec Ideal S1x512x1024 .f32 from iblk m c 0 t) (ix3 0 r k)
      = (show FVec Ideal S16x2048x1024 .f32 from m ((c : Thread nD τ).loc main_arg0))
          (ix3 b ⟨512 * ((grid0.coords t) 1).val + r.val, by have : ((grid0.coords t) 1).val < 4 := ((grid0.coords t) 1).isLt; omega⟩ k) := by
  blk_ext [iblk, V, idx t]

theorem read_prev (b : Fin 16) (hb : ((grid0.coords t) 0).val = b.val) (h : 0 < ((grid0.coords t) 1).val) (r : Fin 16) (k : Fin 1024) :
    (show FVec Ideal S1x16x1024 .f32 from iblk m c 1 t) (ix3 0 r k)
      = (show FVec Ideal S16x2048x1024 .f32 from m ((c : Thread nD τ).loc main_arg0))
          (ix3 b ⟨512 * ((grid0.coords t) 1).val - 16 + r.val, by have : ((grid0.coords t) 1).val < 4 := ((grid0.coords t) 1).isLt; omega⟩ k) := by
  blk_ext [iblk, V, idx t]

theorem read_next (b : Fin 16) (hb : ((grid0.coords t) 0).val = b.val) (h : ((grid0.coords t) 1).val < 3) (r : Fin 16) (k : Fin 1024) :
    (show FVec Ideal S1x16x1024 .f32 from iblk m c 2 t) (ix3 0 r k)
      = (show FVec Ideal S16x2048x1024 .f32 from m ((c : Thread nD τ).loc main_arg0))
          (ix3 b ⟨512 * ((grid0.coords t) 1).val + 512 + r.val, by omega⟩ k) := by
  blk_ext [iblk, V, idx t, if_pos h]

theorem read_g (k : Fin 1024) :
    (show FVec Ideal S1x1024 .f32 from iblk m c 3 t) (ix2 0 k)
      = (show FVec Ideal S1024 .f32 from m ((c : Thread nD τ).loc main_arg1)) (ix1 k) := by
  blk_point [iblk, V, idx t]

theorem read_shift (b : Fin 16) (hb : ((grid0.coords t) 0).val = b.val) (k : Fin 1024) :
    (show FVec Ideal S1x1x1024 .f32 from iblk m c 4 t) (ix3 0 0 k)
      = (show FVec Ideal S24x6144 .f32 from m ((c : Thread nD τ).loc main_arg2)) (ix2 ⟨b.val, by omega⟩ ⟨3072 + k.val, by omega⟩) := by
  blk_point [iblk, V, idx t]

theorem read_scale (b : Fin 16) (hb : ((grid0.coords t) 0).val = b.val) (k : Fin 1024) :
    (show FVec Ideal S1x1x1024 .f32 from iblk m c 5 t) (ix3 0 0 k)
      = (show FVec Ideal S24x6144 .f32 from m ((c : Thread nD τ).loc main_arg2)) (ix2 ⟨b.val, by omega⟩ ⟨4096 + k.val, by omega⟩) := by
  blk_point [iblk, V, idx t]

theorem read_gate (b : Fin 16) (hb : ((grid0.coords t) 0).val = b.val) (k : Fin 1024) :
    (show FVec Ideal S1x1x1024 .f32 from iblk m c 6 t) (ix3 0 0 k)
      = (show FVec Ideal S24x6144 .f32 from m ((c : Thread nD τ).loc main_arg2)) (ix2 ⟨b.val, by omega⟩ ⟨5120 + k.val, by omega⟩) := by
  blk_point [iblk, V, idx t]

theorem read_wa (q : Fin 2) (d : Fin 1024) (j : Fin 1408) :
    (show FVec Ideal S2x1024x1408 .bf16 from iblk m c 7 t) (ix3 q d j)
      = (show FVec Ideal S1024x5632 .f32 from m ((c : Thread nD τ).loc main_arg3)) (ix2 d ⟨1408 * q.val + j.val, by omega⟩) := by
  blk_point [iblk, V, idx t]

theorem read_wb (q : Fin 2) (d : Fin 1024) (j : Fin 1408) :
    (show FVec Ideal S2x1024x1408 .bf16 from iblk m c 8 t) (ix3 q d j)
      = (show FVec Ideal S1024x5632 .f32 from m ((c : Thread nD τ).loc main_arg3)) (ix2 d ⟨2816 + (1408 * q.val + j.val), by omega⟩) := by
  blk_point [iblk, V, idx t]

theorem read_cw (q : Fin 2) (k : Fin 3) (j : Fin 1408) :
    (show FVec Ideal S2x3x1408 .f32 from iblk m c 9 t) (ix3 q k j)
      = (show FVec Ideal S3x2816 .f32 from m ((c : Thread nD τ).loc main_arg4)) (ix2 k ⟨1408 * q.val + j.val, by omega⟩) := by
  blk_point [iblk, V, idx t]

theorem read_wd (q : Fin 2) (j : Fin 1408) (d : Fin 1024) :
    (show FVec Ideal S2x1408x1024 .bf16 from iblk m c 10 t) (ix3 q j d)
      = (show FVec Ideal S2816x1024 .f32 from m ((c : Thread nD τ).loc main_arg5)) (ix2 ⟨1408 * q.val + j.val, by omega⟩ d) := by
  blk_point [iblk, V, idx t]

theorem chunk_wa0 (d : Fin 1024) (j : Fin 1408) :
    View.ld (Val := Elt Ideal) (S := S2x1024x1408) (e' := .bf16) (iblk m c 7 t) (Rect.unit ![0, 0, 0] ![1, 1024, 1408] inb_S2x1024x1408_S1x1024x1408_0_0_0) (ix3 0 d j)
      = (show FVec Ideal S1024x5632 .f32 from m ((c : Thread nD τ).loc main_arg3)) (ix2 d ⟨j.val, by omega⟩) := by
  refine (Cert.Kernel2Ideal.Hand.chunk_up_0 _ d j).trans ((read_wa m c t 0 d j).trans (congrArg _ ?_))
  funext k; fin_cases k <;> apply Fin.ext <;> simp

theorem chunk_wa1 (d : Fin 1024) (j : Fin 1408) :
    View.ld (Val := Elt Ideal) (S := S2x1024x1408) (e' := .bf16) (iblk m c 7 t) (Rect.unit ![1, 0, 0] ![1, 1024, 1408] inb_S2x1024x1408_S1x1024x1408_1_0_0) (ix3 0 d j)
      = (show FVec Ideal S1024x5632 .f32 from m ((c : Thread nD τ).loc main_arg3)) (ix2 d ⟨1408 + j.val, by omega⟩) := by
  refine (Cert.Kernel2Ideal.Hand.chunk_up_1 _ d j).trans ((read_wa m c t 1 d j).trans (congrArg _ ?_))
  funext k; fin_cases k <;> apply Fin.ext <;> simp

theorem chunk_wb0 (d : Fin 1024) (j : Fin 1408) :
    View.ld (Val := Elt Ideal) (S := S2x1024x1408) (e' := .bf16) (iblk m c 8 t) (Rect.unit ![0, 0, 0] ![1, 1024, 1408] inb_S2x1024x1408_S1x1024x1408_0_0_0) (ix3 0 d j)
      = (show FVec Ideal S1024x5632 .f32 from m ((c : Thread nD τ).loc main_arg3)) (ix2 d ⟨2816 + j.val, by omega⟩) := by
  refine (Cert.Kernel2Ideal.Hand.chunk_up_0 _ d j).trans ((read_wb m c t 0 d j).trans (congrArg _ ?_))
  funext k; fin_cases k <;> apply Fin.ext <;> simp

theorem chunk_wb1 (d : Fin 1024) (j : Fin 1408) :
    View.ld (Val := Elt Ideal) (S := S2x1024x1408) (e' := .bf16) (iblk m c 8 t) (Rect.unit ![1, 0, 0] ![1, 1024, 1408] inb_S2x1024x1408_S1x1024x1408_1_0_0) (ix3 0 d j)
      = (show FVec Ideal S1024x5632 .f32 from m ((c : Thread nD τ).loc main_arg3)) (ix2 d ⟨2816 + (1408 + j.val), by omega⟩) := by
  refine (Cert.Kernel2Ideal.Hand.chunk_up_1 _ d j).trans ((read_wb m c t 1 d j).trans (congrArg _ ?_))
  funext k; fin_cases k <;> apply Fin.ext <;> simp

theorem chunk_cw0 (d : Fin 3) (j : Fin 1408) :
    View.ld (Val := Elt Ideal) (S := S2x3x1408) (e' := .f32) (iblk m c 9 t) (Rect.unit ![0, 0, 0] ![1, 3, 1408] inb_S2x3x1408_S1x3x1408_0_0_0) (ix3 0 d j)
      = (show FVec Ideal S3x2816 .f32 from m ((c : Thread nD τ).loc main_arg4)) (ix2 d ⟨j.val, by omega⟩) := by
  refine (Cert.Kernel2Ideal.Hand.chunk_cw_0 _ d j).trans ((read_cw m c t 0 d j).trans (congrArg _ ?_))
  funext k; fin_cases k <;> apply Fin.ext <;> simp

theorem chunk_cw1 (d : Fin 3) (j : Fin 1408) :
    View.ld (Val := Elt Ideal) (S := S2x3x1408) (e' := .f32) (iblk m c 9 t) (Rect.unit ![1, 0, 0] ![1, 3, 1408] inb_S2x3x1408_S1x3x1408_1_0_0) (ix3 0 d j)
      = (show FVec Ideal S3x2816 .f32 from m ((c : Thread nD τ).loc main_arg4)) (ix2 d ⟨1408 + j.val, by omega⟩) := by
  refine (Cert.Kernel2Ideal.Hand.chunk_cw_1 _ d j).trans ((read_cw m c t 1 d j).trans (congrArg _ ?_))
  funext k; fin_cases k <;> apply Fin.ext <;> simp

theorem chunk_wd0 (d : Fin 1408) (j : Fin 1024) :
    View.ld (Val := Elt Ideal) (S := S2x1408x1024) (e' := .bf16) (iblk m c 10 t) (Rect.unit ![0, 0, 0] ![1, 1408, 1024] inb_S2x1408x1024_S1x1408x1024_0_0_0) (ix3 0 d j)
      = (show FVec Ideal S2816x1024 .f32 from m ((c : Thread nD τ).loc main_arg5)) (ix2 ⟨d.val, by omega⟩ j) := by
  refine (Cert.Kernel2Ideal.Hand.chunk_dn_0 _ d j).trans ((read_wd m c t 0 d j).trans (congrArg _ ?_))
  funext k; fin_cases k <;> apply Fin.ext <;> simp

theorem chunk_wd1 (d : Fin 1408) (j : Fin 1024) :
    View.ld (Val := Elt Ideal) (S := S2x1408x1024) (e' := .bf16) (iblk m c 10 t) (Rect.unit ![1, 0, 0] ![1, 1408, 1024] inb_S2x1408x1024_S1x1408x1024_1_0_0) (ix3 0 d j)
      = (show FVec Ideal S2816x1024 .f32 from m ((c : Thread nD τ).loc main_arg5)) (ix2 ⟨1408 + d.val, by omega⟩ j) := by
  refine (Cert.Kernel2Ideal.Hand.chunk_dn_1 _ d j).trans ((read_wd m c t 1 d j).trans (congrArg _ ?_))
  funext k; fin_cases k <;> apply Fin.ext <;> simp

end Reads

/-- The final array is the plain program's result. -/
theorem final (c : Dev nD) :
    (dats m 0 c).arrAt 11 cfg0.N = Cert.FfnOne.result (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  refine (dats m 0 c).arrAt_eq_of_covers 11 _ (by decide +kernel) fun t _ y => ?_
  blk_simp
  rw [after0_11]
  unfold outsAt0
  frame_out
  simp only [Cert.FfnOne.same2, Cert.FfnOne.same3, Cert.FfnOne.same4, Cert.FfnOne.same5, Cert.FfnOne.same6, Cert.FfnOne.same7, Cert.FfnOne.same8,
    Cert.FfnOne.same9, Cert.FfnOne.same10, Cert.FfnOne.same11, Cert.FfnOne.same12, Cert.FfnOne.same13, Cert.FfnOne.same14, Cert.FfnOne.same15,
    Cert.FfnOne.same16, Cert.FfnOne.same17]
  rw [Cert.Ffn.read_own]
  rw [Cert.Ffn.read_rows]
  rw [Cert.Ffn.read_shift_15, Cert.Ffn.read_shift_16, Cert.Ffn.read_shift_17]
  rw [Cert.Ffn.read_shift_15, Cert.Ffn.read_shift_16, Cert.Ffn.read_shift_17]
  obtain ⟨u, r, d, hy⟩ : ∃ (u : Fin 1) (r : Fin 512) (d : Fin 1024), y = ix3 u r d := ⟨y 0, y 1, y 2, by funext k; fin_cases k <;> rfl⟩
  subst hy
  obtain ⟨b, hb⟩ : ∃ b : Fin 16, ((grid0.coords t) 0).val = b.val := ⟨(grid0.coords t) 0, rfl⟩
  have hn : ((grid0.coords t) 1).val < 4 := ((grid0.coords t) 1).isLt
  refine (Cert.FfnOne.block_eq (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) ((grid0.coords t) 1).val hn b _ _ _ _ _ _ _ _ _ _ _ _
      _ _ _ (read_x m c t b hb) ?_ ?_ ?_ ?_ ?_ ?_ ?_ ?_ ?_ ?_ (read_gate m c t b hb) u r d).trans ?_
  · exact fun r h15 h528 d => Cert.Ffn.rows_at (grid0.coords t) _ _ _ b _ _ _ _ _ _ (read_x m c t b hb) (fun h => read_prev m c t b hb h)
      (fun h => read_next m c t b hb h) (read_g m c t) (read_shift m c t b hb) (read_scale m c t b hb) r h15 h528 d
  · intro r d
    rw [Cert.Ffn.own_at, Cert.Ffn.modulated_at]
    rw [funext (read_x m c t b hb r), funext (read_g m c t), funext (read_shift m c t b hb), funext (read_scale m c t b hb)]
  · exact fun d j => chunk_wa0 m c t d j
  · exact fun d j => chunk_wa1 m c t d j
  · exact fun d j => chunk_wb0 m c t d j
  · exact fun d j => chunk_wb1 m c t d j
  · exact fun d j => chunk_cw0 m c t d j
  · exact fun d j => chunk_cw1 m c t d j
  · exact fun d j => chunk_wd0 m c t d j
  · exact fun d j => chunk_wd1 m c t d j
  · refine congrArg (Cert.FfnOne.result _ _ _ _ _ _) ?_
    blk_ext [idx t]

end Cert.Kernel5Ideal.Hand

end
-- ==== Proof.FfnOne.Claim.lean ====
/-
The first layer's feed-forward part: both programs, run from agreeing arguments, end with the same result.
-/
module

public import proofs.«01_k».proof.Defs
public import proofs.«01_k».proof.Proof.FfnOne.Value
public import proofs.«01_k».proof.Proof.Gen.Reference5Ideal.Run

@[expose] public section

noncomputable section

namespace Cert.Proof

open Idealize.ShloMosaic Idealize.SL.Sem

theorem ffn_one_equal : Cert.algebraic_Kernel5Ideal_Reference5Ideal := by
  pair_intro
  · run_from Cert.Kernel5Ideal.Gen.run_main m g
  · run_from Cert.Reference5Ideal.Value.run m' g'
    obtain ⟨h0, h1, h2, h3, h4, h5⟩ := hagree c
    have h := Cert.Kernel5Ideal.Hand.final m c
    rw [← h0, ← h1, ← h2, ← h3, ← h4, ← h5] at h
    rw [h]
    exact Cert.FfnOne.result_eq m' c

end Cert.Proof

end
-- ==== Proof.FfnCtx.Blocks.lean ====
/-
The payloads of the context feed-forward kernel, each read at one index of its block.
-/
module

public import proofs.«01_k».proof.Proof.Ffn.Spec
public import proofs.«01_k».proof.Proof.Gen.Kernel6Ideal.Skeleton
public import Idealize.ShloMosaic.Lib.Claim

@[expose] public section

set_option maxRecDepth 16384

noncomputable section

namespace Cert.FfnCtx

open Cert.Ffn (nrm modu proj conv gated)
open Cert.Kernel6Ideal Cert.Kernel6Ideal.Gen
open Idealize.ShloMosaic Idealize.ShloMosaic.TcCoe Idealize.SL.Sem

/-- The block's own rows. -/
theorem own_at (g : FVec Ideal S1x1024 .f32) (sh sc : FVec Ideal S1x1x1024 .f32) (x : FVec Ideal S1x256x1024 .f32)
    (r : Fin 256) (d : Fin 1024) :
    k0_pay7 (F := Ideal) (k0_pay2 g) (k0_pay3 sh) (k0_pay4 sc) (k0_pay5 x) (ix2 r d)
      = modu (fun k => x (ix3 0 r k)) (fun k => g (ix2 0 k)) (fun k => sc (ix3 0 0 k)) (fun k => sh (ix3 0 0 k)) d := by
  pointwise [k0_pay7, k0_pay2, k0_pay3, k0_pay4, k0_pay5, modu, nrm]

/-- The rows before the block. -/
theorem before_at (i : grid0.Coords) (g : FVec Ideal S1x1024 .f32) (sh sc : FVec Ideal S1x1x1024 .f32) (x : FVec Ideal S1x16x1024 .f32)
    (r : Fin 16) (d : Fin 1024) :
    k0_pay6 (F := Ideal) i g sh sc x (ix2 r d)
      = Scalar.select (Scalar.cmpi .sgt (BitVec.ofNat 32 (i 1).val) 0#32)
          (modu (fun k => x (ix3 0 r k)) (fun k => g (ix2 0 k)) (fun k => sc (ix3 0 0 k)) (fun k => sh (ix3 0 0 k)) d) 0 := by
  pointwise [k0_pay6, k0_pay2, k0_pay3, k0_pay4, modu, nrm]

/-- The rows after the block. -/
theorem after_at (p : BitVec 1) (g : FVec Ideal S1x1024 .f32) (sh sc : FVec Ideal S1x1x1024 .f32) (x : FVec Ideal S1x16x1024 .f32)
    (r : Fin 16) (d : Fin 1024) :
    k0_pay10 (F := Ideal) p (k0_pay8 (k0_pay2 g) (k0_pay3 sh) (k0_pay4 sc) x) k0_pay9 (ix2 r d)
      = Scalar.select p (modu (fun k => x (ix3 0 r k)) (fun k => g (ix2 0 k)) (fun k => sc (ix3 0 0 k)) (fun k => sh (ix3 0 0 k)) d) 0 := by
  pointwise [k0_pay10, k0_pay8, k0_pay9, k0_pay2, k0_pay3, k0_pay4, modu, nrm]

/-- The first chunk's projection. -/
theorem first_up_at (h : FVec Ideal S288x1024 .bf16) (w : FVec Ideal S1x1024x1408 .bf16) (r : Fin 288) (j : Fin 1408) :
    k0_pay12 (F := Ideal) h w (ix2 r j) = proj (fun k => h (ix2 r k)) (fun d j => w (ix3 0 d j)) j := by
  pointwise [k0_pay12, proj]

/-- The second chunk's projection. -/
theorem second_up_at (h : FVec Ideal S288x1024 .bf16) (w : FVec Ideal S1x1024x1408 .bf16) (r : Fin 288) (j : Fin 1408) :
    k0_pay16 (F := Ideal) h w (ix2 r j) = proj (fun k => h (ix2 r k)) (fun d j => w (ix3 0 d j)) j := by
  pointwise [k0_pay16, proj]

/-- The first chunk's convolution. -/
theorem first_conv_at (w : FVec Ideal S1x3x1408 .f32) (a0 a1 a2 : FVec Ideal S256x1408 .f32) (r : Fin 256) (j : Fin 1408) :
    k0_pay13 (F := Ideal) w a0 a1 a2 (ix2 r j) = conv (a0 (ix2 r j)) (a1 (ix2 r j)) (a2 (ix2 r j)) (w (ix3 0 0 j)) (w (ix3 0 1 j)) (w (ix3 0 2 j)) := by
  pointwise [k0_pay13, conv]

/-- The second chunk's convolution. -/
theorem second_conv_at (w : FVec Ideal S1x3x1408 .f32) (a0 a1 a2 : FVec Ideal S256x1408 .f32) (r : Fin 256) (j : Fin 1408) :
    k0_pay17 (F := Ideal) w a0 a1 a2 (ix2 r j) = conv (a0 (ix2 r j)) (a1 (ix2 r j)) (a2 (ix2 r j)) (w (ix3 0 0 j)) (w (ix3 0 1 j)) (w (ix3 0 2 j)) := by
  pointwise [k0_pay17, conv]

/-- The first chunk's part of the sum over the hidden lanes. -/
theorem first_part_at (v : FVec Ideal S256x1408 .f32) (h : FVec Ideal S256x1024 .bf16) (wb : FVec Ideal S1x1024x1408 .bf16)
    (wd : FVec Ideal S1x1408x1024 .bf16) (r : Fin 256) (d : Fin 1024) :
    k0_pay15 (F := Ideal) k0_pay11 v h (k0_pay14 wb) (constant S256x1408 .f32 0x00000000#32) wd (ix2 r d)
      = ∑ j : Fin 1408, gated (v (ix2 r j)) (proj (fun k => h (ix2 r k)) (fun d j => wb (ix3 0 d j)) j) * wd (ix3 0 j d) := by
  pointwise [k0_pay15, k0_pay11, k0_pay14, gated, proj]

/-- The block that is stored, from the first chunk's part. -/
theorem stored_at (x : FVec Ideal S1x256x1024 .f32) (p : FVec Ideal S256x1024 .f32) (v : FVec Ideal S256x1408 .f32)
    (h : FVec Ideal S256x1024 .bf16) (wb : FVec Ideal S1x1024x1408 .bf16) (wd : FVec Ideal S1x1408x1024 .bf16)
    (gt : FVec Ideal S1x1x1024 .f32) (u : Fin 1) (r : Fin 256) (d : Fin 1024) :
    k0_pay1 (F := Ideal) (k0_pay5 x) p v h wb wd gt (ix3 u r d)
      = x (ix3 0 r d) + gt (ix3 0 0 d) * (p (ix2 r d)
          + ∑ j : Fin 1408, gated (v (ix2 r j)) (proj (fun k => h (ix2 r k)) (fun d j => wb (ix3 0 d j)) j) * wd (ix3 0 j d)) := by
  pointwise [k0_pay1, k0_pay5, gated, proj]

end Cert.FfnCtx

end
-- ==== Proof.FfnCtx.Scratch.lean ====
/-
What the context feed-forward kernel reads back from its two scratch buffers.

The first holds 288 normalized rows, written in three parts: 16 rows before the block, the block's 256
rows, 16 rows after it.  The second holds one chunk of their projection, written whole for each chunk and
read at three shifts.
-/
module

public import proofs.«01_k».proof.Proof.Ffn.Spec
public import proofs.«01_k».proof.Proof.Gen.Kernel6Ideal.Value
public import Idealize.ShloMosaic.Lib.Pipeline.ValueKit
public import Idealize.ShloMosaic.Lib.Claim

@[expose] public section

set_option maxRecDepth 16384

noncomputable section

namespace Cert.FfnCtx

open Cert.Kernel6Ideal Cert.Kernel6Ideal.Gen
open Idealize.ShloMosaic Idealize.ShloMosaic.TcCoe Idealize.SL.Sem

/-- The three parts, one below the other. -/
def rows (P0 : FVec Ideal S16x1024 .bf16) (P1 : FVec Ideal S256x1024 .bf16) (P2 : FVec Ideal S16x1024 .bf16) :
    FVec Ideal S288x1024 .bf16 := fun j =>
  if h0 : (j 0).val < 16 then P0 (ix2 ⟨(j 0).val, h0⟩ (j 1))
  else if h1 : (j 0).val - 16 < 256 then P1 (ix2 ⟨(j 0).val - 16, h1⟩ (j 1))
  else P2 (ix2 ⟨(j 0).val - 272, by have : (j 0).val < 288 := (j 0).isLt; omega⟩ (j 1))

/-- 256 rows from row `o` on. -/
def shifted (o : ℕ) (ho : o ≤ 32) (A : FVec Ideal S288x1408 .f32) : FVec Ideal S256x1408 .f32 := fun j =>
  A (ix2 ⟨o + (j 0).val, by have : (j 0).val < 256 := (j 0).isLt; omega⟩ (j 1))

/-- The pieces of the first buffer leave `rows`. -/
theorem canon_rows (P0 : FVec Ideal S16x1024 .bf16) (P1 : FVec Ideal S256x1024 .bf16) (P2 : FVec Ideal S16x1024 .bf16)
    (y : S288x1024.Idx) :
    View.canon [(⟨Rect.unit ![272, 0] ![16, 1024] inb_S288x1024_S16x1024_272_0, P2⟩ : View.Piece (Elt Ideal) S288x1024 .bf16),
      ⟨Rect.unit ![16, 0] ![256, 1024] inb_S288x1024_S256x1024_16_0, P1⟩,
      ⟨Rect.unit ![0, 0] ![16, 1024] inb_S288x1024_S16x1024_0_0, P0⟩] y = rows P0 P1 P2 y := by
  have hy0 : (y 0).val < 288 := (y 0).isLt
  have hy1 : (y 1).val < 1024 := (y 1).isLt
  have cover : ∃ p ∈ [(⟨Rect.unit ![272, 0] ![16, 1024] inb_S288x1024_S16x1024_272_0, P2⟩ : View.Piece (Elt Ideal) S288x1024 .bf16),
      ⟨Rect.unit ![16, 0] ![256, 1024] inb_S288x1024_S256x1024_16_0, P1⟩,
      ⟨Rect.unit ![0, 0] ![16, 1024] inb_S288x1024_S16x1024_0_0, P0⟩], y ∈ p.1.set := by
    by_cases h0 : (y 0).val < 16
    · refine ⟨_, List.mem_cons_of_mem _ (List.mem_cons_of_mem _ List.mem_cons_self), ?_⟩
      rw [Rect.mem_set_unit]
      exact Fin.forall_fin_two.2 ⟨⟨Nat.zero_le _, by simpa using h0⟩, ⟨Nat.zero_le _, by simpa using hy1⟩⟩
    · by_cases h1 : (y 0).val < 272
      · refine ⟨_, List.mem_cons_of_mem _ List.mem_cons_self, ?_⟩
        rw [Rect.mem_set_unit]
        exact Fin.forall_fin_two.2 ⟨⟨by simpa using h0, by simpa using h1⟩, ⟨Nat.zero_le _, by simpa using hy1⟩⟩
      · refine ⟨_, List.mem_cons_self, ?_⟩
        rw [Rect.mem_set_unit]
        exact Fin.forall_fin_two.2 ⟨⟨by simpa using h1, by simpa using hy0⟩, ⟨Nat.zero_le _, by simpa using hy1⟩⟩
  canon_tiles x h using cover
  all_goals unfold rows
  · rw [dif_neg (by omega), dif_neg (by omega)]
    blk_ext
  · rw [dif_neg (by omega), dif_pos (by omega)]
    blk_ext
  · rw [dif_pos (by omega)]
    blk_ext

/-- All rows, read back. -/
theorem read_rows {sg : RefSig} {κ : Kind} {sp : Space} (v : View sg κ sp S288x1024 .bf16) (P0 : FVec Ideal S16x1024 .bf16) (P1 : FVec Ideal S256x1024 .bf16) (P2 : FVec Ideal S16x1024 .bf16) :
    View.readCov (Val := Elt Ideal) v
      [(⟨Rect.unit ![272, 0] ![16, 1024] inb_S288x1024_S16x1024_272_0, P2⟩ : View.Piece (Elt Ideal) S288x1024 .bf16),
        ⟨Rect.unit ![16, 0] ![256, 1024] inb_S288x1024_S256x1024_16_0, P1⟩,
        ⟨Rect.unit ![0, 0] ![16, 1024] inb_S288x1024_S16x1024_0_0, P0⟩]
      (Rect.unit ![0, 0] ![288, 1024] inb_S288x1024_S288x1024_0_0).toLoadRect = rows P0 P1 P2 := by
  rw [View.readCov_eq_canon']
  funext j
  rw [canon_rows]
  refine congrArg (rows P0 P1 P2) (funext fun a => Fin.ext ?_)
  rw [Rect.idx_unit_val]
  match a with
  | ⟨0, _⟩ => exact Nat.zero_add _
  | ⟨1, _⟩ => exact Nat.zero_add _

/-- The block's own rows, read back. -/
theorem read_own {sg : RefSig} {κ : Kind} {sp : Space} (v : View sg κ sp S288x1024 .bf16) (P0 : FVec Ideal S16x1024 .bf16) (P1 : FVec Ideal S256x1024 .bf16) (P2 : FVec Ideal S16x1024 .bf16) :
    View.readCov (Val := Elt Ideal) v
      [(⟨Rect.unit ![272, 0] ![16, 1024] inb_S288x1024_S16x1024_272_0, P2⟩ : View.Piece (Elt Ideal) S288x1024 .bf16),
        ⟨Rect.unit ![16, 0] ![256, 1024] inb_S288x1024_S256x1024_16_0, P1⟩,
        ⟨Rect.unit ![0, 0] ![16, 1024] inb_S288x1024_S16x1024_0_0, P0⟩]
      (Rect.unit ![16, 0] ![256, 1024] inb_S288x1024_S256x1024_16_0).toLoadRect = P1 := by
  rw [View.readCov_eq_canon']
  funext j
  rw [canon_rows]
  have h0 := Rect.idx_unit_val (s := S288x1024) ![16, 0] ![256, 1024] inb_S288x1024_S256x1024_16_0 j 0
  have h1 := Rect.idx_unit_val (s := S288x1024) ![16, 0] ![256, 1024] inb_S288x1024_S256x1024_16_0 j 1
  simp only [Matrix.cons_val_zero, Matrix.cons_val_one] at h0 h1
  have hj : (j 0).val < 256 := (j 0).isLt
  unfold rows
  rw [dif_neg (by omega), dif_pos (by omega)]
  refine congrArg P1 (funext fun a => Fin.ext ?_)
  match a with
  | ⟨0, _⟩ => show _ - 16 = _; rw [h0]; exact Nat.add_sub_cancel_left _ _
  | ⟨1, _⟩ => exact h1.trans (Nat.zero_add _)

/-- A chunk's projection, read back at a shift of 15 rows: what was written last. -/
theorem read_shift_15 {sg : RefSig} {κ : Kind} {sp : Space} (v : View sg κ sp S288x1408 .f32) (A : FVec Ideal S288x1408 .f32) (L : List (View.Piece (Elt Ideal) S288x1408 .f32)) :
    View.readCov (Val := Elt Ideal) v
      ((⟨Rect.unit ![0, 0] ![288, 1408] inb_S288x1408_S288x1408_0_0, A⟩ : View.Piece (Elt Ideal) S288x1408 .f32) :: L)
      (Rect.unit ![15, 0] ![256, 1408] inb_S288x1408_S256x1408_15_0).toLoadRect
    = shifted 15 (by omega) A := by
  have e : View.canon ((⟨Rect.unit ![0, 0] ![288, 1408] inb_S288x1408_S288x1408_0_0, A⟩ :
      View.Piece (Elt Ideal) S288x1408 .f32) :: L) = A := by
    simp (disch := decide) only [View.canon_cons_unit_lit']
  rw [View.readCov_eq_canon', e]
  funext j
  refine congrArg A (funext fun a => Fin.ext ?_)
  match a with
  | ⟨0, _⟩ => exact Rect.idx_unit_val _ _ _ _ _
  | ⟨1, _⟩ => exact (Rect.idx_unit_val _ _ _ _ _).trans (Nat.zero_add _)

/-- A chunk's projection, read back at a shift of 16 rows: what was written last. -/
theorem read_shift_16 {sg : RefSig} {κ : Kind} {sp : Space} (v : View sg κ sp S288x1408 .f32) (A : FVec Ideal S288x1408 .f32) (L : List (View.Piece (Elt Ideal) S288x1408 .f32)) :
    View.readCov (Val := Elt Ideal) v
      ((⟨Rect.unit ![0, 0] ![288, 1408] inb_S288x1408_S288x1408_0_0, A⟩ : View.Piece (Elt Ideal) S288x1408 .f32) :: L)
      (Rect.unit ![16, 0] ![256, 1408] inb_S288x1408_S256x1408_16_0).toLoadRect
    = shifted 16 (by omega) A := by
  have e : View.canon ((⟨Rect.unit ![0, 0] ![288, 1408] inb_S288x1408_S288x1408_0_0, A⟩ :
      View.Piece (Elt Ideal) S288x1408 .f32) :: L) = A := by
    simp (disch := decide) only [View.canon_cons_unit_lit']
  rw [View.readCov_eq_canon', e]
  funext j
  refine congrArg A (funext fun a => Fin.ext ?_)
  match a with
  | ⟨0, _⟩ => exact Rect.idx_unit_val _ _ _ _ _
  | ⟨1, _⟩ => exact (Rect.idx_unit_val _ _ _ _ _).trans (Nat.zero_add _)

/-- A chunk's projection, read back at a shift of 17 rows: what was written last. -/
theorem read_shift_17 {sg : RefSig} {κ : Kind} {sp : Space} (v : View sg κ sp S288x1408 .f32) (A : FVec Ideal S288x1408 .f32) (L : List (View.Piece (Elt Ideal) S288x1408 .f32)) :
    View.readCov (Val := Elt Ideal) v
      ((⟨Rect.unit ![0, 0] ![288, 1408] inb_S288x1408_S288x1408_0_0, A⟩ : View.Piece (Elt Ideal) S288x1408 .f32) :: L)
      (Rect.unit ![17, 0] ![256, 1408] inb_S288x1408_S256x1408_17_0).toLoadRect
    = shifted 17 (by omega) A := by
  have e : View.canon ((⟨Rect.unit ![0, 0] ![288, 1408] inb_S288x1408_S288x1408_0_0, A⟩ :
      View.Piece (Elt Ideal) S288x1408 .f32) :: L) = A := by
    simp (disch := decide) only [View.canon_cons_unit_lit']
  rw [View.readCov_eq_canon', e]
  funext j
  refine congrArg A (funext fun a => Fin.ext ?_)
  match a with
  | ⟨0, _⟩ => exact Rect.idx_unit_val _ _ _ _ _
  | ⟨1, _⟩ => exact (Rect.idx_unit_val _ _ _ _ _).trans (Nat.zero_add _)

end Cert.FfnCtx

end
-- ==== Proof.FfnCtx.Reference.lean ====
/-
The plain feed-forward program of the context tokens, cut into its steps, and each step read at one index.
-/
module

public import proofs.«01_k».proof.Proof.Ffn.Spec
public import proofs.«01_k».proof.Proof.Gen.Reference6Ideal.Run
public import Idealize.ShloMosaic.Lib.Claim

@[expose] public section

set_option maxRecDepth 16384

noncomputable section

namespace Cert.FfnCtx

open Cert.Ffn (nrm modu proj conv gated)
open Cert.Reference6Ideal Cert.Reference6Ideal.Gen
open Idealize.ShloMosaic Idealize.ShloMosaic.TcCoe Idealize.SL.Sem

/-- The normalized input, scaled and shifted by the context's parameters. -/
def modulated (x : FVec Ideal S16x256x1024 .f32) (g : FVec Ideal S1024 .f32) (mod : FVec Ideal S24x6144 .f32) : FVec Ideal S16x256x1024 .f32 :=
  addf (mulf (mulf (mulf x (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf x x) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 g))) (broadcastInDim S16x256x1024 ![0, 1, 2] bcast_S1x1x1024_S16x256x1024_0_1_2 (broadcastInDim S1x1x1024 ![2] bcast_S1024_S1x1x1024_2 (addf (broadcastInDim S1024 ![] bcast_S_S1024 (constant S_ .f32 0x3F800000#32)) (extractStridedSlice S1024 ![4096] (shapeCast S6144 (extractStridedSlice S1x6144 ![16, 0] mod slices_S24x6144_S1x6144_16_0) shapeCasts_S1x6144_S6144) slices_S6144_S1024_4096))))) (broadcastInDim S16x256x1024 ![0, 1, 2] bcast_S1x1x1024_S16x256x1024_0_1_2 (broadcastInDim S1x1x1024 ![2] bcast_S1024_S1x1x1024_2 (extractStridedSlice S1024 ![3072] (shapeCast S6144 (extractStridedSlice S1x6144 ![16, 0] mod slices_S24x6144_S1x6144_16_0) shapeCasts_S1x6144_S6144) slices_S6144_S1024_3072)))

/-- The projection to both hidden halves. -/
def raised (h : FVec Ideal S16x256x1024 .f32) (wUp : FVec Ideal S1024x5632 .f32) : FVec Ideal S16x256x5632 .f32 :=
  Host.dotGeneral dot_S16x256x1024_S1024x5632_S16x256x5632_2_0_01_1_n_n none h wUp

/-- The first hidden half with a zero row at both ends. -/
def ended (up : FVec Ideal S16x256x5632 .f32) : FVec Ideal S16x258x2816 .f32 :=
  pad S16x258x2816 ![0, 1, 0] ![0, 1, 0] ![0, 0, 0] (extractStridedSlice S16x256x2816 ![0, 0, 0] up slices_S16x256x5632_S16x256x2816_0_0_0) (sitofp .f32 (constantI S_ 32 0#32)) pads_S16x256x2816_S16x258x2816_000_110_000 h_S_

/-- The convolution over three tokens. -/
def convolved (ends : FVec Ideal S16x258x2816 .f32) (cw : FVec Ideal S3x2816 .f32) : FVec Ideal S16x256x2816 .f32 :=
  addf (addf (mulf (extractStridedSlice S16x256x2816 ![0, 0, 0] ends slices_S16x258x2816_S16x256x2816_0_0_0) (broadcastInDim S16x256x2816 ![0, 1, 2] bcast_S1x1x2816_S16x256x2816_0_1_2 (broadcastInDim S1x1x2816 ![2] bcast_S2816_S1x1x2816_2 (shapeCast S2816 (extractStridedSlice S1x2816 ![0, 0] cw slices_S3x2816_S1x2816_0_0) shapeCasts_S1x2816_S2816)))) (mulf (extractStridedSlice S16x256x2816 ![0, 1, 0] ends slices_S16x258x2816_S16x256x2816_0_1_0) (broadcastInDim S16x256x2816 ![0, 1, 2] bcast_S1x1x2816_S16x256x2816_0_1_2 (broadcastInDim S1x1x2816 ![2] bcast_S2816_S1x1x2816_2 (shapeCast S2816 (extractStridedSlice S1x2816 ![1, 0] cw slices_S3x2816_S1x2816_1_0) shapeCasts_S1x2816_S2816))))) (mulf (extractStridedSlice S16x256x2816 ![0, 2, 0] ends slices_S16x258x2816_S16x256x2816_0_2_0) (broadcastInDim S16x256x2816 ![0, 1, 2] bcast_S1x1x2816_S16x256x2816_0_1_2 (broadcastInDim S1x1x2816 ![2] bcast_S2816_S1x1x2816_2 (shapeCast S2816 (extractStridedSlice S1x2816 ![2, 0] cw slices_S3x2816_S1x2816_2_0) shapeCasts_S1x2816_S2816))))

/-- The hidden values. -/
def activated (v : FVec Ideal S16x256x2816 .f32) (up : FVec Ideal S16x256x5632 .f32) : FVec Ideal S16x256x2816 .f32 :=
  mulf (mulf v (Host.divf (broadcastInDim S16x256x2816 ![] bcast_S_S16x256x2816 (constant S_ .f32 0x3F800000#32)) (addf (broadcastInDim S16x256x2816 ![] bcast_S_S16x256x2816 (constant S_ .f32 0x3F800000#32)) (Host.exp (Host.negf v))))) (extractStridedSlice S16x256x2816 ![0, 0, 2816] up slices_S16x256x5632_S16x256x2816_0_0_2816)

/-- The residual sum. -/
def added (x : FVec Ideal S16x256x1024 .f32) (mod : FVec Ideal S24x6144 .f32) (a : FVec Ideal S16x256x2816 .f32) (wDown : FVec Ideal S2816x1024 .f32) : FVec Ideal S16x256x1024 .f32 :=
  addf x (mulf (broadcastInDim S16x256x1024 ![0, 1, 2] bcast_S1x1x1024_S16x256x1024_0_1_2 (broadcastInDim S1x1x1024 ![2] bcast_S1024_S1x1x1024_2 (extractStridedSlice S1024 ![5120] (shapeCast S6144 (extractStridedSlice S1x6144 ![16, 0] mod slices_S24x6144_S1x6144_16_0) shapeCasts_S1x6144_S6144) slices_S6144_S1024_5120))) (Host.dotGeneral dot_S16x256x2816_S2816x1024_S16x256x1024_2_0_01_1_n_n none a wDown))

/-- The plain program's result, from its six arguments. -/
def result (x : FVec Ideal S16x256x1024 .f32) (g : FVec Ideal S1024 .f32) (mod : FVec Ideal S24x6144 .f32)
    (wUp : FVec Ideal S1024x5632 .f32) (cw : FVec Ideal S3x2816 .f32) (wDown : FVec Ideal S2816x1024 .f32) : FVec Ideal S16x256x1024 .f32 :=
  let up := raised (modulated x g mod) wUp
  added x mod (activated (convolved (ended up) cw) up) wDown

theorem result_eq (m : (ℓ : Loc nD τ sig) → Buf (Elt Ideal) ℓ) (c : Dev nD) :
    Value.res_main_v59 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := by
  unfold Value.res_main_v59 result
  rfl

theorem modulated_at (x : FVec Ideal S16x256x1024 .f32) (g : FVec Ideal S1024 .f32) (mod : FVec Ideal S24x6144 .f32)
    (b : Fin 16) (s : Fin 256) (d : Fin 1024) :
    modulated x g mod (ix3 b s d) = modu (fun k => x (ix3 b s k)) (fun k => g (ix1 k))
      (fun k => mod (ix2 16 ⟨4096 + k.val, by omega⟩))
      (fun k => mod (ix2 16 ⟨3072 + k.val, by omega⟩)) d := by
  pointwise [modulated, modu, nrm]

theorem raised_at (h : FVec Ideal S16x256x1024 .f32) (w : FVec Ideal S1024x5632 .f32) (b : Fin 16) (s : Fin 256) (j : Fin 5632) :
    raised h w (ix3 b s j) = proj (fun k => h (ix3 b s k)) (fun d j => w (ix2 d j)) j := by
  pointwise [raised, proj]

theorem ended_at (up : FVec Ideal S16x256x5632 .f32) (b : Fin 16) (n : Fin 258) (j : Fin 2816) :
    ended up (ix3 b n j) = if h : 1 ≤ n.val ∧ n.val - 1 < 256 then up (ix3 b ⟨n.val - 1, h.2⟩ ⟨j.val, by omega⟩) else 0 := by
  pointwise [ended]
  have h0 : (FloatOps.sitofp (F := Ideal) .f32 (0#32) : EReal) = 0 := by
    show (((0#32 : BitVec 32).toInt : ℝ) : EReal) = 0
    simp
  rw [h0]

theorem convolved_at (e : FVec Ideal S16x258x2816 .f32) (cw : FVec Ideal S3x2816 .f32) (b : Fin 16) (s : Fin 256) (j : Fin 2816) :
    convolved e cw (ix3 b s j) = conv (e (ix3 b ⟨s.val, by omega⟩ j)) (e (ix3 b ⟨1 + s.val, by omega⟩ j)) (e (ix3 b ⟨2 + s.val, by omega⟩ j))
      (cw (ix2 0 j)) (cw (ix2 1 j)) (cw (ix2 2 j)) := by
  pointwise [convolved, conv]

theorem activated_at (v : FVec Ideal S16x256x2816 .f32) (up : FVec Ideal S16x256x5632 .f32) (b : Fin 16) (s : Fin 256) (j : Fin 2816) :
    activated v up (ix3 b s j) = gated (v (ix3 b s j)) (up (ix3 b s ⟨2816 + j.val, by omega⟩)) := by
  pointwise [activated, gated]
  rfl

theorem added_at (x : FVec Ideal S16x256x1024 .f32) (mod : FVec Ideal S24x6144 .f32) (a : FVec Ideal S16x256x2816 .f32)
    (w : FVec Ideal S2816x1024 .f32) (b : Fin 16) (s : Fin 256) (d : Fin 1024) :
    added x mod a w (ix3 b s d) = x (ix3 b s d)
      + mod (ix2 16 ⟨5120 + d.val, by omega⟩) * ∑ j : Fin 2816, a (ix3 b s j) * w (ix2 j d) := by
  pointwise [added]

end Cert.FfnCtx

end
-- ==== Proof.FfnCtx.Rows.lean ====
/-
The 288 rows of the context feed-forward kernel's first scratch buffer are the plain program's normalized rows,
with zero rows beyond the two ends of the sample.
-/
module

public import proofs.«01_k».proof.Proof.FfnCtx.Blocks
public import proofs.«01_k».proof.Proof.FfnCtx.Scratch
public import proofs.«01_k».proof.Proof.FfnCtx.Reference

@[expose] public section

set_option maxRecDepth 16384

noncomputable section

namespace Cert.FfnCtx

open Cert.Ffn (nrm modu proj conv gated)
open Cert.Kernel6Ideal Cert.Kernel6Ideal.Gen
open Idealize.ShloMosaic Idealize.ShloMosaic.TcCoe Idealize.SL.Sem

/-- The one block of a sample is its first. -/
theorem is_first : ∀ n : Fin 1, Scalar.cmpi .sgt (BitVec.ofNat 32 n.val) 0#32 = 0#1 := by decide

/-- The one block of a sample is its last. -/
theorem is_last : ∀ n : Fin 1, Scalar.cmpi .slt (BitVec.ofNat 32 n.val) 0#32 = 0#1 := by decide

/-- A zero row beyond both ends, the rows `f 0 … f 255` at the positions `1 … 256`. -/
def withEnds (f : Fin 256 → Fin 1024 → EReal) (n : ℕ) (d : Fin 1024) : EReal :=
  if h : 1 ≤ n ∧ n - 1 < 256 then f ⟨n - 1, h.2⟩ d else 0

/-- Below the end, the row is the sample's. -/
theorem withEnds_of (f : Fin 256 → Fin 1024 → EReal) (s : Fin 256) (n : ℕ) (h : n = s.val + 1) (d : Fin 1024) :
    withEnds f n d = f s d := by
  subst h
  have hs := s.isLt
  rw [withEnds, dif_pos ⟨by omega, by omega⟩]
  rfl

/-- Beyond either end, the row is zero. -/
theorem withEnds_zero (f : Fin 256 → Fin 1024 → EReal) (n : ℕ) (h : n = 0 ∨ 256 < n) (d : Fin 1024) :
    withEnds f n d = 0 := by
  rw [withEnds, dif_neg (by omega)]

/-- A projection of a zero row is zero. -/
theorem proj_withEnds {q : ℕ} (f : Fin 256 → Fin 1024 → EReal) (w : Fin 1024 → Fin q → EReal) (n : ℕ) (j : Fin q) :
    proj (withEnds f n) w j = if h : 1 ≤ n ∧ n - 1 < 256 then proj (f ⟨n - 1, h.2⟩) w j else 0 := by
  by_cases h : 1 ≤ n ∧ n - 1 < 256
  · rw [dif_pos h]
    exact Finset.sum_congr rfl fun d _ => by rw [withEnds, dif_pos h]
  · rw [dif_neg h]
    exact Finset.sum_eq_zero fun d _ => by rw [withEnds, dif_neg h, zero_mul]

/-- Row `r` of the buffer is the row at position `r - 15`. -/
theorem rows_at (i : grid0.Coords) (x : FVec Ideal S16x256x1024 .f32) (g : FVec Ideal S1024 .f32) (mod : FVec Ideal S24x6144 .f32)
    (b : Fin 16) (X : FVec Ideal S1x256x1024 .f32) (xp xn : FVec Ideal S1x16x1024 .f32) (gb : FVec Ideal S1x1024 .f32)
    (sh sc : FVec Ideal S1x1x1024 .f32)
    (hX : ∀ (r : Fin 256) (k : Fin 1024), X (ix3 0 r k) = x (ix3 b r k))
    (hg : ∀ k : Fin 1024, gb (ix2 0 k) = g (ix1 k))
    (hsh : ∀ k : Fin 1024, sh (ix3 0 0 k) = mod (ix2 16 ⟨3072 + k.val, by omega⟩))
    (hsc : ∀ k : Fin 1024, sc (ix3 0 0 k) = mod (ix2 16 ⟨4096 + k.val, by omega⟩))
    (r : Fin 288) (h15 : 15 ≤ r.val) (h272 : r.val ≤ 272) (d : Fin 1024) :
    rows (k0_pay6 i gb sh sc xp) (k0_pay7 (k0_pay2 gb) (k0_pay3 sh) (k0_pay4 sc) (k0_pay5 X))
        (k0_pay10 (Scalar.cmpi .slt (BitVec.ofNat 32 (i 1).val) 0#32) (k0_pay8 (k0_pay2 gb) (k0_pay3 sh) (k0_pay4 sc) xn) k0_pay9) (ix2 r d)
      = withEnds (fun s k => modulated x g mod (ix3 b s k)) (r.val - 15) d := by
  have hg' : (fun k => gb (ix2 0 k)) = fun k => g (ix1 k) := funext hg
  have hsh' : (fun k => sh (ix3 0 0 k)) = _ := funext hsh
  have hsc' : (fun k => sc (ix3 0 0 k)) = _ := funext hsc
  show (if h0 : r.val < 16 then _ else if h1 : r.val - 16 < 256 then _ else _) = _
  by_cases h0 : r.val < 16
  · rw [dif_pos h0]
    refine (before_at i gb sh sc xp ⟨r.val, h0⟩ d).trans ?_
    rw [show Scalar.cmpi .sgt (BitVec.ofNat 32 (i 1).val) 0#32 = _ from is_first (i 1), withEnds_zero _ _ (by omega)]
    rfl
  · rw [dif_neg h0]
    by_cases h1 : r.val - 16 < 256
    · rw [dif_pos h1]
      refine (own_at gb sh sc X ⟨r.val - 16, h1⟩ d).trans ?_
      rw [withEnds_of _ ⟨r.val - 16, h1⟩ _ (by show _ = r.val - 16 + 1; omega), modulated_at,
        hg', hsh', hsc', show (fun k => X (ix3 0 ⟨r.val - 16, h1⟩ k)) = _ from funext (hX ⟨r.val - 16, h1⟩)]
    · rw [dif_neg h1]
      refine (after_at _ gb sh sc xn ⟨r.val - 272, by omega⟩ d).trans ?_
      rw [show Scalar.cmpi .slt (BitVec.ofNat 32 (i 1).val) 0#32 = _ from is_last (i 1), withEnds_zero _ _ (by omega)]
      rfl

end Cert.FfnCtx

end
-- ==== Proof.FfnCtx.Core.lean ====
/-
One block of the context feed-forward kernel against the plain program: the two chunks of the hidden lanes add up
to the plain program's contraction over all hidden lanes.
-/
module

public import proofs.«01_k».proof.Proof.FfnCtx.Rows

@[expose] public section

set_option maxRecDepth 16384

noncomputable section

namespace Cert.FfnCtx

open Cert.Ffn (nrm modu proj conv gated)
open Cert.Kernel6Ideal Cert.Kernel6Ideal.Gen
open Idealize.ShloMosaic Idealize.ShloMosaic.TcCoe Idealize.SL.Sem

variable (x : FVec Ideal S16x256x1024 .f32) (g : FVec Ideal S1024 .f32) (mod : FVec Ideal S24x6144 .f32)
  (wUp : FVec Ideal S1024x5632 .f32) (cw : FVec Ideal S3x2816 .f32) (wDown : FVec Ideal S2816x1024 .f32)

/-- The convolution's input, as the plain program has it at position `n`, from the rows with ends. -/
theorem ended_eq (b : Fin 16) (n : Fin 258) (j : Fin 2816) :
    ended (raised (modulated x g mod) wUp) (ix3 b n j)
      = proj (withEnds (fun s k => modulated x g mod (ix3 b s k)) n.val) (fun d (j : Fin 2816) => wUp (ix2 d ⟨j.val, by omega⟩)) j := by
  rw [ended_at, proj_withEnds]
  by_cases h : 1 ≤ n.val ∧ n.val - 1 < 256
  · rw [dif_pos h, dif_pos h, raised_at]
    rfl
  · rw [dif_neg h, dif_neg h]

/-- The hidden value of the plain program at hidden lane `j`. -/
theorem hidden_eq (b : Fin 16) (s : Fin 256) (j : Fin 2816) :
    activated (convolved (ended (raised (modulated x g mod) wUp)) cw) (raised (modulated x g mod) wUp) (ix3 b s j)
      = gated (conv
          (proj (withEnds (fun s k => modulated x g mod (ix3 b s k)) s.val) (fun d (j : Fin 2816) => wUp (ix2 d ⟨j.val, by omega⟩)) j)
          (proj (withEnds (fun s k => modulated x g mod (ix3 b s k)) (1 + s.val)) (fun d (j : Fin 2816) => wUp (ix2 d ⟨j.val, by omega⟩)) j)
          (proj (withEnds (fun s k => modulated x g mod (ix3 b s k)) (2 + s.val)) (fun d (j : Fin 2816) => wUp (ix2 d ⟨j.val, by omega⟩)) j)
          (cw (ix2 0 j)) (cw (ix2 1 j)) (cw (ix2 2 j)))
        (proj (fun k => modulated x g mod (ix3 b s k)) (fun d (j : Fin 2816) => wUp (ix2 d ⟨2816 + j.val, by omega⟩)) j) := by
  rw [activated_at, convolved_at, ended_eq, ended_eq, ended_eq, raised_at]
  rfl

/-- The two chunks of a block add up to the contraction over all hidden lanes. -/
theorem hidden_sum (b : Fin 16) (H : FVec Ideal S288x1024 .bf16) (H1 : FVec Ideal S256x1024 .bf16)
    (wa0 wa1 wb0 wb1 : FVec Ideal S1x1024x1408 .bf16) (cw0 cw1 : FVec Ideal S1x3x1408 .f32)
    (wd0 wd1 : FVec Ideal S1x1408x1024 .bf16) (h15 : 15 ≤ 32) (h16 : 16 ≤ 32) (h17 : 17 ≤ 32)
    (hH : ∀ (r : Fin 288), 15 ≤ r.val → r.val ≤ 272 → ∀ d : Fin 1024,
      H (ix2 r d) = withEnds (fun s k => modulated x g mod (ix3 b s k)) (r.val - 15) d)
    (hH1 : ∀ (r : Fin 256) (d : Fin 1024), H1 (ix2 r d) = modulated x g mod (ix3 b r d))
    (hwa0 : ∀ (d : Fin 1024) (j : Fin 1408), wa0 (ix3 0 d j) = wUp (ix2 d ⟨j.val, by omega⟩))
    (hwa1 : ∀ (d : Fin 1024) (j : Fin 1408), wa1 (ix3 0 d j) = wUp (ix2 d ⟨1408 + j.val, by omega⟩))
    (hwb0 : ∀ (d : Fin 1024) (j : Fin 1408), wb0 (ix3 0 d j) = wUp (ix2 d ⟨2816 + j.val, by omega⟩))
    (hwb1 : ∀ (d : Fin 1024) (j : Fin 1408), wb1 (ix3 0 d j) = wUp (ix2 d ⟨2816 + (1408 + j.val), by omega⟩))
    (hcw0 : ∀ (k : Fin 3) (j : Fin 1408), cw0 (ix3 0 k j) = cw (ix2 k ⟨j.val, by omega⟩))
    (hcw1 : ∀ (k : Fin 3) (j : Fin 1408), cw1 (ix3 0 k j) = cw (ix2 k ⟨1408 + j.val, by omega⟩))
    (hwd0 : ∀ (j : Fin 1408) (d : Fin 1024), wd0 (ix3 0 j d) = wDown (ix2 ⟨j.val, by omega⟩ d))
    (hwd1 : ∀ (j : Fin 1408) (d : Fin 1024), wd1 (ix3 0 j d) = wDown (ix2 ⟨1408 + j.val, by omega⟩ d))
    (r : Fin 256) (d : Fin 1024) :
      (k0_pay15 (F := Ideal) k0_pay11 (k0_pay13 cw0 (shifted 15 h15 (k0_pay12 H wa0)) (shifted 16 h16 (k0_pay12 H wa0)) (shifted 17 h17 (k0_pay12 H wa0)))
          H1 (k0_pay14 wb0) (constant S256x1408 .f32 0x00000000#32) wd0) (ix2 r d)
        + ∑ j : Fin 1408, gated (k0_pay17 (F := Ideal) cw1 (shifted 15 h15 (k0_pay16 H wa1)) (shifted 16 h16 (k0_pay16 H wa1)) (shifted 17 h17 (k0_pay16 H wa1)) (ix2 r j))
            (proj (fun k => H1 (ix2 r k)) (fun d j => wb1 (ix3 0 d j)) j) * wd1 (ix3 0 j d)
      = ∑ j : Fin 2816, activated (convolved (ended (raised (modulated x g mod) wUp)) cw) (raised (modulated x g mod) wUp)
          (ix3 b r j) * wDown (ix2 j d) := by
  have hrow : ∀ (q o : ℕ) (ho : o = 15 + q ∧ q ≤ 2), (fun k => H (ix2 ⟨o + r.val, by omega⟩ k))
      = withEnds (fun s k => modulated x g mod (ix3 b s k)) (q + r.val) := fun q o ho => by
    funext k
    rw [hH ⟨o + r.val, by omega⟩ (by show 15 ≤ o + r.val; omega) (by show o + r.val ≤ 272; omega)]
    congr 1
    show o + r.val - 15 = _
    omega
  have hH1' : (fun k => H1 (ix2 r k)) = fun k => modulated x g mod (ix3 b r k) := funext (hH1 r)
  have up0 : ∀ (q o : ℕ) (ho : o ≤ 32) (ho' : o = 15 + q ∧ q ≤ 2) (j : Fin 1408), shifted o ho (k0_pay12 H wa0) (ix2 r j)
      = proj (withEnds (fun s k => modulated x g mod (ix3 b s k)) (q + r.val))
          (fun d (j : Fin 2816) => wUp (ix2 d ⟨j.val, by omega⟩)) ⟨j.val, by omega⟩ := fun q o ho ho' j => by
    refine (first_up_at H wa0 ⟨o + r.val, by omega⟩ j).trans ?_
    rw [hrow q o ho']
    exact Finset.sum_congr rfl fun d _ => congrArg (_ * ·) (hwa0 d j)
  have up1 : ∀ (q o : ℕ) (ho : o ≤ 32) (ho' : o = 15 + q ∧ q ≤ 2) (j : Fin 1408), shifted o ho (k0_pay16 H wa1) (ix2 r j)
      = proj (withEnds (fun s k => modulated x g mod (ix3 b s k)) (q + r.val))
          (fun d (j : Fin 2816) => wUp (ix2 d ⟨j.val, by omega⟩)) ⟨1408 + j.val, by omega⟩ := fun q o ho ho' j => by
    refine (second_up_at H wa1 ⟨o + r.val, by omega⟩ j).trans ?_
    rw [hrow q o ho']
    exact Finset.sum_congr rfl fun d _ => congrArg (_ * ·) (hwa1 d j)
  rw [first_part_at, Fin.sum_univ_two_halves 1408 1408 rfl]
  refine congrArg₂ (· + ·) (Finset.sum_congr rfl fun j _ => ?_) (Finset.sum_congr rfl fun j _ => ?_)
  · rw [first_conv_at, up0 0 15 h15 (by omega), up0 1 16 h16 (by omega), up0 2 17 h17 (by omega), Nat.zero_add, hH1', hidden_eq, hcw0, hcw0, hcw0, hwd0]
    refine congrArg (· * _) (congrArg (gated _) ?_)
    exact Finset.sum_congr rfl fun d _ => congrArg (_ * ·) (hwb0 d j)
  · rw [second_conv_at, up1 0 15 h15 (by omega), up1 1 16 h16 (by omega), up1 2 17 h17 (by omega), Nat.zero_add, hH1', hidden_eq, hcw1, hcw1, hcw1, hwd1]
    refine congrArg (· * _) (congrArg (gated _) ?_)
    exact Finset.sum_congr rfl fun d _ => congrArg (_ * ·) (hwb1 d j)

/-- A stored block of the kernel is the plain program's result there. -/
theorem block_eq (b : Fin 16) (H : FVec Ideal S288x1024 .bf16) (H1 : FVec Ideal S256x1024 .bf16)
    (X : FVec Ideal S1x256x1024 .f32) (wa0 wa1 wb0 wb1 : FVec Ideal S1x1024x1408 .bf16) (cw0 cw1 : FVec Ideal S1x3x1408 .f32)
    (wd0 wd1 : FVec Ideal S1x1408x1024 .bf16) (gt : FVec Ideal S1x1x1024 .f32)
    (h15 : 15 ≤ 32) (h16 : 16 ≤ 32) (h17 : 17 ≤ 32)
    (hX : ∀ (r : Fin 256) (k : Fin 1024), X (ix3 0 r k) = x (ix3 b r k))
    (hH : ∀ (r : Fin 288), 15 ≤ r.val → r.val ≤ 272 → ∀ d : Fin 1024,
      H (ix2 r d) = withEnds (fun s k => modulated x g mod (ix3 b s k)) (r.val - 15) d)
    (hH1 : ∀ (r : Fin 256) (d : Fin 1024), H1 (ix2 r d) = modulated x g mod (ix3 b r d))
    (hwa0 : ∀ (d : Fin 1024) (j : Fin 1408), wa0 (ix3 0 d j) = wUp (ix2 d ⟨j.val, by omega⟩))
    (hwa1 : ∀ (d : Fin 1024) (j : Fin 1408), wa1 (ix3 0 d j) = wUp (ix2 d ⟨1408 + j.val, by omega⟩))
    (hwb0 : ∀ (d : Fin 1024) (j : Fin 1408), wb0 (ix3 0 d j) = wUp (ix2 d ⟨2816 + j.val, by omega⟩))
    (hwb1 : ∀ (d : Fin 1024) (j : Fin 1408), wb1 (ix3 0 d j) = wUp (ix2 d ⟨2816 + (1408 + j.val), by omega⟩))
    (hcw0 : ∀ (k : Fin 3) (j : Fin 1408), cw0 (ix3 0 k j) = cw (ix2 k ⟨j.val, by omega⟩))
    (hcw1 : ∀ (k : Fin 3) (j : Fin 1408), cw1 (ix3 0 k j) = cw (ix2 k ⟨1408 + j.val, by omega⟩))
    (hwd0 : ∀ (j : Fin 1408) (d : Fin 1024), wd0 (ix3 0 j d) = wDown (ix2 ⟨j.val, by omega⟩ d))
    (hwd1 : ∀ (j : Fin 1408) (d : Fin 1024), wd1 (ix3 0 j d) = wDown (ix2 ⟨1408 + j.val, by omega⟩ d))
    (hgt : ∀ k : Fin 1024, gt (ix3 0 0 k) = mod (ix2 16 ⟨5120 + k.val, by omega⟩))
    (u : Fin 1) (r : Fin 256) (d : Fin 1024) :
    k0_pay1 (F := Ideal) (k0_pay5 X)
        (k0_pay15 k0_pay11 (k0_pay13 cw0 (shifted 15 h15 (k0_pay12 H wa0)) (shifted 16 h16 (k0_pay12 H wa0)) (shifted 17 h17 (k0_pay12 H wa0)))
          H1 (k0_pay14 wb0) (constant S256x1408 .f32 0x00000000#32) wd0)
        (k0_pay17 cw1 (shifted 15 h15 (k0_pay16 H wa1)) (shifted 16 h16 (k0_pay16 H wa1)) (shifted 17 h17 (k0_pay16 H wa1)))
        H1 wb1 wd1 gt (ix3 u r d)
      = result x g mod wUp cw wDown (ix3 b r d) := by
  rw [stored_at]
  show _ = added x mod _ wDown _
  rw [added_at, hX, hgt, hidden_sum x g mod wUp cw wDown b H H1 wa0 wa1 wb0 wb1 cw0 cw1 wd0 wd1 h15 h16 h17 hH hH1 hwa0 hwa1 hwb0 hwb1
    hcw0 hcw1 hwd0 hwd1 r d]

end Cert.FfnCtx

end
-- ==== Proof.FfnCtx.Value.lean ====
/-
The feed-forward part of the context tokens: the value of the array the pipelined kernel leaves behind.

Each of the 16 grid points handles the 256 context tokens of one sample.  It normalizes them, puts 16 zero
rows on either side, projects them in two chunks of 1408 hidden lanes, convolves over three tokens, gates,
projects back, and adds the residual.
-/
module

public import proofs.«01_k».proof.Defs
public import proofs.«01_k».proof.Proof.FfnCtx.Core
public import proofs.«01_k».proof.Proof.Ffn.Value
public import proofs.«01_k».proof.Proof.Gen.Kernel6Ideal.Value
public import Idealize.ShloMosaic.Lib.Pipeline.ValueKit
public import Idealize.ShloMosaic.Lib.Claim

@[expose] public section

set_option maxRecDepth 16384

noncomputable section

namespace Cert.Kernel6Ideal.Hand

open Cert.Kernel6Ideal Cert.Kernel6Ideal.Gen Cert.Kernel6Ideal.Value
open Idealize.ShloMosaic Idealize.ShloMosaic.TcCoe Idealize.SL.Sem
open Idealize.ShloMosaic.Pipeline (Dat)

variable (m : (ℓ : Loc nD τ sig) → Buf (Elt Ideal) ℓ)

/-- Where each grid point's blocks lie: one sample each, and the context's row of the modulation. -/
theorem idx : ∀ t : Fin cfg0.N,
    win0_0.index t = ![((grid0.coords t) 0).val, 0, 0]
    ∧ win0_3.index t = ![0, 0]
    ∧ win0_4.index t = ![16, 0, 3]
    ∧ win0_5.index t = ![16, 0, 4]
    ∧ win0_6.index t = ![16, 0, 5]
    ∧ win0_7.index t = ![0, 0, 0]
    ∧ win0_8.index t = ![0, 0, 0]
    ∧ win0_9.index t = ![0, 0, 0]
    ∧ win0_10.index t = ![0, 0, 0]
    ∧ win0_11.index t = ![((grid0.coords t) 0).val, 0, 0] :=
  (by decide +kernel : ∀ t : Fin grid0.N, _)

section Reads

variable (c : Dev nD) (t : Fin cfg0.N)

theorem read_x (b : Fin 16) (hb : ((grid0.coords t) 0).val = b.val) (r : Fin 256) (k : Fin 1024) :
    (show FVec Ideal S1x256x1024 .f32 from iblk m c 0 t) (ix3 0 r k)
      = (show FVec Ideal S16x256x1024 .f32 from m ((c : Thread nD τ).loc main_arg0)) (ix3 b r k) := by
  blk_ext [iblk, V, idx t]

theorem read_g (k : Fin 1024) :
    (show FVec Ideal S1x1024 .f32 from iblk m c 3 t) (ix2 0 k)
      = (show FVec Ideal S1024 .f32 from m ((c : Thread nD τ).loc main_arg1)) (ix1 k) := by
  blk_point [iblk, V, idx t]

theorem read_shift (k : Fin 1024) :
    (show FVec Ideal S1x1x1024 .f32 from iblk m c 4 t) (ix3 0 0 k)
      = (show FVec Ideal S24x6144 .f32 from m ((c : Thread nD τ).loc main_arg2)) (ix2 16 ⟨3072 + k.val, by omega⟩) := by
  blk_point [iblk, V, idx t]

theorem read_scale (k : Fin 1024) :
    (show FVec Ideal S1x1x1024 .f32 from iblk m c 5 t) (ix3 0 0 k)
      = (show FVec Ideal S24x6144 .f32 from m ((c : Thread nD τ).loc main_arg2)) (ix2 16 ⟨4096 + k.val, by omega⟩) := by
  blk_point [iblk, V, idx t]

theorem read_gate (k : Fin 1024) :
    (show FVec Ideal S1x1x1024 .f32 from iblk m c 6 t) (ix3 0 0 k)
      = (show FVec Ideal S24x6144 .f32 from m ((c : Thread nD τ).loc main_arg2)) (ix2 16 ⟨5120 + k.val, by omega⟩) := by
  blk_point [iblk, V, idx t]

theorem read_wa (q : Fin 2) (d : Fin 1024) (j : Fin 1408) :
    (show FVec Ideal S2x1024x1408 .bf16 from iblk m c 7 t) (ix3 q d j)
      = (show FVec Ideal S1024x5632 .f32 from m ((c : Thread nD τ).loc main_arg3)) (ix2 d ⟨1408 * q.val + j.val, by omega⟩) := by
  blk_point [iblk, V, idx t]

theorem read_wb (q : Fin 2) (d : Fin 1024) (j : Fin 1408) :
    (show FVec Ideal S2x1024x1408 .bf16 from iblk m c 8 t) (ix3 q d j)
      = (show FVec Ideal S1024x5632 .f32 from m ((c : Thread nD τ).loc main_arg3)) (ix2 d ⟨2816 + (1408 * q.val + j.val), by omega⟩) := by
  blk_point [iblk, V, idx t]

theorem read_cw (q : Fin 2) (k : Fin 3) (j : Fin 1408) :
    (show FVec Ideal S2x3x1408 .f32 from iblk m c 9 t) (ix3 q k j)
      = (show FVec Ideal S3x2816 .f32 from m ((c : Thread nD τ).loc main_arg4)) (ix2 k ⟨1408 * q.val + j.val, by omega⟩) := by
  blk_point [iblk, V, idx t]

theorem read_wd (q : Fin 2) (j : Fin 1408) (d : Fin 1024) :
    (show FVec Ideal S2x1408x1024 .bf16 from iblk m c 10 t) (ix3 q j d)
      = (show FVec Ideal S2816x1024 .f32 from m ((c : Thread nD τ).loc main_arg5)) (ix2 ⟨1408 * q.val + j.val, by omega⟩ d) := by
  blk_point [iblk, V, idx t]

theorem chunk_wa0 (d : Fin 1024) (j : Fin 1408) :
    View.ld (Val := Elt Ideal) (S := S2x1024x1408) (e' := .bf16) (iblk m c 7 t) (Rect.unit ![0, 0, 0] ![1, 1024, 1408] inb_S2x1024x1408_S1x1024x1408_0_0_0) (ix3 0 d j)
      = (show FVec Ideal S1024x5632 .f32 from m ((c : Thread nD τ).loc main_arg3)) (ix2 d ⟨j.val, by omega⟩) := by
  refine (Cert.Kernel2Ideal.Hand.chunk_up_0 _ d j).trans ((read_wa m c t 0 d j).trans (congrArg _ ?_))
  funext k; fin_cases k <;> apply Fin.ext <;> simp

theorem chunk_wa1 (d : Fin 1024) (j : Fin 1408) :
    View.ld (Val := Elt Ideal) (S := S2x1024x1408) (e' := .bf16) (iblk m c 7 t) (Rect.unit ![1, 0, 0] ![1, 1024, 1408] inb_S2x1024x1408_S1x1024x1408_1_0_0) (ix3 0 d j)
      = (show FVec Ideal S1024x5632 .f32 from m ((c : Thread nD τ).loc main_arg3)) (ix2 d ⟨1408 + j.val, by omega⟩) := by
  refine (Cert.Kernel2Ideal.Hand.chunk_up_1 _ d j).trans ((read_wa m c t 1 d j).trans (congrArg _ ?_))
  funext k; fin_cases k <;> apply Fin.ext <;> simp

theorem chunk_wb0 (d : Fin 1024) (j : Fin 1408) :
    View.ld (Val := Elt Ideal) (S := S2x1024x1408) (e' := .bf16) (iblk m c 8 t) (Rect.unit ![0, 0, 0] ![1, 1024, 1408] inb_S2x1024x1408_S1x1024x1408_0_0_0) (ix3 0 d j)
      = (show FVec Ideal S1024x5632 .f32 from m ((c : Thread nD τ).loc main_arg3)) (ix2 d ⟨2816 + j.val, by omega⟩) := by
  refine (Cert.Kernel2Ideal.Hand.chunk_up_0 _ d j).trans ((read_wb m c t 0 d j).trans (congrArg _ ?_))
  funext k; fin_cases k <;> apply Fin.ext <;> simp

theorem chunk_wb1 (d : Fin 1024) (j : Fin 1408) :
    View.ld (Val := Elt Ideal) (S := S2x1024x1408) (e' := .bf16) (iblk m c 8 t) (Rect.unit ![1, 0, 0] ![1, 1024, 1408] inb_S2x1024x1408_S1x1024x1408_1_0_0) (ix3 0 d j)
      = (show FVec Ideal S1024x5632 .f32 from m ((c : Thread nD τ).loc main_arg3)) (ix2 d ⟨2816 + (1408 + j.val), by omega⟩) := by
  refine (Cert.Kernel2Ideal.Hand.chunk_up_1 _ d j).trans ((read_wb m c t 1 d j).trans (congrArg _ ?_))
  funext k; fin_cases k <;> apply Fin.ext <;> simp

theorem chunk_cw0 (d : Fin 3) (j : Fin 1408) :
    View.ld (Val := Elt Ideal) (S := S2x3x1408) (e' := .f32) (iblk m c 9 t) (Rect.unit ![0, 0, 0] ![1, 3, 1408] inb_S2x3x1408_S1x3x1408_0_0_0) (ix3 0 d j)
      = (show FVec Ideal S3x2816 .f32 from m ((c : Thread nD τ).loc main_arg4)) (ix2 d ⟨j.val, by omega⟩) := by
  refine (Cert.Kernel2Ideal.Hand.chunk_cw_0 _ d j).trans ((read_cw m c t 0 d j).trans (congrArg _ ?_))
  funext k; fin_cases k <;> apply Fin.ext <;> simp

theorem chunk_cw1 (d : Fin 3) (j : Fin 1408) :
    View.ld (Val := Elt Ideal) (S := S2x3x1408) (e' := .f32) (iblk m c 9 t) (Rect.unit ![1, 0, 0] ![1, 3, 1408] inb_S2x3x1408_S1x3x1408_1_0_0) (ix3 0 d j)
      = (show FVec Ideal S3x2816 .f32 from m ((c : Thread nD τ).loc main_arg4)) (ix2 d ⟨1408 + j.val, by omega⟩) := by
  refine (Cert.Kernel2Ideal.Hand.chunk_cw_1 _ d j).trans ((read_cw m c t 1 d j).trans (congrArg _ ?_))
  funext k; fin_cases k <;> apply Fin.ext <;> simp

theorem chunk_wd0 (d : Fin 1408) (j : Fin 1024) :
    View.ld (Val := Elt Ideal) (S := S2x1408x1024) (e' := .bf16) (iblk m c 10 t) (Rect.unit ![0, 0, 0] ![1, 1408, 1024] inb_S2x1408x1024_S1x1408x1024_0_0_0) (ix3 0 d j)
      = (show FVec Ideal S2816x1024 .f32 from m ((c : Thread nD τ).loc main_arg5)) (ix2 ⟨d.val, by omega⟩ j) := by
  refine (Cert.Kernel2Ideal.Hand.chunk_dn_0 _ d j).trans ((read_wd m c t 0 d j).trans (congrArg _ ?_))
  funext k; fin_cases k <;> apply Fin.ext <;> simp

theorem chunk_wd1 (d : Fin 1408) (j : Fin 1024) :
    View.ld (Val := Elt Ideal) (S := S2x1408x1024) (e' := .bf16) (iblk m c 10 t) (Rect.unit ![1, 0, 0] ![1, 1408, 1024] inb_S2x1408x1024_S1x1408x1024_1_0_0) (ix3 0 d j)
      = (show FVec Ideal S2816x1024 .f32 from m ((c : Thread nD τ).loc main_arg5)) (ix2 ⟨1408 + d.val, by omega⟩ j) := by
  refine (Cert.Kernel2Ideal.Hand.chunk_dn_1 _ d j).trans ((read_wd m c t 1 d j).trans (congrArg _ ?_))
  funext k; fin_cases k <;> apply Fin.ext <;> simp

end Reads

/-- The final array is the plain program's result. -/
theorem final (c : Dev nD) :
    (dats m 0 c).arrAt 11 cfg0.N = Cert.FfnCtx.result (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  refine (dats m 0 c).arrAt_eq_of_covers 11 _ (by decide +kernel) fun t _ y => ?_
  blk_simp
  rw [after0_11]
  unfold outsAt0
  frame_out
  rw [Cert.FfnCtx.read_own]
  rw [Cert.FfnCtx.read_rows]
  rw [Cert.FfnCtx.read_shift_15, Cert.FfnCtx.read_shift_16, Cert.FfnCtx.read_shift_17]
  rw [Cert.FfnCtx.read_shift_15, Cert.FfnCtx.read_shift_16, Cert.FfnCtx.read_shift_17]
  obtain ⟨u, r, d, hy⟩ : ∃ (u : Fin 1) (r : Fin 256) (d : Fin 1024), y = ix3 u r d := ⟨y 0, y 1, y 2, by funext k; fin_cases k <;> rfl⟩
  subst hy
  obtain ⟨b, hb⟩ : ∃ b : Fin 16, ((grid0.coords t) 0).val = b.val := ⟨(grid0.coords t) 0, rfl⟩
  refine (Cert.FfnCtx.block_eq (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) b _ _ _ _ _ _ _ _ _ _ _ _
      _ _ _ (read_x m c t b hb) ?_ ?_ ?_ ?_ ?_ ?_ ?_ ?_ ?_ ?_ (read_gate m c t) u r d).trans ?_
  · exact fun r h15 h272 d => Cert.FfnCtx.rows_at (grid0.coords t) _ _ _ b _ _ _ _ _ _ (read_x m c t b hb) (read_g m c t) (read_shift m c t) (read_scale m c t) r h15 h272 d
  · intro r d
    rw [Cert.FfnCtx.own_at, Cert.FfnCtx.modulated_at]
    rw [funext (read_x m c t b hb r), funext (read_g m c t), funext (read_shift m c t), funext (read_scale m c t)]
  · exact fun d j => chunk_wa0 m c t d j
  · exact fun d j => chunk_wa1 m c t d j
  · exact fun d j => chunk_wb0 m c t d j
  · exact fun d j => chunk_wb1 m c t d j
  · exact fun d j => chunk_cw0 m c t d j
  · exact fun d j => chunk_cw1 m c t d j
  · exact fun d j => chunk_wd0 m c t d j
  · exact fun d j => chunk_wd1 m c t d j
  · refine congrArg (Cert.FfnCtx.result _ _ _ _ _ _) ?_
    blk_ext [idx t]

end Cert.Kernel6Ideal.Hand

end
-- ==== Proof.FfnCtx.Claim.lean ====
/-
The feed-forward part of the context tokens: both programs, run from agreeing arguments, end with the same result.
-/
module

public import proofs.«01_k».proof.Defs
public import proofs.«01_k».proof.Proof.FfnCtx.Value
public import proofs.«01_k».proof.Proof.Gen.Reference6Ideal.Run

@[expose] public section

noncomputable section

namespace Cert.Proof

open Idealize.ShloMosaic Idealize.SL.Sem

theorem ffn_ctx_equal : Cert.algebraic_Kernel6Ideal_Reference6Ideal := by
  pair_intro
  · run_from Cert.Kernel6Ideal.Gen.run_main m g
  · run_from Cert.Reference6Ideal.Value.run m' g'
    obtain ⟨h0, h1, h2, h3, h4, h5⟩ := hagree c
    have h := Cert.Kernel6Ideal.Hand.final m c
    rw [← h0, ← h1, ← h2, ← h3, ← h4, ← h5] at h
    rw [h]
    exact Cert.FfnCtx.result_eq m' c

end Cert.Proof

end
-- ==== Proof.InpCtx.Reference.lean ====
/-
The plain input projection of the context tokens, cut into its steps, and read at one index.
-/
module

public import proofs.«01_k».proof.Proof.Ffn.Spec
public import proofs.«01_k».proof.Proof.Gen.Reference7Ideal.Run
public import Idealize.ShloMosaic.Lib.Claim

@[expose] public section

set_option maxRecDepth 16384

noncomputable section

namespace Cert.InpCtx

open Cert.Reference7Ideal Cert.Reference7Ideal.Gen
open Idealize.ShloMosaic Idealize.ShloMosaic.TcCoe Idealize.SL.Sem

/-- The normalized input, scaled and shifted by the context's parameters. -/
def modulated (x : FVec Ideal S16x256x1024 .f32) (g : FVec Ideal S1024 .f32) (mod : FVec Ideal S24x6144 .f32) : FVec Ideal S16x256x1024 .f32 :=
  addf (mulf (mulf (mulf x (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf x x) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 g))) (broadcastInDim S16x256x1024 ![0, 1, 2] bcast_S1x1x1024_S16x256x1024_0_1_2 (broadcastInDim S1x1x1024 ![2] bcast_S1024_S1x1x1024_2 (addf (broadcastInDim S1024 ![] bcast_S_S1024 (constant S_ .f32 0x3F800000#32)) (extractStridedSlice S1024 ![1024] (shapeCast S6144 (extractStridedSlice S1x6144 ![16, 0] mod slices_S24x6144_S1x6144_16_0) shapeCasts_S1x6144_S6144) slices_S6144_S1024_1024))))) (broadcastInDim S16x256x1024 ![0, 1, 2] bcast_S1x1x1024_S16x256x1024_0_1_2 (broadcastInDim S1x1x1024 ![2] bcast_S1024_S1x1x1024_2 (extractStridedSlice S1024 ![0] (shapeCast S6144 (extractStridedSlice S1x6144 ![16, 0] mod slices_S24x6144_S1x6144_16_0) shapeCasts_S1x6144_S6144) slices_S6144_S1024_0)))

/-- The two projections side by side. -/
def joined (h : FVec Ideal S16x256x1024 .f32) (w : FVec Ideal S1024x2304 .f32) : FVec Ideal S16x256x2304 .bf16 :=
  truncf .bf16 (concatenate S16x256x2304 2 [⟨S16x256x1792, (Host.dotGeneral dot_S16x256x1024_S1024x1792_S16x256x1792_2_0_01_1_n_n none h (extractStridedSlice S1024x1792 ![0, 0] w slices_S1024x2304_S1024x1792_0_0))⟩, ⟨S16x256x512, (Host.dotGeneral dot_S16x256x1024_S1024x512_S16x256x512_2_0_01_1_n_n none h (extractStridedSlice S1024x512 ![0, 1792] w slices_S1024x2304_S1024x512_0_1792))⟩] concatenates_S16x256x1792_S16x256x512_S16x256x2304_d2) bitsLt_bf16_f32

/-- The plain program's result, from its four arguments. -/
def result (x : FVec Ideal S16x256x1024 .f32) (g : FVec Ideal S1024 .f32) (mod : FVec Ideal S24x6144 .f32)
    (w : FVec Ideal S1024x2304 .f32) : FVec Ideal S16x256x2304 .bf16 :=
  joined (modulated x g mod) w

theorem modulated_at (x : FVec Ideal S16x256x1024 .f32) (g : FVec Ideal S1024 .f32) (mod : FVec Ideal S24x6144 .f32)
    (b : Fin 16) (s : Fin 256) (d : Fin 1024) :
    modulated x g mod (ix3 b s d) = Cert.Ffn.modu (fun k => x (ix3 b s k)) (fun k => g (ix1 k))
      (fun k => mod (ix2 16 ⟨1024 + k.val, by omega⟩)) (fun k => mod (ix2 16 ⟨k.val, by omega⟩)) d := by
  pointwise [modulated, Cert.Ffn.modu, Cert.Ffn.nrm]

theorem joined_at (h : FVec Ideal S16x256x1024 .f32) (w : FVec Ideal S1024x2304 .f32) (b : Fin 16) (s : Fin 256) (l : Fin 2304) :
    joined h w (ix3 b s l) = Cert.Ffn.proj (fun k => h (ix3 b s k)) (fun d l => w (ix2 d l)) l := by
  pointwise [joined, Cert.Ffn.proj]
  split
  · rfl
  · refine Finset.sum_congr rfl fun d _ => ?_
    refine congrArg (fun k => h (ix3 b s d) * w (ix2 d k)) (Fin.ext ?_)
    show 1792 + (l.val - 1792) = l.val
    omega

/-- One lane of the result. -/
theorem result_at (x : FVec Ideal S16x256x1024 .f32) (g : FVec Ideal S1024 .f32) (mod : FVec Ideal S24x6144 .f32)
    (w : FVec Ideal S1024x2304 .f32) (b : Fin 16) (s : Fin 256) (l : Fin 2304) :
    result x g mod w (ix3 b s l) = Cert.Ffn.proj (Cert.Ffn.modu (fun k => x (ix3 b s k)) (fun k => g (ix1 k))
      (fun k => mod (ix2 16 ⟨1024 + k.val, by omega⟩)) (fun k => mod (ix2 16 ⟨k.val, by omega⟩))) (fun d l => w (ix2 d l)) l := by
  refine (joined_at _ w b s l).trans ?_
  rw [funext (modulated_at x g mod b s)]

end Cert.InpCtx

end
-- ==== Proof.InpCtx.Value.lean ====
/-
The input projection of the context tokens: the value of the array the pipelined kernel leaves behind.

Each of the 16 grid points normalizes the 256 context tokens of one sample, scales and shifts them by the
context's own row of the modulation, projects them, and writes the 2304 lanes in four parts.
-/
module

public import proofs.«01_k».proof.Defs
public import proofs.«01_k».proof.Proof.InpCtx.Reference
public import proofs.«01_k».proof.Proof.Gen.Kernel7Ideal.Value
public import Idealize.ShloMosaic.Lib.Pipeline.ValueKit
public import Idealize.ShloMosaic.Lib.Claim

@[expose] public section

set_option maxRecDepth 16384

noncomputable section

namespace Cert.InpCtx

open Cert.Kernel7Ideal Cert.Kernel7Ideal.Gen
open Idealize.ShloMosaic Idealize.ShloMosaic.TcCoe Idealize.SL.Sem

section Pieces

variable (X : FVec Ideal S1x256x1024 .f32) (G : FVec Ideal S1x1024 .f32) (SC SH : FVec Ideal S1x1x1024 .f32)
  (W : FVec Ideal S1024x2304 .bf16)

/-- The projected row of a token, from the block's rows. -/
theorem rows_at (r : Fin 256) (l : Fin 2304) :
    k0_pay4 (F := Ideal) X G SC SH W (ix2 r l)
      = Cert.Ffn.proj (Cert.Ffn.modu (fun k => X (ix3 0 r k)) (fun k => G (ix2 0 k)) (fun k => SC (ix3 0 0 k)) (fun k => SH (ix3 0 0 k)))
          (fun d l => W (ix2 d l)) l := by
  pointwise [k0_pay4, Cert.Ffn.proj, Cert.Ffn.modu, Cert.Ffn.nrm]

/-- The first lanes the block writes. -/
theorem first_at (u : Fin 1) (r : Fin 256) (l : Fin 1536) :
    k0_pay5 (F := Ideal) X G SC SH W (ix3 u r l) = k0_pay4 (F := Ideal) X G SC SH W (ix2 r ⟨l.val, by omega⟩) := by
  unfold k0_pay5
  generalize k0_pay4 (F := Ideal) X G SC SH W = z
  pointwise

/-- The next 256 lanes. -/
theorem second_at (u : Fin 1) (r : Fin 256) (l : Fin 256) :
    k0_pay1 (F := Ideal) (k0_pay6 X G SC SH W) (ix3 u r l) = k0_pay4 (F := Ideal) X G SC SH W (ix2 r ⟨1536 + l.val, by omega⟩) := by
  unfold k0_pay6
  generalize k0_pay4 (F := Ideal) X G SC SH W = z
  pointwise [k0_pay1]

/-- The 256 lanes after those. -/
theorem third_at (u : Fin 1) (r : Fin 256) (l : Fin 256) :
    k0_pay2 (F := Ideal) (k0_pay4 (F := Ideal) X G SC SH W) (ix3 u r l) = k0_pay4 (F := Ideal) X G SC SH W (ix2 r ⟨1792 + l.val, by omega⟩) := by
  generalize k0_pay4 (F := Ideal) X G SC SH W = z
  pointwise [k0_pay2]

/-- The last 256 lanes. -/
theorem last_at (u : Fin 1) (r : Fin 256) (l : Fin 256) :
    k0_pay3 (F := Ideal) (k0_pay4 (F := Ideal) X G SC SH W) (ix3 u r l) = k0_pay4 (F := Ideal) X G SC SH W (ix2 r ⟨2048 + l.val, by omega⟩) := by
  generalize k0_pay4 (F := Ideal) X G SC SH W = z
  pointwise [k0_pay3]

end Pieces

end Cert.InpCtx

namespace Cert.Kernel7Ideal.Hand

open Cert.Kernel7Ideal Cert.Kernel7Ideal.Gen Cert.Kernel7Ideal.Value
open Idealize.ShloMosaic Idealize.ShloMosaic.TcCoe Idealize.SL.Sem
open Idealize.ShloMosaic.Pipeline (Dat)

variable (m : (ℓ : Loc nD τ sig) → Buf (Elt Ideal) ℓ)

/-- Where each grid point's blocks lie: one sample each, and the context's row of the modulation. -/
theorem idx : ∀ t : Fin cfg0.N,
    win0_0.index t = ![((grid0.coords t) 1).val, 0, 0]
    ∧ win0_1.index t = ![0, 0]
    ∧ win0_2.index t = ![16, 0, 0]
    ∧ win0_3.index t = ![16, 0, 1]
    ∧ win0_4.index t = ![0, 0]
    ∧ win0_5.index t = ![((grid0.coords t) 1).val, 0, 0] :=
  (by decide +kernel : ∀ t : Fin grid0.N, _)

section Reads

variable (c : Dev nD) (t : Fin cfg0.N)

theorem read_x (b : Fin 16) (hb : ((grid0.coords t) 1).val = b.val) (r : Fin 256) (k : Fin 1024) :
    (show FVec Ideal S1x256x1024 .f32 from iblk m c 0 t) (ix3 0 r k)
      = (show FVec Ideal S16x256x1024 .f32 from m ((c : Thread nD τ).loc main_arg0)) (ix3 b r k) := by
  blk_ext [iblk, V, idx t]

theorem read_g (k : Fin 1024) :
    (show FVec Ideal S1x1024 .f32 from iblk m c 1 t) (ix2 0 k)
      = (show FVec Ideal S1024 .f32 from m ((c : Thread nD τ).loc main_arg1)) (ix1 k) := by
  blk_point [iblk, V, idx t]

theorem read_shift (k : Fin 1024) :
    (show FVec Ideal S1x1x1024 .f32 from iblk m c 2 t) (ix3 0 0 k)
      = (show FVec Ideal S24x6144 .f32 from m ((c : Thread nD τ).loc main_arg2)) (ix2 16 ⟨k.val, by omega⟩) := by
  blk_point [iblk, V, idx t]

theorem read_scale (k : Fin 1024) :
    (show FVec Ideal S1x1x1024 .f32 from iblk m c 3 t) (ix3 0 0 k)
      = (show FVec Ideal S24x6144 .f32 from m ((c : Thread nD τ).loc main_arg2)) (ix2 16 ⟨1024 + k.val, by omega⟩) := by
  blk_point [iblk, V, idx t]

theorem read_w (d : Fin 1024) (l : Fin 2304) :
    (show FVec Ideal S1024x2304 .bf16 from iblk m c 4 t) (ix2 d l)
      = (show FVec Ideal S1024x2304 .f32 from m ((c : Thread nD τ).loc main_arg3)) (ix2 d l) := by
  blk_point [iblk, V, idx t]

/-- The block's projected rows are the plain program's result. -/
theorem row_eq (b : Fin 16) (hb : ((grid0.coords t) 1).val = b.val) (r : Fin 256) (l : Fin 2304) :
    k0_pay4 (F := Ideal) (iblk m c 0 t) (iblk m c 1 t) (iblk m c 3 t) (iblk m c 2 t) (iblk m c 4 t) (ix2 r l)
      = Cert.InpCtx.result (m ((c : Thread nD τ).loc main_arg0)) (m ((c : Thread nD τ).loc main_arg1)) (m ((c : Thread nD τ).loc main_arg2)) (m ((c : Thread nD τ).loc main_arg3)) (ix3 b r l) := by
  refine Eq.trans ?_ (Cert.InpCtx.result_at _ _ _ _ b r l).symm
  refine (Cert.InpCtx.rows_at _ _ _ _ _ r l).trans ?_
  rw [funext (read_x m c t b hb r), funext (read_g m c t), funext (read_scale m c t), funext (read_shift m c t),
    funext fun d => funext (read_w m c t d)]

end Reads

set_option maxHeartbeats 1600000 in
/-- The final array is the plain program's result. -/
theorem final (c : Dev nD) :
    (dats m 0 c).arrAt 5 cfg0.N = Cert.InpCtx.result (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  obtain ⟨b, hb⟩ : ∃ b : Fin 16, ((grid0.coords t) 1).val = b.val := ⟨(grid0.coords t) 1, rfl⟩
  blk_simp
  rw [after0_5]
  unfold outsAt0
  frame_out
  canon_tiles z h using View.cover_of_tiledBy (s := S1x256x2304) _ ![1, 256, 256] (by sl_kernel_rfl) _
  case piece0 =>
    obtain ⟨u, r, l, hz⟩ : ∃ (u : Fin 1) (r : Fin 256) (l : Fin 256), z = ix3 u r l := ⟨z 0, z 1, z 2, by funext k; fin_cases k <;> rfl⟩
    subst hz
    have e1 : (y 1).val = r.val := h1
    have e2 : (y 2).val = 2048 + l.val := h2
    refine ((Cert.InpCtx.last_at _ _ _ _ _ u r l).trans (row_eq m c t b hb r _)).trans (congrArg (Cert.InpCtx.result _ _ _ _) ?_)
    blk_ext [idx t]
  case piece1 =>
    obtain ⟨u, r, l, hz⟩ : ∃ (u : Fin 1) (r : Fin 256) (l : Fin 256), z = ix3 u r l := ⟨z 0, z 1, z 2, by funext k; fin_cases k <;> rfl⟩
    subst hz
    have e1 : (y 1).val = r.val := h1
    have e2 : (y 2).val = 1792 + l.val := h2
    refine ((Cert.InpCtx.third_at _ _ _ _ _ u r l).trans (row_eq m c t b hb r _)).trans (congrArg (Cert.InpCtx.result _ _ _ _) ?_)
    blk_ext [idx t]
  case piece2 =>
    obtain ⟨u, r, l, hz⟩ : ∃ (u : Fin 1) (r : Fin 256) (l : Fin 256), z = ix3 u r l := ⟨z 0, z 1, z 2, by funext k; fin_cases k <;> rfl⟩
    subst hz
    have e1 : (y 1).val = r.val := h1
    have e2 : (y 2).val = 1536 + l.val := h2
    refine ((Cert.InpCtx.second_at _ _ _ _ _ u r l).trans (row_eq m c t b hb r _)).trans (congrArg (Cert.InpCtx.result _ _ _ _) ?_)
    blk_ext [idx t]
  case piece3 =>
    obtain ⟨u, r, l, hz⟩ : ∃ (u : Fin 1) (r : Fin 256) (l : Fin 1536), z = ix3 u r l := ⟨z 0, z 1, z 2, by funext k; fin_cases k <;> rfl⟩
    subst hz
    have e1 : (y 1).val = r.val := h1
    have e2 : (y 2).val = l.val := h2
    refine ((Cert.InpCtx.first_at _ _ _ _ _ u r l).trans (row_eq m c t b hb r _)).trans (congrArg (Cert.InpCtx.result _ _ _ _) ?_)
    blk_ext [idx t]

end Cert.Kernel7Ideal.Hand

end
-- ==== Proof.InpCtx.Claim.lean ====
/-
The input projection of the context tokens: both programs, run from agreeing arguments, end with the same result.
-/
module

public import proofs.«01_k».proof.Defs
public import proofs.«01_k».proof.Proof.InpCtx.Value
public import proofs.«01_k».proof.Proof.Gen.Reference7Ideal.Run

@[expose] public section

noncomputable section

namespace Cert.Proof

open Idealize.ShloMosaic Idealize.SL.Sem

theorem in_proj_ctx_equal : Cert.algebraic_Kernel7Ideal_Reference7Ideal := by
  pair_intro
  · run_from Cert.Kernel7Ideal.Gen.run_main m g
  · run_from Cert.Reference7Ideal.Value.run m' g'
    obtain ⟨h0, h1, h2, h3⟩ := hagree c
    have h := Cert.Kernel7Ideal.Hand.final m c
    rw [← h3] at h
    exact h.symm

end Cert.Proof

end
-- ==== Proof.OutCtx.Value.lean ====
/-
The output projection of the context tokens: the value of the array the pipelined kernel leaves behind.

Each of the 16 grid points handles the 256 context tokens of one sample.  All samples share the context's
own row of the modulation.
-/
module

public import proofs.«01_k».proof.Defs
public import proofs.«01_k».proof.Proof.Gen.Kernel8Ideal.Value
public import proofs.«01_k».proof.Proof.Gen.Reference8Ideal.Run
public import Idealize.ShloMosaic.Lib.Pipeline.ValueKit
public import Idealize.ShloMosaic.Lib.Claim

@[expose] public section

set_option maxRecDepth 16384

noncomputable section

namespace Cert.OutCtx

section Plain

open Cert.Reference8Ideal Cert.Reference8Ideal.Gen
open Idealize.ShloMosaic Idealize.ShloMosaic.TcCoe Idealize.SL.Sem

/-- The plain program's result, from its five arguments. -/
def result (x : FVec Ideal S16x256x1024 .f32) (mabc : FVec Ideal S16x256x768 .bf16) (md : FVec Ideal S16x256x256 .bf16)
    (w : FVec Ideal S1024x1024 .f32) (mod : FVec Ideal S24x6144 .f32) : FVec Ideal S16x256x1024 .f32 :=
  addf x (mulf (broadcastInDim S16x256x1024 ![0, 1, 2] bcast_S1x1x1024_S16x256x1024_0_1_2 (broadcastInDim S1x1x1024 ![2] bcast_S1024_S1x1x1024_2 (extractStridedSlice S1024 ![2048] (shapeCast S6144 (extractStridedSlice S1x6144 ![16, 0] mod slices_S24x6144_S1x6144_16_0) shapeCasts_S1x6144_S6144) slices_S6144_S1024_2048))) (Host.dotGeneral dot_S16x256x1024_S1024x1024_S16x256x1024_2_0_01_1_n_n none (extf .f32 (concatenate S16x256x1024 2 [⟨S16x256x768, mabc⟩, ⟨S16x256x256, md⟩] concatenates_S16x256x768_S16x256x256_S16x256x1024_d2) bitsLt_bf16_f32) w))

end Plain

end Cert.OutCtx

namespace Cert.Kernel8Ideal.Hand

open Cert.Kernel8Ideal Cert.Kernel8Ideal.Gen Cert.Kernel8Ideal.Value
open Idealize.ShloMosaic Idealize.ShloMosaic.TcCoe Idealize.SL.Sem
open Idealize.ShloMosaic.Pipeline (Dat)

variable (m : (ℓ : Loc nD τ sig) → Buf (Elt Ideal) ℓ)

/-- Where each grid point's blocks lie: one sample each, and the context's row of the modulation. -/
theorem idx : ∀ t : Fin cfg0.N,
    win0_0.index t = ![((grid0.coords t) 1).val, 0, 0]
    ∧ win0_1.index t = ![((grid0.coords t) 1).val, 0, 0]
    ∧ win0_2.index t = ![((grid0.coords t) 1).val, 0, 0]
    ∧ win0_3.index t = ![0, 0]
    ∧ win0_4.index t = ![16, 0, 2]
    ∧ win0_5.index t = ![((grid0.coords t) 1).val, 0, 0] :=
  (by decide +kernel : ∀ t : Fin grid0.N, _)

/-- The final array is the plain program's result. -/
theorem final (c : Dev nD) :
    (dats m 0 c).arrAt 5 cfg0.N = Cert.OutCtx.result (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  frame_out
  pointwise [k0_pay1, Cert.OutCtx.result]
  blk_point [iblk, V, idx t]

end Cert.Kernel8Ideal.Hand

end
-- ==== Proof.OutCtx.Claim.lean ====
/-
The output projection of the context tokens: both programs, run from agreeing arguments, end with the same result.
-/
module

public import proofs.«01_k».proof.Defs
public import proofs.«01_k».proof.Proof.OutCtx.Value
public import proofs.«01_k».proof.Proof.Gen.Reference8Ideal.Run

@[expose] public section

noncomputable section

namespace Cert.Proof

open Idealize.ShloMosaic Idealize.SL.Sem

theorem out_proj_ctx_equal : Cert.algebraic_Kernel8Ideal_Reference8Ideal := by
  pair_intro
  · run_from Cert.Kernel8Ideal.Gen.run_main m g
  · run_from Cert.Reference8Ideal.Value.run m' g'
    obtain ⟨h0, h1, h2, h3, h4⟩ := hagree c
    have h := Cert.Kernel8Ideal.Hand.final m c
    rw [← h1, ← h2] at h
    exact h.symm

end Cert.Proof

end
-- ==== Proof.Ada.Value.lean ====
/-
The modulation of both layers: the value of the array the pipelined kernel leaves behind.

Each of the 12 grid points handles 1024 of one layer's 6144 lanes for all 24 rows at once.
-/
module

public import proofs.«01_k».proof.Defs
public import proofs.«01_k».proof.Proof.Gen.Kernel9Ideal.Value
public import proofs.«01_k».proof.Proof.Gen.Reference9Ideal.Run
public import Idealize.ShloMosaic.Lib.Pipeline.ValueKit
public import Idealize.ShloMosaic.Lib.Claim

@[expose] public section

set_option maxRecDepth 16384

noncomputable section

namespace Cert.Ada

open Cert.Reference9Ideal Cert.Reference9Ideal.Gen
open Idealize.ShloMosaic Idealize.ShloMosaic.TcCoe Idealize.SL.Sem

/-- The plain program's result, from its three arguments. -/
def result (cc : FVec Ideal S24x1024 .f32) (w : FVec Ideal S2x1024x6144 .f32) (b : FVec Ideal S2x6144 .f32) : FVec Ideal S2x24x6144 .f32 :=
  concatenate S2x24x6144 0 [⟨S1x24x6144, (broadcastInDim S1x24x6144 ![1, 2] bcast_S24x6144_S1x24x6144_1_2 (addf (Host.dotGeneral dot_S24x1024_S1024x6144_S24x6144_1_0_0_1_n_n none (mulf cc (Host.divf (broadcastInDim S24x1024 ![] bcast_S_S24x1024 (constant S_ .f32 0x3F800000#32)) (addf (broadcastInDim S24x1024 ![] bcast_S_S24x1024 (constant S_ .f32 0x3F800000#32)) (Host.exp (Host.negf cc))))) (shapeCast S1024x6144 (extractStridedSlice S1x1024x6144 ![0, 0, 0] w slices_S2x1024x6144_S1x1024x6144_0_0_0) shapeCasts_S1x1024x6144_S1024x6144)) (broadcastInDim S24x6144 ![0, 1] bcast_S1x6144_S24x6144_0_1 (broadcastInDim S1x6144 ![1] bcast_S6144_S1x6144_1 (shapeCast S6144 (extractStridedSlice S1x6144 ![0, 0] b slices_S2x6144_S1x6144_0_0) shapeCasts_S1x6144_S6144)))))⟩, ⟨S1x24x6144, (broadcastInDim S1x24x6144 ![1, 2] bcast_S24x6144_S1x24x6144_1_2 (addf (Host.dotGeneral dot_S24x1024_S1024x6144_S24x6144_1_0_0_1_n_n none (mulf cc (Host.divf (broadcastInDim S24x1024 ![] bcast_S_S24x1024 (constant S_ .f32 0x3F800000#32)) (addf (broadcastInDim S24x1024 ![] bcast_S_S24x1024 (constant S_ .f32 0x3F800000#32)) (Host.exp (Host.negf cc))))) (shapeCast S1024x6144 (extractStridedSlice S1x1024x6144 ![1, 0, 0] w slices_S2x1024x6144_S1x1024x6144_1_0_0) shapeCasts_S1x1024x6144_S1024x6144)) (broadcastInDim S24x6144 ![0, 1] bcast_S1x6144_S24x6144_0_1 (broadcastInDim S1x6144 ![1] bcast_S6144_S1x6144_1 (shapeCast S6144 (extractStridedSlice S1x6144 ![1, 0] b slices_S2x6144_S1x6144_1_0) shapeCasts_S1x6144_S6144)))))⟩] concatenates_S1x24x6144_S1x24x6144_S2x24x6144_d0

/-- One lane of one layer's row. -/
theorem result_at (cc : FVec Ideal S24x1024 .f32) (w : FVec Ideal S2x1024x6144 .f32) (b : FVec Ideal S2x6144 .f32)
    (l : Fin 2) (i : Fin 24) (j : Fin 6144) :
    result cc w b (ix3 l i j) = (∑ d : Fin 1024, cc (ix2 i d) * Ideal.logistic (cc (ix2 i d)) * w (ix3 l d j)) + b (ix2 l j) := by
  match l with
  | ⟨0, _⟩ => pointwise [result]; rfl
  | ⟨1, _⟩ => pointwise [result]; rfl

end Cert.Ada

namespace Cert.Kernel9Ideal.Hand

open Cert.Kernel9Ideal Cert.Kernel9Ideal.Gen Cert.Kernel9Ideal.Value
open Idealize.ShloMosaic Idealize.ShloMosaic.TcCoe Idealize.SL.Sem
open Idealize.ShloMosaic.Pipeline (Dat)

variable (m : (ℓ : Loc nD τ sig) → Buf (Elt Ideal) ℓ)

/-- Where each grid point's blocks lie: layers by the first coordinate, lanes by the second. -/
theorem idx : ∀ t : Fin cfg0.N,
    win0_0.index t = ![0, 0]
    ∧ win0_1.index t = ![((grid0.coords t) 0).val, 0, ((grid0.coords t) 1).val]
    ∧ win0_2.index t = ![((grid0.coords t) 0).val, 0, ((grid0.coords t) 1).val]
    ∧ win0_3.index t = ![((grid0.coords t) 0).val, 0, ((grid0.coords t) 1).val] :=
  (by decide +kernel : ∀ t : Fin grid0.N, _)

/-- The final array is the plain program's result. -/
theorem final (c : Dev nD) :
    (dats m 0 c).arrAt 3 cfg0.N = Cert.Ada.result (m ((c : Thread nD τ).loc main_arg0)) (m ((c : Thread nD τ).loc main_arg1))
      (m ((c : Thread nD τ).loc main_arg2)) := by
  refine (dats m 0 c).arrAt_eq_of_covers 3 _ (by decide +kernel) fun t _ y => ?_
  have h0 : ((grid0.coords t) 0).val < 2 := ((grid0.coords t) 0).isLt
  have h1 : ((grid0.coords t) 1).val < 6 := ((grid0.coords t) 1).isLt
  obtain ⟨u, i, j, hy⟩ : ∃ (u : Fin 1) (i : Fin 24) (j : Fin 1024), y = ix3 u i j := ⟨y 0, y 1, y 2, by funext k; fin_cases k <;> rfl⟩
  subst hy
  blk_simp
  rw [after0_3]
  frame_out
  refine Eq.trans ?_ ((Cert.Ada.result_at _ _ _ ⟨((grid0.coords t) 0).val, h0⟩ i ⟨1024 * ((grid0.coords t) 1).val + j.val, by omega⟩).symm.trans
    (congrArg (Cert.Ada.result _ _ _) ?_))
  · pointwise [k0_pay1]
    blk_point [iblk, V, idx t]
  · blk_ext [idx t]

end Cert.Kernel9Ideal.Hand

end
-- ==== Proof.Ada.Claim.lean ====
/-
The modulation of both layers: both programs, run from agreeing arguments, end with the same result.
-/
module

public import proofs.«01_k».proof.Defs
public import proofs.«01_k».proof.Proof.Ada.Value
public import proofs.«01_k».proof.Proof.Gen.Reference9Ideal.Run

@[expose] public section

noncomputable section

namespace Cert.Proof

open Idealize.ShloMosaic Idealize.SL.Sem

theorem adaln_equal : Cert.algebraic_Kernel9Ideal_Reference9Ideal := by
  pair_intro
  · run_from Cert.Kernel9Ideal.Gen.run_main m g
  · run_from Cert.Reference9Ideal.Value.run m' g'
    obtain ⟨h0, h1, h2⟩ := hagree c
    have h := Cert.Kernel9Ideal.Hand.final m c
    rw [← h2] at h
    exact h.symm

end Cert.Proof

end
-- ==== Proof.lean ====
/-
The proof of every claim: each program ends and leaves its semaphores at zero, each idealized program is what its
source becomes, and the calls with a value claim leave the plain program's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Pre_finite
public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Plain
public import proofs.«01_k».proof.Proof.Out.Claim
public import proofs.«01_k».proof.Proof.Ffn.Claim
public import proofs.«01_k».proof.Proof.Inp.Claim
public import proofs.«01_k».proof.Proof.Att.Claim
public import proofs.«01_k».proof.Proof.FfnOne.Claim
public import proofs.«01_k».proof.Proof.FfnCtx.Claim
public import proofs.«01_k».proof.Proof.InpCtx.Claim
public import proofs.«01_k».proof.Proof.OutCtx.Claim
public import proofs.«01_k».proof.Proof.Ada.Claim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Pre_finite.Gen.facts,
  fun m g _ => Cert.Kernel.Gen.frame m g, fun m g _ => Cert.KernelIdeal.Gen.frame m g, fun m g _ => Cert.KernelIdeal.Gen.frame m g, plain_attention,
  fun m g _ => plain_attention m g trivial,
  fun m g _ => Cert.Kernel2.Gen.frame m g, fun m g _ => Cert.Kernel2Ideal.Gen.frame m g, plain_ffn,
  fun m g _ => Cert.Kernel3.Gen.frame m g, fun m g _ => Cert.Kernel3Ideal.Gen.frame m g, plain_in_proj,
  fun m g _ => Cert.Kernel4.Gen.frame m g, fun m g _ => Cert.Kernel4Ideal.Gen.frame m g, plain_out_proj,
  fun m g _ => Cert.Kernel5.Gen.frame m g, fun m g _ => Cert.Kernel5Ideal.Gen.frame m g, plain_ffn_one,
  fun m g _ => Cert.Kernel6.Gen.frame m g, fun m g _ => Cert.Kernel6Ideal.Gen.frame m g, plain_ffn_ctx,
  fun m g _ => Cert.Kernel7.Gen.frame m g, fun m g _ => Cert.Kernel7Ideal.Gen.frame m g, plain_in_proj_ctx,
  fun m g _ => Cert.Kernel8.Gen.frame m g, fun m g _ => Cert.Kernel8Ideal.Gen.frame m g, plain_out_proj_ctx,
  fun m g _ => Cert.Kernel9.Gen.frame m g, fun m g _ => Cert.Kernel9Ideal.Gen.frame m g, plain_adaln,
  trivial, attention_equal, trivial, ffn_equal, trivial, in_proj_equal, trivial, out_proj_equal, trivial, ffn_one_equal, trivial, ffn_ctx_equal, trivial, in_proj_ctx_equal, trivial, out_proj_ctx_equal, trivial, adaln_equal⟩

end Cert.Proof

end
